-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v54) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16896x2560 : Shape := ⟨2, ![16896, 2560]⟩
abbrev S1 : Shape := ⟨1, ![1]⟩
abbrev S4x64 : Shape := ⟨2, ![4, 64]⟩
abbrev S1x128 : Shape := ⟨2, ![1, 128]⟩
abbrev S16896x1536 : Shape := ⟨2, ![16896, 1536]⟩
abbrev S_ : Shape := ⟨0, ![]⟩

class Facts : Prop where
  slices_S16896x2560_S16896x1536_0_0 : S16896x2560.Slices ![0, 0] S16896x1536
  bitsLt_bf16_f32 : FTy.bits .bf16 < FTy.bits .f32
  bcast_S_S16896x1536 : S_.BroadcastsInDim S16896x1536 (![] : Fin 0 → Fin S16896x1536.rank)
  reducesTo_S16896x1536_S_d0_1 : S16896x1536.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S16896x2560 .bf16) (main_arg1 : IVec S1 32) (main_arg2 : FVec F S4x64 .f32) (main_arg3 : FVec F S1x128 .f32) : IVec S_ 1 :=
  let main_v0 : FVec F S16896x1536 .bf16 := (extractStridedSlice S16896x1536 ![0, 0] · slices_S16896x2560_S16896x1536_0_0) main_arg0
  let main_v1 : FVec F S16896x1536 .f32 := (extf .f32 · bitsLt_bf16_f32) main_v0
  let main_v2 : FVec F S16896x1536 .f32 := Host.absf main_v1
  let main_cst : FVec F S_ .f32 := constant S_ .f32 0x7F800000#32
  let main_v3 : FVec F S16896x1536 .f32 := broadcastInDim S16896x1536 ![] bcast_S_S16896x1536 main_cst
  let main_v4 : IVec S16896x1536 1 := cmpf .olt main_v2 main_v3
  let main_c : IVec S_ 1 := constantI S_ 1 1#1
  let main_v5 : IVec S_ 1 := (fun x v => Host.reduce IntOp.andi x v reducesTo_S16896x1536_S_d0_1 h_S_) main_v4 main_c
  let main_v6 : FVec F S4x64 .f32 := Host.absf main_arg2
  let main_cst_0 : FVec F S_ .f32 := constant S_ .f32 0x7F800000#32
  let main_v7 : FVec F S4x64 .f32 := broadcastInDim S4x64 ![] bcast_S_S4x64 main_cst_0
  let main_v8 : IVec S4x64 1 := cmpf .olt main_v6 main_v7
  let main_c_1 : IVec S_ 1 := constantI S_ 1 1#1
  let main_v9 : IVec S_ 1 := (fun x v => Host.reduce IntOp.andi x v reducesTo_S4x64_S_d0_1 h_S_) main_v8 main_c_1
  let main_v10 : IVec S_ 1 := andi main_v5 main_v9
  main_v10
-- ==== Pre_finite3.lean ====
abbrev S16896x4096 : Shape := ⟨2, ![16896, 4096]⟩
abbrev S1 : Shape := ⟨1, ![1]⟩
abbrev S16896x2048 : Shape := ⟨2, ![16896, 2048]⟩
abbrev S_ : Shape := ⟨0, ![]⟩

class Facts : Prop where
  slices_S16896x4096_S16896x2048_0_0 : S16896x4096.Slices ![0, 0] S16896x2048
  bitsLt_bf16_f32 : FTy.bits .bf16 < FTy.bits .f32
  bcast_S_S16896x2048 : S_.BroadcastsInDim S16896x2048 (![] : Fin 0 → Fin S16896x2048.rank)
  reducesTo_S16896x2048_S_d0_1 : S16896x2048.ReducesTo [0, 1] S_
  h_S_ : 0 < S_.numel

variable [Facts]

def fn {F : FTy → Type} [FloatOps F] (main_arg0 : FVec F S16896x4096 .bf16) (main_arg1 : IVec S1 32) : IVec S_ 1 :=
  let main_v0 : FVec F S16896x2048 .bf16 := (extractStridedSlice S16896x2048 ![0, 0] · slices_S16896x4096_S16896x2048_0_0) main_arg0
  let main_v1 : FVec F S16896x2048 .f32 := (extf .f32 · bitsLt_bf16_f32) main_v0
  let main_v2 : FVec F S16896x2048 .f32 := Host.absf main_v1
  let main_cst : FVec F S_ .f32 := constant S_ .f32 0x7F800000#32
  let main_v3 : FVec F S16896x2048 .f32 := broadcastInDim S16896x2048 ![] bcast_S_S16896x2048 main_cst
  let main_v4 : IVec S16896x2048 1 := cmpf .olt main_v2 main_v3
  let main_c : IVec S_ 1 := constantI S_ 1 1#1
  let main_v5 : IVec S_ 1 := (fun x v => Host.reduce IntOp.andi x v reducesTo_S16896x2048_S_d0_1 h_S_) main_v4 main_c
  main_v5
-- ==== Kernel.lean ====
abbrev S16896x2560 : Shape := ⟨2, ![16896, 2560]⟩
abbrev S1 : Shape := ⟨1, ![1]⟩
abbrev S4x64 : Shape := ⟨2, ![4, 64]⟩
abbrev S1x128 : Shape := ⟨2, ![1, 128]⟩
abbrev S16384x512 : Shape := ⟨2, ![16384, 512]⟩
abbrev S1024x128 : Shape := ⟨2, ![1024, 128]⟩
abbrev S8192x128 : Shape := ⟨2, ![8192, 128]⟩
abbrev S256x128 : Shape := ⟨2, ![256, 128]⟩
abbrev S4x128x2048 : Shape := ⟨3, ![4, 128, 2048]⟩
abbrev S128x256 : Shape := ⟨2, ![128, 256]⟩
abbrev S2048x128 : Shape := ⟨2, ![2048, 128]⟩
abbrev S128x2048 : Shape := ⟨2, ![128, 2048]⟩
abbrev S1x128x2048 : Shape := ⟨3, ![1, 128, 2048]⟩
abbrev S128x1024 : Shape := ⟨2, ![128, 1024]⟩
abbrev S1x1024 : Shape := ⟨2, ![1, 1024]⟩
abbrev S2048x1024 : Shape := ⟨2, ![2048, 1024]⟩
abbrev S1024 : Shape := ⟨1, ![1024]⟩
abbrev S256x1024 : Shape := ⟨2, ![256, 1024]⟩
abbrev S1x64 : Shape := ⟨2, ![1, 64]⟩
abbrev S1x1 : Shape := ⟨2, ![1, 1]⟩
abbrev S1024x1 : Shape := ⟨2, ![1024, 1]⟩
abbrev S512x128 : Shape := ⟨2, ![512, 128]⟩
abbrev S1024x512 : Shape := ⟨2, ![1024, 512]⟩
abbrev S1024x256 : Shape := ⟨2, ![1024, 256]⟩

abbrev nBuf : Space → Nat
  | .hbm => 5
  | .vmem => 16
  | .smem => 1
  | _ => 0

abbrev bufTy : (tb : Table) → Fin (tcTables nBuf tb) → BufTy
  | .hbm, ⟨0, _⟩ => ⟨S16896x2560, .bf16⟩
  | .hbm, ⟨1, _⟩ => ⟨S1, .i32⟩
  | .hbm, ⟨2, _⟩ => ⟨S4x64, .f32⟩
  | .hbm, ⟨3, _⟩ => ⟨S1x128, .f32⟩
  | .hbm, ⟨4, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S4x64, .f32⟩
  | .local _ .vmem, ⟨11, _⟩ => ⟨S1x128, .f32⟩
  | .local _ .vmem, ⟨12, _⟩ => ⟨S1024x128, .bf16⟩
  | .local _ .vmem, ⟨13, _⟩ => ⟨S1024x128, .bf16⟩
  | .local _ .vmem, ⟨14, _⟩ => ⟨S4x128x2048, .bf16⟩
  | .local _ .vmem, ⟨15, _⟩ => ⟨S128x256, .bf16⟩
  | .local _ .smem, ⟨0, _⟩ => ⟨S1, .i32⟩
  | _, _ => ⟨S16896x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![2, 4, 8], ![false, false, false]⟩

@[reducible] def k0_t1_loop : Scf.Loop 32 :=
  let c0_i32_9 : BitVec 32 := 0#32
  let c16_i32 : BitVec 32 := 16#32
  let v24 : BitVec 32 := Scalar.addi c0_i32_9 c16_i32
  let c1_i32_10 : BitVec 32 := 1#32
  ⟨c0_i32_9, v24, c1_i32_10⟩
def k0_mult1 (k0_t1 : Fin k0_t1_loop.trips) : BitVec 32 :=
  let c0_i32_9 : BitVec 32 := 0#32
  let c1_i32_10 : BitVec 32 := 1#32
  let arg14 : BitVec 32 := Scf.iv c0_i32_9 c1_i32_10 k0_t1
  let c512_i32 : BitVec 32 := 512#32
  let v104 : BitVec 32 := Scalar.muli arg14 c512_i32
  v104
def k0_off1 (k0_t1 : Fin k0_t1_loop.trips) : Fin 2 → Nat :=
  let c0_i32_9 : BitVec 32 := 0#32
  let c1_i32_10 : BitVec 32 := 1#32
  let arg14 : BitVec 32 := Scf.iv c0_i32_9 c1_i32_10 k0_t1
  let c512_i32 : BitVec 32 := 512#32
  let v104 : BitVec 32 := Scalar.muli arg14 c512_i32
  let v105 : BitVec 32 := v104
  let v106 : Index := Scalar.indexCast v105
  let c0_37 : Index := 0#32
  ![v106.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c4_i32 : BitVec 32 := 4#32
  let v1 : BitVec 32 := Scalar.addi c4_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c8_i32 : BitVec 32 := 8#32
  let v1 : BitVec 32 := Scalar.addi c8_i32 arg1
  let c0_i32 : BitVec 32 := 0#32
  ![v0.toNat, v1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16896x2560 : Shape := ⟨2, ![16896, 2560]⟩
abbrev S1 : Shape := ⟨1, ![1]⟩
abbrev S4x64 : Shape := ⟨2, ![4, 64]⟩
abbrev S1x128 : Shape := ⟨2, ![1, 128]⟩
abbrev S16384x2560 : Shape := ⟨2, ![16384, 2560]⟩
abbrev S2x8192x2560 : Shape := ⟨3, ![2, 8192, 2560]⟩
abbrev S512x2560 : Shape := ⟨2, ![512, 2560]⟩
abbrev S2x256x2560 : Shape := ⟨3, ![2, 256, 2560]⟩
abbrev S2x8448x2560 : Shape := ⟨3, ![2, 8448, 2560]⟩
abbrev S2x8192x512 : Shape := ⟨3, ![2, 8192, 512]⟩
abbrev S2x8192x4x2x64 : Shape := ⟨5, ![2, 8192, 4, 2, 64]⟩
abbrev S2x8448x512 : Shape := ⟨3, ![2, 8448, 512]⟩
abbrev S2x8448x4x2x64 : Shape := ⟨5, ![2, 8448, 4, 2, 64]⟩
abbrev S2x8448x4x128 : Shape := ⟨4, ![2, 8448, 4, 128]⟩
abbrev S1x64 : Shape := ⟨2, ![1, 64]⟩
abbrev S64 : Shape := ⟨1, ![64]⟩
abbrev S_ : Shape := ⟨0, ![]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x1x4x8192x8448 : Shape := ⟨5, ![2, 1, 4, 8192, 8448]⟩
abbrev S2x4x8192x8448 : Shape := ⟨4, ![2, 4, 8192, 8448]⟩
abbrev S2x4x128x8192 : Shape := ⟨4, ![2, 4, 128, 8192]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩
abbrev S16384x512 : Shape := ⟨2, ![16384, 512]⟩

abbrev nBuf : Space → Nat
  | .hbm => 86
  | .vmem => 0
  | .smem => 0
  | _ => 0

abbrev bufTy : (tb : Table) → Fin (tcTables nBuf tb) → BufTy
  | .hbm, ⟨0, _⟩ => ⟨S16896x2560, .bf16⟩
  | .hbm, ⟨1, _⟩ => ⟨S1, .i32⟩
  | .hbm, ⟨2, _⟩ => ⟨S4x64, .f32⟩
  | .hbm, ⟨3, _⟩ => ⟨S1x128, .f32⟩
  | .hbm, ⟨4, _⟩ => ⟨S16896x2560, .f32⟩
  | .hbm, ⟨5, _⟩ => ⟨S16384x2560, .f32⟩
  | .hbm, ⟨6, _⟩ => ⟨S2x8192x2560, .f32⟩
  | .hbm, ⟨7, _⟩ => ⟨S512x2560, .f32⟩
  | .hbm, ⟨8, _⟩ => ⟨S2x256x2560, .f32⟩
  | .hbm, ⟨9, _⟩ => ⟨S2x8448x2560, .f32⟩
  | .hbm, ⟨10, _⟩ => ⟨S2x8192x512, .f32⟩
  | .hbm, ⟨11, _⟩ => ⟨S2x8192x4x2x64, .f32⟩
  | .hbm, ⟨12, _⟩ => ⟨S2x8448x512, .f32⟩
  | .hbm, ⟨13, _⟩ => ⟨S2x8448x4x2x64, .f32⟩
  | .hbm, ⟨14, _⟩ => ⟨S2x8448x512, .f32⟩
  | .hbm, ⟨15, _⟩ => ⟨S2x8448x4x128, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1x64, .f32⟩
  | .hbm, ⟨25, _⟩ => ⟨S64, .f32⟩
  | .hbm, ⟨26, _⟩ => ⟨S1x64, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x2x4x8192x8448, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x2x4x8192x8448, .f32⟩
  | .hbm, ⟨40, _⟩ => ⟨S2x2x4x8192x8448, .f32⟩
  | .hbm, ⟨41, _⟩ => ⟨S_, .f32⟩
  | .hbm, ⟨42, _⟩ => ⟨S2x2x4x8192, .f32⟩
  | .hbm, ⟨43, _⟩ => ⟨S_, .f32⟩
  | .hbm, ⟨44, _⟩ => ⟨S2x2x4x8192, .f32⟩
  | .hbm, ⟨45, _⟩ => ⟨S2x2x4x8192, .f32⟩
  | .hbm, ⟨46, _⟩ => ⟨S2x2x4x8192x1, .f32⟩
  | .hbm, ⟨47, _⟩ => ⟨S2x2x4x8192x8448, .f32⟩
  | .hbm, ⟨48, _⟩ => ⟨S2x2x4x8192x8448, .f32⟩
  | .hbm, ⟨49, _⟩ => ⟨S2x2x4x8192x8448, .f32⟩
  | .hbm, ⟨50, _⟩ => ⟨S_, .f32⟩
  | .hbm, ⟨51, _⟩ => ⟨S2x2x4x8192, .f32⟩
  | .hbm, ⟨52, _⟩ => ⟨S2x2x4x8192x1, .f32⟩
  | .hbm, ⟨53, _⟩ => ⟨S2x2x4x8192x8448, .f32⟩
  | .hbm, ⟨54, _⟩ => ⟨S2x2x4x8192x8448, .f32⟩
  | .hbm, ⟨55, _⟩ => ⟨S2x1x4x8192x8448, .f32⟩
  | .hbm, ⟨56, _⟩ => ⟨S2x4x8192x8448, .f32⟩
  | .hbm, ⟨57, _⟩ => ⟨S2x1x4x8192x8448, .f32⟩
  | .hbm, ⟨58, _⟩ => ⟨S2x4x8192x8448, .f32⟩
  | .hbm, ⟨59, _⟩ => ⟨S2x4x8192x8448, .f32⟩
  | .hbm, ⟨60, _⟩ => ⟨S2x4x8192x8448, .f32⟩
  | .hbm, ⟨61, _⟩ => ⟨S2x4x8192x8448, .f32⟩
  | .hbm, ⟨62, _⟩ => ⟨S2x4x128x8192, .f32⟩
  | .hbm, ⟨63, _⟩ => ⟨S2x8192x4x128, .f32⟩
  | .hbm, ⟨64, _⟩ => ⟨S2x8192x4x128, .f32⟩
  | .hbm, ⟨65, _⟩ => ⟨S_, .f32⟩
  | .hbm, ⟨66, _⟩ => ⟨S2x8192x4, .f32⟩
  | .hbm, ⟨67, _⟩ => ⟨S2x8192x4x1, .f32⟩
  | .hbm, ⟨68, _⟩ => ⟨S_, .f32⟩
  | .hbm, ⟨69, _⟩ => ⟨S2x8192x4x1, .f32⟩
  | .hbm, ⟨70, _⟩ => ⟨S2x8192x4x1, .f32⟩
  | .hbm, ⟨71, _⟩ => ⟨S_, .f32⟩
  | .hbm, ⟨72, _⟩ => ⟨S2x8192x4x1, .f32⟩
  | .hbm, ⟨73, _⟩ => ⟨S2x8192x4x1, .f32⟩
  | .hbm, ⟨74, _⟩ => ⟨S2x8192x4x1, .f32⟩
  | .hbm, ⟨75, _⟩ => ⟨S2x8192x4x128, .f32⟩
  | .hbm, ⟨76, _⟩ => ⟨S2x8192x4x128, .f32⟩
  | .hbm, ⟨77, _⟩ => ⟨S128, .f32⟩
  | .hbm, ⟨78, _⟩ => ⟨S1x1x1x128, .f32⟩
  | .hbm, ⟨79, _⟩ => ⟨S2x8192x4x128, .f32⟩
  | .hbm, ⟨80, _⟩ => ⟨S2x8192x4x128, .f32⟩
  | .hbm, ⟨81, _⟩ => ⟨S_, .f32⟩
  | .hbm, ⟨82, _⟩ => ⟨S2x8192x4x128, .f32⟩
  | .hbm, ⟨83, _⟩ => ⟨S2x8192x4x128, .f32⟩
  | .hbm, ⟨84, _⟩ => ⟨S16384x512, .f32⟩
  | .hbm, ⟨85, _⟩ => ⟨S16384x512, .bf16⟩
  | _, _ => ⟨S16896x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_9 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S512x512 : Shape := ⟨2, ![512, 512]⟩
abbrev S1x1024x1024 : Shape := ⟨3, ![1, 1024, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .bf16⟩
  | .hbm, ⟨4, _⟩ => ⟨S4x8x6144, .f32⟩
  | .hbm, ⟨5, _⟩ => ⟨S1x1024, .f32⟩
  | .hbm, ⟨6, _⟩ => ⟨S4x1024x4096, .bf16⟩
  | .hbm, ⟨7, _⟩ => ⟨S4x4096x1024, .bf16⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1x1024x1024, .bf16⟩
  | .local _ .vmem, ⟨7, _⟩ => ⟨S1x8x1024, .f32⟩
  | .local _ .vmem, ⟨8, _⟩ => ⟨S1x1024, .f32⟩
  | .local _ .vmem, ⟨9, _⟩ => ⟨S1x8x1024, .f32⟩
  | .local _ .vmem, ⟨10, _⟩ => ⟨S1x8x1024, .f32⟩
  | .local _ .vmem, ⟨11, _⟩ => ⟨S1x8x1024, .f32⟩
  | .local _ .vmem, ⟨12, _⟩ => ⟨S1x1024x4096, .bf16⟩
  | .local _ .vmem, ⟨13, _⟩ => ⟨S1x4096x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let c0_15 : Index := 0#32
  let arg0 : BitVec 32 := BitVec.ofNat 32 (i 0).val
  let c0_i32 : BitVec 32 := 0#32
  let v11 : BitVec 1 := Scalar.cmpi .sgt arg0 c0_i32
  let v12 : BitVec 32 := Scalar.extui v11
  let c0_i32_11 : BitVec 32 := 0#32
  let v13 : BitVec 1 := Scalar.cmpi .slt arg0 c0_i32_11
  let v14 : BitVec 32 := Scalar.extui v13
  let v15 : BitVec 32 := Scalar.subi v12 v14
  let c16_i32 : BitVec 32 := 16#32
  let c0_i32_12 : BitVec 32 := 0#32
  let v16 : BitVec 1 := Scalar.cmpi .sgt c16_i32 c0_i32_12
  let v17 : BitVec 32 := Scalar.extui v16
  let c0_i32_13 : BitVec 32 := 0#32
  let v18 : BitVec 1 := Scalar.cmpi .slt c16_i32 c0_i32_13
  let v19 : BitVec 32 := Scalar.extui v18
  let v20 : BitVec 32 := Scalar.subi v17 v19
  let v21 : BitVec 1 := Scalar.cmpi .ne v15 v20
  let v22 : BitVec 32 := Scalar.remsi arg0 c16_i32
  let c0_i32_14 : BitVec 32 := 0#32
  let v23 : BitVec 1 := Scalar.cmpi .ne v22 c0_i32_14
  let v24 : BitVec 1 := Scalar.andi v21 v23
  let v10 : BitVec 32 := Scalar.divsi arg0 c16_i32
  let c1_i32 : BitVec 32 := 1#32
  let v25 : BitVec 32 := Scalar.subi v10 c1_i32
  let v26 : BitVec 32 := Scalar.select v24 v25 v10
  let c2_i32 : BitVec 32 := 2#32
  let v27 : BitVec 32 := Scalar.minsi v26 c2_i32
  let v28 : Index := Scalar.indexCast v27
  let c0_16 : Index := 0#32
  ![0, v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c2_i32 : BitVec 32 := 2#32
  let c0_i32_0 : BitVec 32 := 0#32
  ![c3_i32.toNat, c0_i32.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c3_i32_0 : BitVec 32 := 3#32
  let c0_i32_1 : BitVec 32 := 0#32
  ![c3_i32.toNat, c0_i32.toNat, c3_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c4_i32 : BitVec 32 := 4#32
  let c0_i32_0 : BitVec 32 := 0#32
  ![c3_i32.toNat, c0_i32.toNat, c4_i32.toNat]

def cc0_transform_8 (i : grid0.Coords) : Fin 3 → Nat :=
  let arg0 : BitVec 32 := BitVec.ofNat 32 (i 0).val
  let c3_i32 : BitVec 32 := 3#32
  let c0_i32 : BitVec 32 := 0#32
  let c5_i32 : BitVec 32 := 5#32
  let c0_i32_0 : BitVec 32 := 0#32
  ![c3_i32.toNat, c0_i32.toNat, c5_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S2x8192x1024 : Shape := ⟨3, ![2, 8192, 1024]⟩
abbrev S1x2x6144 : Shape := ⟨3, ![1, 2, 6144]⟩
abbrev S2x6144 : Shape := ⟨2, ![2, 6144]⟩
abbrev S2x1x6144 : Shape := ⟨3, ![2, 1, 6144]⟩
abbrev S2x1x1024 : Shape := ⟨3, ![2, 1, 1024]⟩
abbrev S1x1024x1024 : Shape := ⟨3, ![1, 1024, 1024]⟩
abbrev S1024x1024 : Shape := ⟨2, ![1024, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x8192x4096 : Shape := ⟨3, ![2, 8192, 4096]⟩
abbrev S1x4096x1024 : Shape := ⟨3, ![1, 4096, 1024]⟩
abbrev S4096x1024 : Shape := ⟨2, ![4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S4x1024x1024, .bf16⟩
  | .hbm, ⟨4, _⟩ => ⟨S4x8x6144, .f32⟩
  | .hbm, ⟨5, _⟩ => ⟨S1x1024, .f32⟩
  | .hbm, ⟨6, _⟩ => ⟨S4x1024x4096, .bf16⟩
  | .hbm, ⟨7, _⟩ => ⟨S4x4096x1024, .bf16⟩
  | .hbm, ⟨8, _⟩ => ⟨S2x8192x1024, .f32⟩
  | .hbm, ⟨9, _⟩ => ⟨S16384x1024, .bf16⟩
  | .hbm, ⟨10, _⟩ => ⟨S16384x1024, .f32⟩
  | .hbm, ⟨11, _⟩ => ⟨S2x8192x1024, .f32⟩
  | .hbm, ⟨12, _⟩ => ⟨S1x2x6144, .f32⟩
  | .hbm, ⟨13, _⟩ => ⟨S2x6144, .f32⟩
  | .hbm, ⟨14, _⟩ => ⟨S2x1x6144, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S1x1024x1024, .bf16⟩
  | .hbm, ⟨22, _⟩ => ⟨S1024x1024, .bf16⟩
  | .hbm, ⟨23, _⟩ => ⟨S1024x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S_, .f32⟩
  | .hbm, ⟨46, _⟩ => ⟨S2x1x1024, .f32⟩
  | .hbm, ⟨47, _⟩ => ⟨S2x1x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S1x1024x4096, .bf16⟩
  | .hbm, ⟨53, _⟩ => ⟨S1024x4096, .bf16⟩
  | .hbm, ⟨54, _⟩ => ⟨S1024x4096, .f32⟩
  | .hbm, ⟨55, _⟩ => ⟨S2x8192x4096, .f32⟩
  | .hbm, ⟨56, _⟩ => ⟨S_, .f32⟩
  | .hbm, ⟨57, _⟩ => ⟨S2x8192x4096, .f32⟩
  | .hbm, ⟨58, _⟩ => ⟨S2x8192x4096, .f32⟩
  | .hbm, ⟨59, _⟩ => ⟨S2x8192x4096, .f32⟩
  | .hbm, ⟨60, _⟩ => ⟨S1x4096x1024, .bf16⟩
  | .hbm, ⟨61, _⟩ => ⟨S4096x1024, .bf16⟩
  | .hbm, ⟨62, _⟩ => ⟨S4096x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_cst : Ref sig .tc := ⟨.hbm, 56, rfl⟩
abbrev main_call0_v0 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩

abbrev nD : Nat := 1
abbrev τ : Topo := Topo.v7x

variable {F : FTy → Type} [FloatOps F]
-- ==== Kernel3.lean ====
abbrev S16896x4096 : Shape := ⟨2, ![16896, 4096]⟩
abbrev S1 : Shape := ⟨1, ![1]⟩
abbrev S16384x512 : Shape := ⟨2, ![16384, 512]⟩
abbrev S1024x256 : Shape := ⟨2, ![1024, 256]⟩
abbrev S8192x256 : Shape := ⟨2, ![8192, 256]⟩
abbrev S8192x128 : Shape := ⟨2, ![8192, 128]⟩
abbrev S256x256 : Shape := ⟨2, ![256, 256]⟩
abbrev S256x128 : Shape := ⟨2, ![256, 128]⟩
abbrev S1024x128 : Shape := ⟨2, ![1024, 128]⟩
abbrev S4x128x2048 : Shape := ⟨3, ![4, 128, 2048]⟩
abbrev S128x256 : Shape := ⟨2, ![128, 256]⟩
abbrev S1x128 : Shape := ⟨2, ![1, 128]⟩
abbrev S2048x128 : Shape := ⟨2, ![2048, 128]⟩
abbrev S128x2048 : Shape := ⟨2, ![128, 2048]⟩
abbrev S1x128x2048 : Shape := ⟨3, ![1, 128, 2048]⟩
abbrev S128x1024 : Shape := ⟨2, ![128, 1024]⟩
abbrev S1x1024 : Shape := ⟨2, ![1, 1024]⟩
abbrev S2048x256 : Shape := ⟨2, ![2048, 256]⟩
abbrev S2048x1024 : Shape := ⟨2, ![2048, 1024]⟩
abbrev S1024 : Shape := ⟨1, ![1024]⟩
abbrev S256x1024 : Shape := ⟨2, ![256, 1024]⟩
abbrev S1024x1 : Shape := ⟨2, ![1024, 1]⟩
abbrev S512x256 : Shape := ⟨2, ![512, 256]⟩
abbrev S512x128 : Shape := ⟨2, ![512, 128]⟩
abbrev S1024x512 : Shape := ⟨2, ![1024, 512]⟩

abbrev nBuf : Space → Nat
  | .hbm => 3
  | .vmem => 14
  | .smem => 1
  | _ => 0

abbrev bufTy : (tb : Table) → Fin (tcTables nBuf tb) → BufTy
  | .hbm, ⟨0, _⟩ => ⟨S16896x4096, .bf16⟩
  | .hbm, ⟨1, _⟩ => ⟨S1, .i32⟩
  | .hbm, ⟨2, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S256x256, .bf16⟩
  | .local _ .vmem, ⟨7, _⟩ => ⟨S256x256, .bf16⟩
  | .local _ .vmem, ⟨8, _⟩ => ⟨S256x128, .bf16⟩
  | .local _ .vmem, ⟨9, _⟩ => ⟨S256x128, .bf16⟩
  | .local _ .vmem, ⟨10, _⟩ => ⟨S1024x128, .bf16⟩
  | .local _ .vmem, ⟨11, _⟩ => ⟨S1024x128, .bf16⟩
  | .local _ .vmem, ⟨12, _⟩ => ⟨S4x128x2048, .bf16⟩
  | .local _ .vmem, ⟨13, _⟩ => ⟨S128x256, .bf16⟩
  | .local _ .smem, ⟨0, _⟩ => ⟨S1, .i32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 8], ![false, false, false]⟩

@[reducible] def k0_t1_loop : Scf.Loop 32 :=
  let c0_i32_8 : BitVec 32 := 0#32
  let c16_i32 : BitVec 32 := 16#32
  let v19 : BitVec 32 := Scalar.addi c0_i32_8 c16_i32
  let c1_i32_9 : BitVec 32 := 1#32
  ⟨c0_i32_8, v19, c1_i32_9⟩
def k0_mult1 (k0_t1 : Fin k0_t1_loop.trips) : BitVec 32 :=
  let c0_i32_8 : BitVec 32 := 0#32
  let c1_i32_9 : BitVec 32 := 1#32
  let arg12 : BitVec 32 := Scf.iv c0_i32_8 c1_i32_9 k0_t1
  let c512_i32 : BitVec 32 := 512#32
  let v70 : BitVec 32 := Scalar.muli arg12 c512_i32
  v70
def k0_off1 (k0_t1 : Fin k0_t1_loop.trips) : Fin 2 → Nat :=
  let c0_i32_8 : BitVec 32 := 0#32
  let c1_i32_9 : BitVec 32 := 1#32
  let arg12 : BitVec 32 := Scf.iv c0_i32_8 c1_i32_9 k0_t1
  let c512_i32 : BitVec 32 := 512#32
  let v70 : BitVec 32 := Scalar.muli arg12 c512_i32
  let v71 : BitVec 32 := v70
  let v72 : Index := Scalar.indexCast v71
  let c0_25 : Index := 0#32
  ![v72.toNat, 0]
def k0_off2 (k0_t1 : Fin k0_t1_loop.trips) : Fin 2 → Nat :=
  let c0_i32_8 : BitVec 32 := 0#32
  let c1_i32_9 : BitVec 32 := 1#32
  let arg12 : BitVec 32 := Scf.iv c0_i32_8 c1_i32_9 k0_t1
  let c512_i32 : BitVec 32 := 512#32
  let v70 : BitVec 32 := Scalar.muli arg12 c512_i32
  let v71 : BitVec 32 := v70
  let v74 : Index := Scalar.indexCast v71
  let c0_26 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c4_i32 : BitVec 32 := 4#32
  let v1 : BitVec 32 := Scalar.addi c4_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c16_i32 : BitVec 32 := 16#32
  let v1 : BitVec 32 := Scalar.addi c16_i32 arg1
  let c0_i32 : BitVec 32 := 0#32
  ![v0.toNat, v1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S16896x4096 : Shape := ⟨2, ![16896, 4096]⟩
abbrev S1 : Shape := ⟨1, ![1]⟩
abbrev S16384x4096 : Shape := ⟨2, ![16384, 4096]⟩
abbrev S2x8192x4096 : Shape := ⟨3, ![2, 8192, 4096]⟩
abbrev S512x4096 : Shape := ⟨2, ![512, 4096]⟩
abbrev S2x256x4096 : Shape := ⟨3, ![2, 256, 4096]⟩
abbrev S2x8448x4096 : Shape := ⟨3, ![2, 8448, 4096]⟩
abbrev S2x8192x1024 : Shape := ⟨3, ![2, 8192, 1024]⟩
abbrev S2x8192x8x128 : Shape := ⟨4, ![2, 8192, 8, 128]⟩
abbrev S2x8448x1024 : Shape := ⟨3, ![2, 8448, 1024]⟩
abbrev S2x8448x8x128 : Shape := ⟨4, ![2, 8448, 8, 128]⟩
abbrev S2x8448x512 : Shape := ⟨3, ![2, 8448, 512]⟩
abbrev S2x8448x8x64 : Shape := ⟨4, ![2, 8448, 8, 64]⟩
abbrev S2x8x8192x8448 : Shape := ⟨4, ![2, 8, 8192, 8448]⟩
abbrev S_ : Shape := ⟨0, ![]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S2x8192x8x64 : Shape := ⟨4, ![2, 8192, 8, 64]⟩
abbrev S16384x512 : Shape := ⟨2, ![16384, 512]⟩

abbrev nBuf : Space → Nat
  | .hbm => 38
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1, .i32⟩
  | .hbm, ⟨2, _⟩ => ⟨S16896x4096, .f32⟩
  | .hbm, ⟨3, _⟩ => ⟨S16384x4096, .f32⟩
  | .hbm, ⟨4, _⟩ => ⟨S2x8192x4096, .f32⟩
  | .hbm, ⟨5, _⟩ => ⟨S512x4096, .f32⟩
  | .hbm, ⟨6, _⟩ => ⟨S2x256x4096, .f32⟩
  | .hbm, ⟨7, _⟩ => ⟨S2x8448x4096, .f32⟩
  | .hbm, ⟨8, _⟩ => ⟨S2x8192x1024, .f32⟩
  | .hbm, ⟨9, _⟩ => ⟨S2x8192x8x128, .f32⟩
  | .hbm, ⟨10, _⟩ => ⟨S2x8448x1024, .f32⟩
  | .hbm, ⟨11, _⟩ => ⟨S2x8448x8x128, .f32⟩
  | .hbm, ⟨12, _⟩ => ⟨S2x8448x512, .f32⟩
  | .hbm, ⟨13, _⟩ => ⟨S2x8448x8x64, .f32⟩
  | .hbm, ⟨14, _⟩ => ⟨S2x8x8192x8448, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2x8x8192x8448, .f32⟩
  | .hbm, ⟨19, _⟩ => ⟨S2x8x8192x8448, .f32⟩
  | .hbm, ⟨20, _⟩ => ⟨S_, .f32⟩
  | .hbm, ⟨21, _⟩ => ⟨S2x8x8192, .f32⟩
  | .hbm, ⟨22, _⟩ => ⟨S_, .f32⟩
  | .hbm, ⟨23, _⟩ => ⟨S2x8x8192, .f32⟩
  | .hbm, ⟨24, _⟩ => ⟨S2x8x8192, .f32⟩
  | .hbm, ⟨25, _⟩ => ⟨S2x8x8192x1, .f32⟩
  | .hbm, ⟨26, _⟩ => ⟨S2x8x8192x8448, .f32⟩
  | .hbm, ⟨27, _⟩ => ⟨S2x8x8192x8448, .f32⟩
  | .hbm, ⟨28, _⟩ => ⟨S2x8x8192x8448, .f32⟩
  | .hbm, ⟨29, _⟩ => ⟨S_, .f32⟩
  | .hbm, ⟨30, _⟩ => ⟨S2x8x8192, .f32⟩
  | .hbm, ⟨31, _⟩ => ⟨S2x8x8192x1, .f32⟩
  | .hbm, ⟨32, _⟩ => ⟨S2x8x8192x8448, .f32⟩
  | .hbm, ⟨33, _⟩ => ⟨S2x8x8192x8448, .f32⟩
  | .hbm, ⟨34, _⟩ => ⟨S2x8x64x8192, .f32⟩
  | .hbm, ⟨35, _⟩ => ⟨S2x8192x8x64, .f32⟩
  | .hbm, ⟨36, _⟩ => ⟨S16384x512, .f32⟩
  | .hbm, ⟨37, _⟩ => ⟨S16384x512, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel4.lean ====
abbrev S16896x1024 : Shape := ⟨2, ![16896, 1024]⟩
abbrev S16384x512 : Shape := ⟨2, ![16384, 512]⟩
abbrev S512x512 : Shape := ⟨2, ![512, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S512x1024 : Shape := ⟨2, ![512, 1024]⟩
abbrev S1x1024x1024 : Shape := ⟨3, ![1, 1024, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 11
  | .vmem => 18
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S512x512, .bf16⟩
  | .hbm, ⟨3, _⟩ => ⟨S16384x512, .bf16⟩
  | .hbm, ⟨4, _⟩ => ⟨S512x512, .bf16⟩
  | .hbm, ⟨5, _⟩ => ⟨S4x1024x1024, .bf16⟩
  | .hbm, ⟨6, _⟩ => ⟨S4x8x6144, .f32⟩
  | .hbm, ⟨7, _⟩ => ⟨S1x1024, .f32⟩
  | .hbm, ⟨8, _⟩ => ⟨S4x1024x4096, .bf16⟩
  | .hbm, ⟨9, _⟩ => ⟨S4x4096x1024, .bf16⟩
  | .hbm, ⟨10, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S1x1024x1024, .bf16⟩
  | .local _ .vmem, ⟨9, _⟩ => ⟨S1x8x1024, .f32⟩
  | .local _ .vmem, ⟨10, _⟩ => ⟨S1x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x1024x4096, .bf16⟩
  | .local _ .vmem, ⟨15, _⟩ => ⟨S1x4096x1024, .bf16⟩
  | .local _ .vmem, ⟨16, _⟩ => ⟨S512x1024, .f32⟩
  | .local _ .vmem, ⟨17, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let c0_20 : Index := 0#32
  let arg0 : BitVec 32 := BitVec.ofNat 32 (i 0).val
  let c0_i32 : BitVec 32 := 0#32
  let v17 : BitVec 1 := Scalar.cmpi .sgt arg0 c0_i32
  let v18 : BitVec 32 := Scalar.extui v17
  let c0_i32_16 : BitVec 32 := 0#32
  let v19 : BitVec 1 := Scalar.cmpi .slt arg0 c0_i32_16
  let v20 : BitVec 32 := Scalar.extui v19
  let v21 : BitVec 32 := Scalar.subi v18 v20
  let c16_i32 : BitVec 32 := 16#32
  let c0_i32_17 : BitVec 32 := 0#32
  let v22 : BitVec 1 := Scalar.cmpi .sgt c16_i32 c0_i32_17
  let v23 : BitVec 32 := Scalar.extui v22
  let c0_i32_18 : BitVec 32 := 0#32
  let v24 : BitVec 1 := Scalar.cmpi .slt c16_i32 c0_i32_18
  let v25 : BitVec 32 := Scalar.extui v24
  let v26 : BitVec 32 := Scalar.subi v23 v25
  let v27 : BitVec 1 := Scalar.cmpi .ne v21 v26
  let v28 : BitVec 32 := Scalar.remsi arg0 c16_i32
  let c0_i32_19 : BitVec 32 := 0#32
  let v29 : BitVec 1 := Scalar.cmpi .ne v28 c0_i32_19
  let v30 : BitVec 1 := Scalar.andi v27 v29
  let v16 : BitVec 32 := Scalar.divsi arg0 c16_i32
  let c1_i32 : BitVec 32 := 1#32
  let v31 : BitVec 32 := Scalar.subi v16 c1_i32
  let v32 : BitVec 32 := Scalar.select v30 v31 v16
  let c2_i32 : BitVec 32 := 2#32
  let v33 : BitVec 32 := Scalar.minsi v32 c2_i32
  let v34 : Index := Scalar.indexCast v33
  let c0_21 : Index := 0#32
  ![0, v34.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c2_i32 : BitVec 32 := 2#32
  let c0_i32_0 : BitVec 32 := 0#32
  ![c1_i32.toNat, c0_i32.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c3_i32 : BitVec 32 := 3#32
  let c0_i32_0 : BitVec 32 := 0#32
  ![c1_i32.toNat, c0_i32.toNat, c3_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c4_i32 : BitVec 32 := 4#32
  let c0_i32_0 : BitVec 32 := 0#32
  ![c1_i32.toNat, c0_i32.toNat, c4_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c5_i32 : BitVec 32 := 5#32
  let c0_i32_0 : BitVec 32 := 0#32
  ![c1_i32.toNat, c0_i32.toNat, c5_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference4Ideal.lean ====
abbrev S16896x1024 : Shape := ⟨2, ![16896, 1024]⟩
abbrev S16384x512 : Shape := ⟨2, ![16384, 512]⟩
abbrev S512x512 : Shape := ⟨2, ![512, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S16896x512 : Shape := ⟨2, ![16896, 512]⟩
abbrev S1x2x6144 : Shape := ⟨3, ![1, 2, 6144]⟩
abbrev S2x6144 : Shape := ⟨2, ![2, 6144]⟩
abbrev S2x1x6144 : Shape := ⟨3, ![2, 1, 6144]⟩
abbrev S2x8192x6144 : Shape := ⟨3, ![2, 8192, 6144]⟩
abbrev S16384x6144 : Shape := ⟨2, ![16384, 6144]⟩
abbrev S1x1x6144 : Shape := ⟨3, ![1, 1, 6144]⟩
abbrev S6144 : Shape := ⟨1, ![6144]⟩
abbrev S512x6144 : Shape := ⟨2, ![512, 6144]⟩
abbrev S16896x6144 : Shape := ⟨2, ![16896, 6144]⟩
abbrev S1x1024x1024 : Shape := ⟨3, ![1, 1024, 1024]⟩
abbrev S1024x1024 : Shape := ⟨2, ![1024, 1024]⟩
abbrev S_ : Shape := ⟨0, ![]⟩
abbrev S16896 : Shape := ⟨1, ![16896]⟩
abbrev S16896x1 : Shape := ⟨2, ![16896, 1]⟩
abbrev S1024 : Shape := ⟨1, ![1024]⟩
abbrev S1x1024x4096 : Shape := ⟨3, ![1, 1024, 4096]⟩
abbrev S1024x4096 : Shape := ⟨2, ![1024, 4096]⟩
abbrev S16896x4096 : Shape := ⟨2, ![16896, 4096]⟩
abbrev S1x4096x1024 : Shape := ⟨3, ![1, 4096, 1024]⟩
abbrev S4096x1024 : Shape := ⟨2, ![4096, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16896x1024, .f32⟩
  | .hbm, ⟨1, _⟩ => ⟨S16384x512, .bf16⟩
  | .hbm, ⟨2, _⟩ => ⟨S512x512, .bf16⟩
  | .hbm, ⟨3, _⟩ => ⟨S16384x512, .bf16⟩
  | .hbm, ⟨4, _⟩ => ⟨S512x512, .bf16⟩
  | .hbm, ⟨5, _⟩ => ⟨S4x1024x1024, .bf16⟩
  | .hbm, ⟨6, _⟩ => ⟨S4x8x6144, .f32⟩
  | .hbm, ⟨7, _⟩ => ⟨S1x1024, .f32⟩
  | .hbm, ⟨8, _⟩ => ⟨S4x1024x4096, .bf16⟩
  | .hbm, ⟨9, _⟩ => ⟨S4x4096x1024, .bf16⟩
  | .hbm, ⟨10, _⟩ => ⟨S16896x512, .bf16⟩
  | .hbm, ⟨11, _⟩ => ⟨S16896x512, .bf16⟩
  | .hbm, ⟨12, _⟩ => ⟨S16896x1024, .bf16⟩
  | .hbm, ⟨13, _⟩ => ⟨S16896x1024, .f32⟩
  | .hbm, ⟨14, _⟩ => ⟨S1x2x6144, .f32⟩
  | .hbm, ⟨15, _⟩ => ⟨S2x6144, .f32⟩
  | .hbm, ⟨16, _⟩ => ⟨S2x1x6144, .f32⟩
  | .hbm, ⟨17, _⟩ => ⟨S2x8192x6144, .f32⟩
  | .hbm, ⟨18, _⟩ => ⟨S16384x6144, .f32⟩
  | .hbm, ⟨19, _⟩ => ⟨S1x1x6144, .f32⟩
  | .hbm, ⟨20, _⟩ => ⟨S6144, .f32⟩
  | .hbm, ⟨21, _⟩ => ⟨S512x6144, .f32⟩
  | .hbm, ⟨22, _⟩ => ⟨S16896x6144, .f32⟩
  | .hbm, ⟨23, _⟩ => ⟨S16896x1024, .f32⟩
  | .hbm, ⟨24, _⟩ => ⟨S16896x1024, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S1x1024x1024, .bf16⟩
  | .hbm, ⟨30, _⟩ => ⟨S1024x1024, .bf16⟩
  | .hbm, ⟨31, _⟩ => ⟨S1024x1024, .f32⟩
  | .hbm, ⟨32, _⟩ => ⟨S16896x1024, .f32⟩
  | .hbm, ⟨33, _⟩ => ⟨S16896x1024, .f32⟩
  | .hbm, ⟨34, _⟩ => ⟨S16896x1024, .f32⟩
  | .hbm, ⟨35, _⟩ => ⟨S16896x1024, .f32⟩
  | .hbm, ⟨36, _⟩ => ⟨S_, .f32⟩
  | .hbm, ⟨37, _⟩ => ⟨S16896, .f32⟩
  | .hbm, ⟨38, _⟩ => ⟨S16896x1, .f32⟩
  | .hbm, ⟨39, _⟩ => ⟨S_, .f32⟩
  | .hbm, ⟨40, _⟩ => ⟨S16896x1, .f32⟩
  | .hbm, ⟨41, _⟩ => ⟨S16896x1, .f32⟩
  | .hbm, ⟨42, _⟩ => ⟨S_, .f32⟩
  | .hbm, ⟨43, _⟩ => ⟨S16896x1, .f32⟩
  | .hbm, ⟨44, _⟩ => ⟨S16896x1, .f32⟩
  | .hbm, ⟨45, _⟩ => ⟨S16896x1, .f32⟩
  | .hbm, ⟨46, _⟩ => ⟨S16896x1024, .f32⟩
  | .hbm, ⟨47, _⟩ => ⟨S16896x1024, .f32⟩
  | .hbm, ⟨48, _⟩ => ⟨S1024, .f32⟩
  | .hbm, ⟨49, _⟩ => ⟨S1x1024, .f32⟩
  | .hbm, ⟨50, _⟩ => ⟨S16896x1024, .f32⟩
  | .hbm, ⟨51, _⟩ => ⟨S16896x1024, .f32⟩
  | .hbm, ⟨52, _⟩ => ⟨S_, .f32⟩
  | .hbm, ⟨53, _⟩ => ⟨S16896x1024, .f32⟩
  | .hbm, ⟨54, _⟩ => ⟨S16896x1024, .f32⟩
  | .hbm, ⟨55, _⟩ => ⟨S16896x1024, .f32⟩
  | .hbm, ⟨56, _⟩ => ⟨S16896x1024, .f32⟩
  | .hbm, ⟨57, _⟩ => ⟨S1x1024x4096, .bf16⟩
  | .hbm, ⟨58, _⟩ => ⟨S1024x4096, .bf16⟩
  | .hbm, ⟨59, _⟩ => ⟨S1024x4096, .f32⟩
  | .hbm, ⟨60, _⟩ => ⟨S16896x4096, .f32⟩
  | .hbm, ⟨61, _⟩ => ⟨S_, .f32⟩
  | .hbm, ⟨62, _⟩ => ⟨S16896x4096, .f32⟩
  | .hbm, ⟨63, _⟩ => ⟨S16896x4096, .f32⟩
  | .hbm, ⟨64, _⟩ => ⟨S16896x4096, .f32⟩
  | .hbm, ⟨65, _⟩ => ⟨S1x4096x1024, .bf16⟩
  | .hbm, ⟨66, _⟩ => ⟨S4096x1024, .bf16⟩
  | .hbm, ⟨67, _⟩ => ⟨S4096x1024, .f32⟩
  | .hbm, ⟨68, _⟩ => ⟨S16896x1024, .f32⟩
  | .hbm, ⟨69, _⟩ => ⟨S16896x1024, .f32⟩
  | .hbm, ⟨70, _⟩ => ⟨S16896x1024, .f32⟩
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call0_cst : Ref sig .tc := ⟨.hbm, 61, rfl⟩
abbrev main_call0_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel5.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S16896x1024 : Shape := ⟨2, ![16896, 1024]⟩
abbrev S1x1024x1024 : Shape := ⟨3, ![1, 1024, 1024]⟩
abbrev S1x8x1024 : Shape := ⟨3, ![1, 8, 1024]⟩
abbrev S1x1024x4096 : Shape := ⟨3, ![1, 1024, 4096]⟩
abbrev S1x4096x1024 : Shape := ⟨3, ![1, 4096, 1024]⟩
abbrev S1x512x1024 : Shape := ⟨3, ![1, 512, 1024]⟩
abbrev S1x1x1024 : Shape := ⟨3, ![1, 1, 1024]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S4096x1024 : Shape := ⟨2, ![4096, 1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x512, .bf16⟩
  | .hbm, ⟨3, _⟩ => ⟨S512x512, .bf16⟩
  | .hbm, ⟨4, _⟩ => ⟨S16384x512, .bf16⟩
  | .hbm, ⟨5, _⟩ => ⟨S512x512, .bf16⟩
  | .hbm, ⟨6, _⟩ => ⟨S4x1024x1024, .bf16⟩
  | .hbm, ⟨7, _⟩ => ⟨S4x8x6144, .f32⟩
  | .hbm, ⟨8, _⟩ => ⟨S1x1024, .f32⟩
  | .hbm, ⟨9, _⟩ => ⟨S4x1024x4096, .bf16⟩
  | .hbm, ⟨10, _⟩ => ⟨S4x4096x1024, .bf16⟩
  | .hbm, ⟨11, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1x1024x1024, .bf16⟩
  | .local _ .vmem, ⟨10, _⟩ => ⟨S1x8x1024, .f32⟩
  | .local _ .vmem, ⟨11, _⟩ => ⟨S1x1024, .f32⟩
  | .local _ .vmem, ⟨12, _⟩ => ⟨S1x8x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x1024x4096, .bf16⟩
  | .local _ .vmem, ⟨16, _⟩ => ⟨S1x4096x1024, .bf16⟩
  | .local _ .vmem, ⟨17, _⟩ => ⟨S512x1024, .f32⟩
  | .local _ .vmem, ⟨18, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let c0_23 : Index := 0#32
  let arg0 : BitVec 32 := BitVec.ofNat 32 (i 0).val
  let c0_i32 : BitVec 32 := 0#32
  let v20 : BitVec 1 := Scalar.cmpi .sgt arg0 c0_i32
  let v21 : BitVec 32 := Scalar.extui v20
  let c0_i32_19 : BitVec 32 := 0#32
  let v22 : BitVec 1 := Scalar.cmpi .slt arg0 c0_i32_19
  let v23 : BitVec 32 := Scalar.extui v22
  let v24 : BitVec 32 := Scalar.subi v21 v23
  let c16_i32 : BitVec 32 := 16#32
  let c0_i32_20 : BitVec 32 := 0#32
  let v25 : BitVec 1 := Scalar.cmpi .sgt c16_i32 c0_i32_20
  let v26 : BitVec 32 := Scalar.extui v25
  let c0_i32_21 : BitVec 32 := 0#32
  let v27 : BitVec 1 := Scalar.cmpi .slt c16_i32 c0_i32_21
  let v28 : BitVec 32 := Scalar.extui v27
  let v29 : BitVec 32 := Scalar.subi v26 v28
  let v30 : BitVec 1 := Scalar.cmpi .ne v24 v29
  let v31 : BitVec 32 := Scalar.remsi arg0 c16_i32
  let c0_i32_22 : BitVec 32 := 0#32
  let v32 : BitVec 1 := Scalar.cmpi .ne v31 c0_i32_22
  let v33 : BitVec 1 := Scalar.andi v30 v32
  let v19 : BitVec 32 := Scalar.divsi arg0 c16_i32
  let c1_i32 : BitVec 32 := 1#32
  let v34 : BitVec 32 := Scalar.subi v19 c1_i32
  let v35 : BitVec 32 := Scalar.select v33 v34 v19
  let c2_i32 : BitVec 32 := 2#32
  let v36 : BitVec 32 := Scalar.minsi v35 c2_i32
  let v37 : Index := Scalar.indexCast v36
  let c0_24 : Index := 0#32
  ![0, v37.toNat, 0]
def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c3_i32 : BitVec 32 := 3#32
  let c0_i32_1 : BitVec 32 := 0#32
  ![c0_i32.toNat, c0_i32_0.toNat, c3_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c4_i32 : BitVec 32 := 4#32
  let c0_i32_1 : BitVec 32 := 0#32
  ![c0_i32.toNat, c0_i32_0.toNat, c4_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x4096x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x1024 : Shape := ⟨2, ![16384, 1024]⟩
abbrev S512x1024 : Shape := ⟨2, ![512, 1024]⟩
abbrev S16384x512 : Shape := ⟨2, ![16384, 512]⟩
abbrev S512x512 : Shape := ⟨2, ![512, 512]⟩
abbrev S4x1024x1024 : Shape := ⟨3, ![4, 1024, 1024]⟩
abbrev S4x8x6144 : Shape := ⟨3, ![4, 8, 6144]⟩
abbrev S1x1024 : Shape := ⟨2, ![1, 1024]⟩
abbrev S4x1024x4096 : Shape := ⟨3, ![4, 1024, 4096]⟩
abbrev S4x4096x1024 : Shape := ⟨3, ![4, 4096, 1024]⟩
abbrev S16896x1024 : Shape := ⟨2, ![16896, 1024]⟩
abbrev S16896x512 : Shape := ⟨2, ![16896, 512]⟩
abbrev S1x2x6144 : Shape := ⟨3, ![1, 2, 6144]⟩
abbrev S2x6144 : Shape := ⟨2, ![2, 6144]⟩
abbrev S2x1x6144 : Shape := ⟨3, ![2, 1, 6144]⟩
abbrev S2x8192x6144 : Shape := ⟨3, ![2, 8192, 6144]⟩
abbrev S16384x6144 : Shape := ⟨2, ![16384, 6144]⟩
abbrev S1x1x6144 : Shape := ⟨3, ![1, 1, 6144]⟩
abbrev S6144 : Shape := ⟨1, ![6144]⟩
abbrev S512x6144 : Shape := ⟨2, ![512, 6144]⟩
abbrev S16896x6144 : Shape := ⟨2, ![16896, 6144]⟩
abbrev S1x1024x1024 : Shape := ⟨3, ![1, 1024, 1024]⟩
abbrev S1024x1024 : Shape := ⟨2, ![1024, 1024]⟩
abbrev S_ : Shape := ⟨0, ![]⟩
abbrev S16896 : Shape := ⟨1, ![16896]⟩
abbrev S16896x1 : Shape := ⟨2, ![16896, 1]⟩
abbrev S1024 : Shape := ⟨1, ![1024]⟩
abbrev S1x1024x4096 : Shape := ⟨3, ![1, 1024, 4096]⟩
abbrev S1024x4096 : Shape := ⟨2, ![1024, 4096]⟩
abbrev S16896x4096 : Shape := ⟨2, ![16896, 4096]⟩
abbrev S1x4096x1024 : Shape := ⟨3, ![1, 4096, 1024]⟩
abbrev S4096x1024 : Shape := ⟨2, ![4096, 1024]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x1024, .f32⟩
  | .hbm, ⟨2, _⟩ => ⟨S16384x512, .bf16⟩
  | .hbm, ⟨3, _⟩ => ⟨S512x512, .bf16⟩
  | .hbm, ⟨4, _⟩ => ⟨S16384x512, .bf16⟩
  | .hbm, ⟨5, _⟩ => ⟨S512x512, .bf16⟩
  | .hbm, ⟨6, _⟩ => ⟨S4x1024x1024, .bf16⟩
  | .hbm, ⟨7, _⟩ => ⟨S4x8x6144, .f32⟩
  | .hbm, ⟨8, _⟩ => ⟨S1x1024, .f32⟩
  | .hbm, ⟨9, _⟩ => ⟨S4x1024x4096, .bf16⟩
  | .hbm, ⟨10, _⟩ => ⟨S4x4096x1024, .bf16⟩
  | .hbm, ⟨11, _⟩ => ⟨S16896x1024, .f32⟩
  | .hbm, ⟨12, _⟩ => ⟨S16896x512, .bf16⟩
  | .hbm, ⟨13, _⟩ => ⟨S16896x512, .bf16⟩
  | .hbm, ⟨14, _⟩ => ⟨S16896x1024, .bf16⟩
  | .hbm, ⟨15, _⟩ => ⟨S16896x1024, .f32⟩
  | .hbm, ⟨16, _⟩ => ⟨S1x2x6144, .f32⟩
  | .hbm, ⟨17, _⟩ => ⟨S2x6144, .f32⟩
  | .hbm, ⟨18, _⟩ => ⟨S2x1x6144, .f32⟩
  | .hbm, ⟨19, _⟩ => ⟨S2x8192x6144, .f32⟩
  | .hbm, ⟨20, _⟩ => ⟨S16384x6144, .f32⟩
  | .hbm, ⟨21, _⟩ => ⟨S1x1x6144, .f32⟩
  | .hbm, ⟨22, _⟩ => ⟨S6144, .f32⟩
  | .hbm, ⟨23, _⟩ => ⟨S512x6144, .f32⟩
  | .hbm, ⟨24, _⟩ => ⟨S16896x6144, .f32⟩
  | .hbm, ⟨25, _⟩ => ⟨S16896x1024, .f32⟩
  | .hbm, ⟨26, _⟩ => ⟨S16896x1024, .f32⟩
  | .hbm, ⟨27, _⟩ => ⟨S16896x1024, .f32⟩
  | .hbm, ⟨28, _⟩ => ⟨S16896x1024, .f32⟩
  | .hbm, ⟨29, _⟩ => ⟨S16896x1024, .f32⟩
  | .hbm, ⟨30, _⟩ => ⟨S16896x1024, .f32⟩
  | .hbm, ⟨31, _⟩ => ⟨S1x1024x1024, .bf16⟩
  | .hbm, ⟨32, _⟩ => ⟨S1024x1024, .bf16⟩
  | .hbm, ⟨33, _⟩ => ⟨S1024x1024, .f32⟩
  | .hbm, ⟨34, _⟩ => ⟨S16896x1024, .f32⟩
  | .hbm, ⟨35, _⟩ => ⟨S16896x1024, .f32⟩
  | .hbm, ⟨36, _⟩ => ⟨S16896x1024, .f32⟩
  | .hbm, ⟨37, _⟩ => ⟨S16896x1024, .f32⟩
  | .hbm, ⟨38, _⟩ => ⟨S_, .f32⟩
  | .hbm, ⟨39, _⟩ => ⟨S16896, .f32⟩
  | .hbm, ⟨40, _⟩ => ⟨S16896x1, .f32⟩
  | .hbm, ⟨41, _⟩ => ⟨S_, .f32⟩
  | .hbm, ⟨42, _⟩ => ⟨S16896x1, .f32⟩
  | .hbm, ⟨43, _⟩ => ⟨S16896x1, .f32⟩
  | .hbm, ⟨44, _⟩ => ⟨S_, .f32⟩
  | .hbm, ⟨45, _⟩ => ⟨S16896x1, .f32⟩
  | .hbm, ⟨46, _⟩ => ⟨S16896x1, .f32⟩
  | .hbm, ⟨47, _⟩ => ⟨S16896x1, .f32⟩
  | .hbm, ⟨48, _⟩ => ⟨S16896x1024, .f32⟩
  | .hbm, ⟨49, _⟩ => ⟨S16896x1024, .f32⟩
  | .hbm, ⟨50, _⟩ => ⟨S1024, .f32⟩
  | .hbm, ⟨51, _⟩ => ⟨S1x1024, .f32⟩
  | .hbm, ⟨52, _⟩ => ⟨S16896x1024, .f32⟩
  | .hbm, ⟨53, _⟩ => ⟨S16896x1024, .f32⟩
  | .hbm, ⟨54, _⟩ => ⟨S_, .f32⟩
  | .hbm, ⟨55, _⟩ => ⟨S16896x1024, .f32⟩
  | .hbm, ⟨56, _⟩ => ⟨S16896x1024, .f32⟩
  | .hbm, ⟨57, _⟩ => ⟨S16896x1024, .f32⟩
  | .hbm, ⟨58, _⟩ => ⟨S16896x1024, .f32⟩
  | .hbm, ⟨59, _⟩ => ⟨S1x1024x4096, .bf16⟩
  | .hbm, ⟨60, _⟩ => ⟨S1024x4096, .bf16⟩
  | .hbm, ⟨61, _⟩ => ⟨S1024x4096, .f32⟩
  | .hbm, ⟨62, _⟩ => ⟨S16896x4096, .f32⟩
  | .hbm, ⟨63, _⟩ => ⟨S_, .f32⟩
  | .hbm, ⟨64, _⟩ => ⟨S16896x4096, .f32⟩
  | .hbm, ⟨65, _⟩ => ⟨S16896x4096, .f32⟩
  | .hbm, ⟨66, _⟩ => ⟨S16896x4096, .f32⟩
  | .hbm, ⟨67, _⟩ => ⟨S1x4096x1024, .bf16⟩
  | .hbm, ⟨68, _⟩ => ⟨S4096x1024, .bf16⟩
  | .hbm, ⟨69, _⟩ => ⟨S4096x1024, .f32⟩
  | .hbm, ⟨70, _⟩ => ⟨S16896x1024, .f32⟩
  | .hbm, ⟨71, _⟩ => ⟨S16896x1024, .f32⟩
  | .hbm, ⟨72, _⟩ => ⟨S16896x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_cst_0 : Ref sig .tc := ⟨.hbm, 41, rfl⟩
abbrev main_v29 : Ref sig .tc := ⟨.hbm, 42, rfl⟩
abbrev main_v30 : Ref sig .tc := ⟨.hbm, 43, rfl⟩
abbrev main_cst_1 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_call0_cst : Ref sig .tc := ⟨.hbm, 63, rfl⟩
abbrev main_call0_v0 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.KI.Blocks.lean ====
/- One output block of the differential attention, as a function of the blocks it is computed from: the kernel's own sequence of
   array operations, in its two forms. `safeBlock` is the form that exponentiates the scores as they are; `onlineBlock` keeps a
   running maximum over sixteen steps of 512 keys and then takes the 256 context keys. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.ShloMosaic.VecWindow
open Cert.KernelIdeal.Gen

variable {F : FTy → Type} [FloatOps F]

/-! ## The branch conditions -/

/-- The branch on the flag that takes the scores as they are. -/
abbrev isSafe (v11 : BitVec 32) : Prop := (Scalar.cmpi .ne (Scalar.extui (Scalar.cmpi .eq v11 1#32)) 0#32) = 1#1

/-- The branch that transposes the values: the first block of queries of a head. -/
abbrev firstQ (i : grid0.Coords) : Prop := (Scalar.cmpi .ne (Scalar.extui (Scalar.cmpi .eq (BitVec.ofNat 32 (i 2).val) 0#32)) 0#32) = 1#1

/-- The branch on the flag that keeps a running maximum. -/
abbrev notSafe (v11 : BitVec 32) : Prop := (Scalar.cmpi .ne (Scalar.extui (Scalar.xori (Scalar.cmpi .eq v11 1#32) 1#1)) 0#32) = 1#1

/-- The flag says "safe" exactly when it is one. -/
theorem isSafe_iff (w : BitVec 32) : isSafe w ↔ w = 1#32 := by
  have hb : ∀ b : Bool, (Scalar.cmpi .ne (Scalar.extui (BitVec.ofBool b)) 0#32 = 1#1) ↔ b = true := by decide
  exact (hb (w == 1#32)).trans beq_iff_eq

/-- Exactly one of the two branches on the flag is taken. -/
theorem notSafe_iff (w : BitVec 32) : notSafe w ↔ w ≠ 1#32 := by
  have hb : ∀ b : Bool, (Scalar.cmpi .ne (Scalar.extui (Scalar.xori (BitVec.ofBool b) 1#1)) 0#32 = 1#1) ↔ ¬ b = true := by decide
  exact (hb (w == 1#32)).trans (not_congr beq_iff_eq)

/-! ## Rows of a block -/

/-- The 2048 rows from row `o` of an array of 8192 rows. -/
def chunk {α : Type} (x : S8192x128.Idx → α) (o : ℕ) (h : o + 2048 ≤ 8192) : S2048x128.Idx → α :=
  window x ![o, 0] S2048x128.size (fun a => by fin_cases a <;> [exact h; exact Nat.le_refl 128])

/-- The 512 rows from row `o` of an array of 8192 rows. -/
def rows512 {α : Type} (x : S8192x128.Idx → α) (o : ℕ) (h : o + 512 ≤ 8192) : S512x128.Idx → α :=
  window x ![o, 0] S512x128.size (fun a => by fin_cases a <;> [exact h; exact Nat.le_refl 128])

/-- Slab `n` of the four slabs of transposed values. -/
def slab {α : Type} (x : S4x128x2048.Idx → α) (n : ℕ) (h : n + 1 ≤ 4) : S1x128x2048.Idx → α :=
  window x ![n, 0, 0] S1x128x2048.size (fun a => by fin_cases a <;> [exact h; exact Nat.le_refl 128; exact Nat.le_refl 2048])

/-- The four slabs hold the transposes of the four groups of 2048 rows of the values. -/
structure Slabs (V : Vec F S8192x128 .bf16) (d : Vec F S4x128x2048 .bf16) : Prop where
  s0 : slab d 0 (by decide) = k0_pay5 (chunk V 0 (by decide))
  s1 : slab d 1 (by decide) = k0_pay6 (chunk V 2048 (by decide))
  s2 : slab d 2 (by decide) = k0_pay7 (chunk V 4096 (by decide))
  s3 : slab d 3 (by decide) = k0_pay8 (chunk V 6144 (by decide))

/-! ## The block, scores taken as they are -/

/-- The output block from the queries, the keys and the transposed values held in the scratch. -/
def safeFrom (q : Vec F S1024x128 .bf16) (K : Vec F S8192x128 .bf16) (T0 T1 T2 T3 : Vec F S1x128x2048 .bf16) (C : Vec F S128x256 .bf16)
    (kc : Vec F S256x128 .bf16) (lam : Vec F S4x64 .f32) (sub : Vec F S1x128 .f32) : FVec F S1024x128 .bf16 :=
  let v7 := k0_pay3 q
  let v10 := k0_pay4 q
  let K0 : Vec F S2048x128 .bf16 := chunk K 0 (by decide)
  let K1 : Vec F S2048x128 .bf16 := chunk K 2048 (by decide)
  let K2 : Vec F S2048x128 .bf16 := chunk K 4096 (by decide)
  let K3 : Vec F S2048x128 .bf16 := chunk K 6144 (by decide)
  k0_pay37
    (k0_pay31 v10 (k0_pay27 v10 (k0_pay16 v10 K0 T0) K1 T1 K2 T2) K3 T3)
    (k0_pay32 v10 (k0_pay28 v10 (k0_pay17 v10 K0) K1 K2) K3) C (k0_pay34 v10 kc) (k0_pay35 v10 kc)
    (k0_pay36 v7 (k0_pay24 v7 (k0_pay13 v7 K0 T0) (k0_pay19 v7 K1) (k0_pay21 T1) K2 T2)
      (k0_pay25 v7 (k0_pay14 v7 K0) (k0_pay20 v7 K1) K2) (k0_pay29 v7 K3) T3 C kc) lam sub

/-- The output block from the queries, keys and values, scores taken as they are. -/
def safeBlock (q : Vec F S1024x128 .bf16) (K V : Vec F S8192x128 .bf16) (kc vc : Vec F S256x128 .bf16)
    (lam : Vec F S4x64 .f32) (sub : Vec F S1x128 .f32) : FVec F S1024x128 .bf16 :=
  safeFrom q K (k0_pay5 (chunk V 0 (by decide))) (k0_pay6 (chunk V 2048 (by decide))) (k0_pay7 (chunk V 4096 (by decide)))
    (k0_pay8 (chunk V 6144 (by decide))) (k0_pay9 vc) kc lam sub

/-- Slabs that hold the transposed values give the block of the values. -/
theorem safeFrom_slabs {q : Vec F S1024x128 .bf16} {K V : Vec F S8192x128 .bf16} {kc vc : Vec F S256x128 .bf16}
    {lam : Vec F S4x64 .f32} {sub : Vec F S1x128 .f32} {d : Vec F S4x128x2048 .bf16} {d1 : Vec F S128x256 .bf16} (h : Slabs V d) (h1 : d1 = k0_pay9 vc) :
    safeFrom q K (slab d 0 (by decide)) (slab d 1 (by decide)) (slab d 2 (by decide)) (slab d 3 (by decide)) d1 kc lam sub
      = safeBlock q K V kc vc lam sub := by
  rw [h.s0, h.s1, h.s2, h.s3, h1]; rfl

/-! ## The block, with a running maximum -/

/-- What is carried from step to step: the running maximum, the sum of the weights and the weighted values, for each of the two maps. -/
abbrev Carried (F : FTy → Type) [FloatOps F] : Type :=
  FVec F S1024x1 .f32 × FVec F S1024x1 .f32 × FVec F S1024x128 .f32 × FVec F S1024x1 .f32 × FVec F S1024x1 .f32 × FVec F S1024x128 .f32

/-- One step over 512 keys. -/
def onStep (v7 v10 : Vec F S1024x128 .bf16) (k v : Vec F S512x128 .bf16) (a : Carried F) : Carried F :=
  (k0_pay45 v7 a.1 k, k0_pay48 v7 a.1 a.2.1 k, k0_pay49 v7 a.1 a.2.2.1 k v,
    k0_pay51 v10 a.2.2.2.1 k, k0_pay54 v10 a.2.2.2.1 a.2.2.2.2.1 k, k0_pay55 v10 a.2.2.2.1 a.2.2.2.2.2 k v)

/-- What is carried before step `n`. -/
def onState (v7 v10 : Vec F S1024x128 .bf16) (K V : Vec F S8192x128 .bf16) : ℕ → Carried F
  | 0 => (k0_pay38, k0_pay39, k0_pay40, k0_pay41, k0_pay42, k0_pay43)
  | n + 1 => if h : 512 * n + 512 ≤ 8192 then onStep v7 v10 (rows512 K (512 * n) h) (rows512 V (512 * n) h) (onState v7 v10 K V n) else onState v7 v10 K V n

/-- The output block from what is carried after the last step and the context keys and values. -/
def onFinish (v7 v10 : Vec F S1024x128 .bf16) (a : Carried F) (kc vc : Vec F S256x128 .bf16) (lam : Vec F S4x64 .f32) (sub : Vec F S1x128 .f32) :
    FVec F S1024x128 .bf16 :=
  k0_pay68 a.2.2.2.2.2 vc (k0_pay60 v7 a.1 a.2.1 kc) (k0_pay61 v7 a.1 a.2.2.1 kc vc) (k0_pay64 v10 a.2.2.2.1 kc)
    (k0_pay65 v10 a.2.2.2.1 kc) (k0_pay66 v10 a.2.2.2.1 a.2.2.2.2.1 kc) (k0_pay67 v10 a.2.2.2.1 kc) lam sub

/-- The output block with a running maximum. -/
def onlineBlock (q : Vec F S1024x128 .bf16) (K V : Vec F S8192x128 .bf16) (kc vc : Vec F S256x128 .bf16)
    (lam : Vec F S4x64 .f32) (sub : Vec F S1x128 .f32) : FVec F S1024x128 .bf16 :=
  onFinish (k0_pay3 q) (k0_pay4 q) (onState (k0_pay3 q) (k0_pay4 q) K V 16) kc vc lam sub

/-- The output block by the flag. -/
def attnBlock (q : Vec F S1024x128 .bf16) (K V : Vec F S8192x128 .bf16) (kc vc : Vec F S256x128 .bf16) (flag : BitVec 32)
    (lam : Vec F S4x64 .f32) (sub : Vec F S1x128 .f32) : FVec F S1024x128 .bf16 :=
  if flag = 1#32 then safeBlock q K V kc vc lam sub else onlineBlock q K V kc vc lam sub

/-! ## The four slabs after their four stores -/

section Stored
variable {sg : RefSig} {κ : Kind} {sp : Space} (v : View sg κ sp S4x128x2048 .bf16) (f : v.ty.Contents (Elt F)) (p0 p1 p2 p3 : Vec F S1x128x2048 .bf16)

/-- The four stores, the last one first. -/
abbrev stores4 : List ((R : Rect S4x128x2048) × (R.shape.Idx → Elt F .bf16)) :=
  [⟨Rect.unit ![3, 0, 0] S1x128x2048.size inb_S4x128x2048_S1x128x2048_3_0_0, p3⟩, ⟨Rect.unit ![2, 0, 0] S1x128x2048.size inb_S4x128x2048_S1x128x2048_2_0_0, p2⟩,
    ⟨Rect.unit ![1, 0, 0] S1x128x2048.size inb_S4x128x2048_S1x128x2048_1_0_0, p1⟩, ⟨Rect.unit ![0, 0, 0] S1x128x2048.size inb_S4x128x2048_S1x128x2048_0_0_0, p0⟩]

/-- A window apart from the last store, along axis 0, reads what the stores before it left. -/
theorem slab_skip (k n : ℕ) (inb) (w : Vec F S1x128x2048 .bf16) (L : List ((R : Rect S4x128x2048) × (R.shape.Idx → Elt F .bf16))) (h : n + 1 ≤ 4) (hk : n < k) :
    slab (v.read (Elt F) (v.writes (Elt F) f (⟨Rect.unit ![k, 0, 0] S1x128x2048.size inb, w⟩ :: L))) n h = slab (v.read (Elt F) (v.writes (Elt F) f L)) n h := by
  unfold slab
  rw [View.read_writes_cons_put _ _ _ _ _ rfl]
  exact window_put_of_disjoint _ _ _ _ _ _ _ (0 : Fin 3) (Or.inl hk)

/-- The window of the last store reads its payload. -/
theorem slab_hit (n : ℕ) (inb) (w : Vec F S1x128x2048 .bf16) (L : List ((R : Rect S4x128x2048) × (R.shape.Idx → Elt F .bf16))) (h : n + 1 ≤ 4) :
    slab (v.read (Elt F) (v.writes (Elt F) f (⟨Rect.unit ![n, 0, 0] S1x128x2048.size inb, w⟩ :: L))) n h = w := by
  unfold slab
  rw [View.read_writes_cons_put _ _ _ _ _ rfl]
  exact window_put_same _ _ _ _ _

/-- After the four stores each slab holds the payload stored there. -/
theorem slab_stored : slab (v.read (Elt F) (v.writes (Elt F) f (stores4 p0 p1 p2 p3))) 0 (by decide) = p0
    ∧ slab (v.read (Elt F) (v.writes (Elt F) f (stores4 p0 p1 p2 p3))) 1 (by decide) = p1
    ∧ slab (v.read (Elt F) (v.writes (Elt F) f (stores4 p0 p1 p2 p3))) 2 (by decide) = p2
    ∧ slab (v.read (Elt F) (v.writes (Elt F) f (stores4 p0 p1 p2 p3))) 3 (by decide) = p3 := by
  refine ⟨?_, ?_, ?_, slab_hit _ _ _ _ _ _ _⟩
  · rw [slab_skip _ _ _ _ _ _ _ _ (by decide), slab_skip _ _ _ _ _ _ _ _ (by decide), slab_skip _ _ _ _ _ _ _ _ (by decide), slab_hit]
  · rw [slab_skip _ _ _ _ _ _ _ _ (by decide), slab_skip _ _ _ _ _ _ _ _ (by decide), slab_hit]
  · rw [slab_skip _ _ _ _ _ _ _ _ (by decide), slab_hit]

/-- A load of slab `n` after stores reads what the slab holds. -/
theorem cov_slab (n : ℕ) (inb) (h : n + 1 ≤ 4) (L : List ((R : Rect S4x128x2048) × (R.shape.Idx → Elt F .bf16))) :
    v.readCov L (Rect.unit (s := S4x128x2048) ![n, 0, 0] S1x128x2048.size inb).toLoadRect = slab (v.read (Elt F) (v.writes (Elt F) v.junk L)) n h := by
  unfold View.readCov
  rw [View.readAt_unit v _ inb rfl inb]; rfl

end Stored

/-! ## Loads read windows -/

/-- A load at a rectangle of a buffer holding `x` reads that window of `x`. -/
theorem load_window {sig : RefSig} {κ : Kind} {sp : Space} {s : Shape} {e : EltTy} {Val : EltTy → Type} {m : Memref sig κ sp s e} (h : m.IsWhole)
    (x : s.Idx → Val e) {off size : Fin s.rank → ℕ} (inb : ∀ a, off a + size a ≤ s.size a) :
    m.view.readAt Val (Rect.unit off size inb).toLoadRect (h.unread x) = window x off size inb := by
  rw [View.readAt_unit m.view _ inb rfl inb, h.read_unread]

/-- A load of all of a buffer holding `x` reads `x`. -/
theorem load_full {sig : RefSig} {κ : Kind} {sp : Space} {s : Shape} {e : EltTy} {Val : EltTy → Type} {m : Memref sig κ sp s e} (h : m.IsWhole)
    (x : s.Idx → Val e) {off : Fin s.rank → ℕ} (inb : ∀ a, off a + s.size a ≤ s.size a) :
    m.view.readAt Val (Rect.unit off s.size inb).toLoadRect (h.unread x) = x := by
  rw [View.readAt_full, h.read_unread]

/-- The window at offset zero of all of an array is the array. -/
theorem window_all {α : Type} {s : Shape} (x : s.Idx → α) (off size : Fin s.rank → ℕ) (inb : ∀ a, off a + size a ≤ s.size a)
    (h0 : ∀ a, off a = 0) (hs : size = s.size) : window x off size inb = hs ▸ x := by
  subst hs
  funext y
  exact congrArg x (funext fun a => Fin.ext (by show off a + 1 * (y a).val = (y a).val; rw [h0 a]; omega))

/-- The window that is all of an array of shape 1024×128 is the array. -/
theorem window_S1024x128 {α : Type} (x : S1024x128.Idx → α) (inb) : window (s := S1024x128) x ![0, 0] ![1024, 128] inb = x :=
  window_all x _ _ inb (fun a => by fin_cases a <;> rfl) rfl

/-- The window that is all of an array of shape 256×128 is the array. -/
theorem window_S256x128 {α : Type} (x : S256x128.Idx → α) (inb) : window (s := S256x128) x ![0, 0] ![256, 128] inb = x :=
  window_all x _ _ inb (fun a => by fin_cases a <;> rfl) rfl

/-- The window that is all of an array of shape 128×256 is the array. -/
theorem window_S128x256 {α : Type} (x : S128x256.Idx → α) (inb) : window (s := S128x256) x ![0, 0] ![128, 256] inb = x :=
  window_all x _ _ inb (fun a => by fin_cases a <;> rfl) rfl

/-- The window that is all of an array of shape 4×64 is the array. -/
theorem window_S4x64 {α : Type} (x : S4x64.Idx → α) (inb) : window (s := S4x64) x ![0, 0] ![4, 64] inb = x :=
  window_all x _ _ inb (fun a => by fin_cases a <;> rfl) rfl

/-- The window that is all of an array of shape 1×128 is the array. -/
theorem window_S1x128 {α : Type} (x : S1x128.Idx → α) (inb) : window (s := S1x128) x ![0, 0] ![1, 128] inb = x :=
  window_all x _ _ inb (fun a => by fin_cases a <;> rfl) rfl

end Cert.KernelIdeal.Hand

end
-- ==== Proof.KI.Runs.lean ====
/- The kernel's body at one grid point, run on blocks with known contents: what it leaves in the output block and in the two scratch
   buffers, in each of its three cases. -/
module

public import proofs.«01_k».proof.Proof.KI.Blocks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1024x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S256x128 .bf16) (harg6 : arg6.IsWhole) (arg7 : Memref sig .tc .vmem S256x128 .bf16) (harg7 : arg7.IsWhole)
  (arg8 : Memref sig .tc .smem S1 .i32) (harg8 : arg8.IsWhole) (arg9 : Memref sig .tc .vmem S4x64 .f32) (harg9 : arg9.IsWhole) (arg10 : Memref sig .tc .vmem S1x128 .f32) (harg10 : arg10.IsWhole)
  (arg11 : Memref sig .tc .vmem S1024x128 .bf16) (harg11 : arg11.IsWhole) (arg12 : Memref sig .tc .vmem S4x128x2048 .bf16) (harg12 : arg12.IsWhole) (arg13 : Memref sig .tc .vmem S128x256 .bf16) (harg13 : arg13.IsWhole)
  (x0 : Vec F S1024x128 .bf16) (x1 x2 : Vec F S8192x128 .bf16) (x3 x4 : Vec F S256x128 .bf16) (x5 : Vec F S1 .i32) (x6 : Vec F S4x64 .f32) (x7 : Vec F S1x128 .f32)
  (s0 : Vec F S4x128x2048 .bf16) (s1 : Vec F S128x256 .bf16)

/-- The flag, as the body reads it from a block of one word. -/
abbrev flagOf (x5 : Vec F S1 .i32) : BitVec 32 := x5 (Shape.Idx.first (numel1_S1.symm ▸ Nat.one_pos))

/-- A buffer holding the contents that read `x` is held at `x`. -/
theorem owns_unread (c : Dev nD) {sp : Space} {s : Shape} {e : EltTy} {m : Memref sig .tc sp s e} (h : m.IsWhole) (x : Vec F s e) :
    (m.view.loc (c : Thread nD τ) ↦[m.view.set]{fullShare} h.unread x : sProp 𝕄) ⊢ iprop(∃ f, ⌜m.view.read (Elt F) f = x⌝ ∗ (m.view.loc (c : Thread nD τ) ↦[m.view.set]{fullShare} f)) := by
  iintro H
  iexists _
  isplitr
  · ipureintro; exact h.read_unread x
  iexact H

/-- The eight input blocks, held at known contents. -/
abbrev Inputs (c : Dev nD) (arg3 : Memref sig .tc .vmem S1024x128 .bf16) (arg4 arg5 : Memref sig .tc .vmem S8192x128 .bf16) (arg6 arg7 : Memref sig .tc .vmem S256x128 .bf16)
    (arg8 : Memref sig .tc .smem S1 .i32) (arg9 : Memref sig .tc .vmem S4x64 .f32) (arg10 : Memref sig .tc .vmem S1x128 .f32)
    (x0 : Vec F S1024x128 .bf16) (x1 x2 : Vec F S8192x128 .bf16) (x3 x4 : Vec F S256x128 .bf16) (x5 : Vec F S1 .i32) (x6 : Vec F S4x64 .f32) (x7 : Vec F S1x128 .f32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7)

set_option maxHeartbeats 4000000 in
/-- Scores taken as they are, at a later block of queries: the scratch is read as it is and left as it is. -/
theorem run_safe_later (hc1 : ¬ firstQ i) (hc0 : flagOf x5 = 1#32) (E : Set ℕ) (K : PUnit → sProp 𝕄) :
    iprop(Inputs c arg3 arg4 arg5 arg6 arg7 arg8 arg9 arg10 x0 x1 x2 x3 x4 x5 x6 x7 ∗ (∃ d, owns (c : Thread nD τ) arg11 fullShare d) ∗ owns (c : Thread nD τ) arg12 fullShare s0 ∗ owns (c : Thread nD τ) arg13 fullShare s1
        ∗ (iprop(Inputs c arg3 arg4 arg5 arg6 arg7 arg8 arg9 arg10 x0 x1 x2 x3 x4 x5 x6 x7 ∗ owns (c : Thread nD τ) arg11 fullShare (safeFrom x0 x1 (slab s0 0 (by decide)) (slab s0 1 (by decide)) (slab s0 2 (by decide)) (slab s0 3 (by decide)) s1 x3 x6 x7) ∗ owns (c : Thread nD τ) arg12 fullShare s0 ∗ owns (c : Thread nD τ) arg13 fullShare s1) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := mt (notSafe_iff _).1 (not_not.2 hc0)
  replace hc0 := (isSafe_iff _).2 hc0
  simp only [cc0_diff_attn_eq_skeleton]; unfold cc0_diff_attn_skel
  simp only [k0_part4_eq_skeleton, k0_part1_eq_skeleton, k0_part2_eq_skeleton, k0_part3_eq_skeleton, k0_part5_eq_skeleton, k0_part6_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  obtain rfl := harg12.eq_unread hfs0; obtain rfl := harg13.eq_unread hfs1
  sl_exec (disch := first | sl_exact hc0 | sl_exact hc1 | sl_exact hc2)
  sl_step
  iapply Hk
  isplitl [H0 H1 H2 H3 H4 H5 H6 H7]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    isplitl [H5]; · iapply (owns_unread c harg8 _); iexact H5
    isplitl [H6]; · iapply (owns_unread c harg9 _); iexact H6
    iapply (owns_unread c harg10 _); iexact H7
  isplitl [H8]
  · iexists _; isplitr
    swap; · iexact H8
    · ipureintro
      refine (View.read_writes_full arg11.view f8 _ _ []).trans ?_
      sl_unfold_words
      simp only [load_window, window_S1024x128, window_S256x128, window_S128x256, window_S4x64, window_S1x128]
      rfl
  isplitl [HS0]
  · iapply (owns_unread c harg12 _); iexact HS0
  · iapply (owns_unread c harg13 _); iexact HS1

set_option maxHeartbeats 4000000 in
/-- Scores taken as they are, at the first block of queries of a head: the scratch receives the transposed values. -/
theorem run_safe_first (hc1 : firstQ i) (hc0 : flagOf x5 = 1#32) (E : Set ℕ) (K : PUnit → sProp 𝕄) :
    iprop(Inputs c arg3 arg4 arg5 arg6 arg7 arg8 arg9 arg10 x0 x1 x2 x3 x4 x5 x6 x7 ∗ (∃ d, owns (c : Thread nD τ) arg11 fullShare d) ∗ owns (c : Thread nD τ) arg12 fullShare s0 ∗ owns (c : Thread nD τ) arg13 fullShare s1
        ∗ (iprop(Inputs c arg3 arg4 arg5 arg6 arg7 arg8 arg9 arg10 x0 x1 x2 x3 x4 x5 x6 x7 ∗ owns (c : Thread nD τ) arg11 fullShare (safeBlock x0 x1 x2 x3 x4 x6 x7) ∗ (∃ d, ⌜Slabs x2 d⌝ ∗ owns (c : Thread nD τ) arg12 fullShare d) ∗ owns (c : Thread nD τ) arg13 fullShare (k0_pay9 x4)) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := mt (notSafe_iff _).1 (not_not.2 hc0)
  replace hc0 := (isSafe_iff _).2 hc0
  simp only [cc0_diff_attn_eq_skeleton]; unfold cc0_diff_attn_skel
  simp only [k0_part4_eq_skeleton, k0_part1_eq_skeleton, k0_part2_eq_skeleton, k0_part3_eq_skeleton, k0_part5_eq_skeleton, k0_part6_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  obtain rfl := harg12.eq_unread hfs0; obtain rfl := harg13.eq_unread hfs1
  sl_exec (disch := first | sl_exact hc0 | sl_exact hc1 | sl_exact hc2)
  sl_step
  iapply Hk
  isplitl [H0 H1 H2 H3 H4 H5 H6 H7]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    isplitl [H5]; · iapply (owns_unread c harg8 _); iexact H5
    isplitl [H6]; · iapply (owns_unread c harg9 _); iexact H6
    iapply (owns_unread c harg10 _); iexact H7
  isplitl [H8]
  · iexists _; isplitr
    swap; · iexact H8
    · ipureintro
      refine (View.read_writes_full arg11.view f8 _ _ []).trans ?_
      sl_unfold_words
      rw [View.readCov_full, cov_slab _ 0 _ (by decide), cov_slab _ 1 _ (by decide), cov_slab _ 2 _ (by decide), cov_slab _ 3 _ (by decide),
        (slab_stored _ _ _ _ _ _).1, (slab_stored _ _ _ _ _ _).2.1, (slab_stored _ _ _ _ _ _).2.2.1, (slab_stored _ _ _ _ _ _).2.2.2]
      simp only [load_window, window_S1024x128, window_S256x128, window_S128x256, window_S4x64, window_S1x128]
      rfl
  isplitl [HS0]
  · iexists _
    isplitr
    swap
    · iexists _
      isplitr
      swap; · iexact HS0
      ipureintro; rfl
    · ipureintro
      sl_unfold_words
      have h := slab_stored arg12.view (harg12.unread s0)
        (k0_pay5 (arg5.view.readAt (Elt F) (Rect.unit (s := S8192x128) ![0, 0] S2048x128.size inb_S8192x128_S2048x128_0_0).toLoadRect (harg5.unread x2)))
        (k0_pay6 (arg5.view.readAt (Elt F) (Rect.unit (s := S8192x128) ![2048, 0] S2048x128.size inb_S8192x128_S2048x128_2048_0).toLoadRect (harg5.unread x2)))
        (k0_pay7 (arg5.view.readAt (Elt F) (Rect.unit (s := S8192x128) ![4096, 0] S2048x128.size inb_S8192x128_S2048x128_4096_0).toLoadRect (harg5.unread x2)))
        (k0_pay8 (arg5.view.readAt (Elt F) (Rect.unit (s := S8192x128) ![6144, 0] S2048x128.size inb_S8192x128_S2048x128_6144_0).toLoadRect (harg5.unread x2)))
      exact ⟨h.1.trans (congrArg _ (load_window harg5 x2 _)), h.2.1.trans (congrArg _ (load_window harg5 x2 _)),
        h.2.2.1.trans (congrArg _ (load_window harg5 x2 _)), h.2.2.2.trans (congrArg _ (load_window harg5 x2 _))⟩
  · iexists _; isplitr
    swap; · iexact HS1
    · ipureintro
      sl_unfold_words
      refine (View.read_writes_full arg13.view _ _ _ []).trans (congrArg _ ?_)
      exact load_full harg7 x4 _

/-- The loop makes sixteen trips. -/
theorem trips_eq : k0_t1_loop.trips = 16 := by decide

/-- One trip of the loop is one step over the 512 keys and values it loads. -/
theorem trip_eq (v7 v10 : Vec F S1024x128 .bf16) (k : Fin k0_t1_loop.trips) (h : 512 * k.val + 512 ≤ 8192) (a : Carried F) :
    tripR_k0_t1 (F := F) Variants.none c none i arg3 harg3 arg4 harg4 arg5 harg5 arg6 harg6 arg7 harg7 arg8 harg8 arg9 harg9 arg10 harg10 arg11 harg11 arg12 harg12 arg13 harg13 v7 v10 (harg4.unread x1) (harg5.unread x2) k a
      = onStep v7 v10 (rows512 x1 (512 * k.val) h) (rows512 x2 (512 * k.val) h) a := by
  have e4 : arg4.view.readAt (Elt F) (Rect.unit (s := S8192x128) (k0_off1 k) S512x128.size (k0_off1_inb k)).toLoadRect (harg4.unread x1) = rows512 x1 (512 * k.val) h := by
    rw [View.readAt_unit _ _ _ (k0_off1_eq k), harg4.read_unread]; rfl
  have e5 : arg5.view.readAt (Elt F) (Rect.unit (s := S8192x128) (k0_off1 k) S512x128.size (k0_off1_inb k)).toLoadRect (harg5.unread x2) = rows512 x2 (512 * k.val) h := by
    rw [View.readAt_unit _ _ _ (k0_off1_eq k), harg5.read_unread]; rfl
  unfold tripR_k0_t1 trip_k0_t1
  sl_unfold_words
  refine Eq.trans (b := onStep v7 v10 _ _ a) (rfl : _ = onStep v7 v10 (arg4.view.readAt (Elt F) (Rect.unit (s := S8192x128) (k0_off1 k) S512x128.size (k0_off1_inb k)).toLoadRect (harg4.unread x1)) (arg5.view.readAt (Elt F) (Rect.unit (s := S8192x128) (k0_off1 k) S512x128.size (k0_off1_inb k)).toLoadRect (harg5.unread x2)) a) ?_
  rw [e4, e5]

/-- Before trip `n` the loop carries the state before step `n`. -/
theorem state_eq (v7 v10 : Vec F S1024x128 .bf16) (n : ℕ) (hn : n ≤ 16) :
    st_k0_t1 (F := F) Variants.none c none i arg3 harg3 arg4 harg4 arg5 harg5 arg6 harg6 arg7 harg7 arg8 harg8 arg9 harg9 arg10 harg10 arg11 harg11 arg12 harg12 arg13 harg13 v7 v10 (harg4.unread x1) (harg5.unread x2) (k0_pay38, k0_pay39, k0_pay40, k0_pay41, k0_pay42, k0_pay43) n
      = onState v7 v10 x1 x2 n := by
  induction n with
  | zero => rfl
  | succ n ih =>
    have hk : n < k0_t1_loop.trips := by rw [trips_eq]; omega
    refine (st_k0_t1_succ (F := F) Variants.none c none i arg3 harg3 arg4 harg4 arg5 harg5 arg6 harg6 arg7 harg7 arg8 harg8 arg9 harg9 arg10 harg10 arg11 harg11 arg12 harg12 arg13 harg13 v7 v10 (harg4.unread x1) (harg5.unread x2) _ ⟨n, hk⟩).trans ?_
    have h : 512 * n + 512 ≤ 8192 := by omega
    rw [trip_eq c i arg3 harg3 arg4 harg4 arg5 harg5 arg6 harg6 arg7 harg7 arg8 harg8 arg9 harg9 arg10 harg10 arg11 harg11 arg12 harg12 arg13 harg13 x1 x2 v7 v10 ⟨n, hk⟩ h, ih (by omega), onState, dif_pos h]

set_option maxHeartbeats 4000000 in
/-- With a running maximum: the scratch is not touched. -/
theorem run_online (hc0 : flagOf x5 ≠ 1#32) (E : Set ℕ) (K : PUnit → sProp 𝕄) :
    iprop(Inputs c arg3 arg4 arg5 arg6 arg7 arg8 arg9 arg10 x0 x1 x2 x3 x4 x5 x6 x7 ∗ (∃ d, owns (c : Thread nD τ) arg11 fullShare d) ∗ owns (c : Thread nD τ) arg12 fullShare s0 ∗ owns (c : Thread nD τ) arg13 fullShare s1
        ∗ (iprop(Inputs c arg3 arg4 arg5 arg6 arg7 arg8 arg9 arg10 x0 x1 x2 x3 x4 x5 x6 x7 ∗ owns (c : Thread nD τ) arg11 fullShare (onlineBlock x0 x1 x2 x3 x4 x6 x7) ∗ owns (c : Thread nD τ) arg12 fullShare s0 ∗ owns (c : Thread nD τ) arg13 fullShare s1) -∗ K ⟨⟩))
      ⊢ wp frame (wpE (defs₀ (F := F)) Variants.none c none) E (cc0_diff_attn i arg3 harg3 arg4 harg4 arg5 harg5 arg6 harg6 arg7 harg7 arg8 harg8 arg9 harg9 arg10 harg10 arg11 harg11 arg12 harg12 arg13 harg13) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := (notSafe_iff _).2 hc0
  replace hc0 := mt (isSafe_iff _).1 hc0
  simp only [cc0_diff_attn_eq_skeleton]; unfold cc0_diff_attn_skel
  simp only [k0_part4_eq_skeleton, k0_part1_eq_skeleton, k0_part2_eq_skeleton, k0_part3_eq_skeleton, k0_part5_eq_skeleton, k0_part6_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
  obtain rfl := harg12.eq_unread hfs0; obtain rfl := harg13.eq_unread hfs1
  sl_exec (disch := first | sl_exact hc0 | sl_exact hc2)
  sl_step
  iapply Hk
  isplitl [H0 H1 H2 H3 H4 H5 H6 H7]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    isplitl [H5]; · iapply (owns_unread c harg8 _); iexact H5
    isplitl [H6]; · iapply (owns_unread c harg9 _); iexact H6
    iapply (owns_unread c harg10 _); iexact H7
  isplitl [H8]
  · iexists _; isplitr
    swap; · iexact H8
    · ipureintro
      refine (View.read_writes_full arg11.view f8 _ _ []).trans ?_
      sl_unfold_words
      simp only [load_window, window_S1024x128, window_S256x128, window_S128x256, window_S4x64, window_S1x128]
      exact congrArg (fun a => onFinish (k0_pay3 x0) (k0_pay4 x0) a x3 x4 x6 x7)
        ((congrArg (st_k0_t1 Variants.none c none i arg3 harg3 arg4 harg4 arg5 harg5 arg6 harg6 arg7 harg7 arg8 harg8 arg9 harg9 arg10 harg10 arg11 harg11 arg12 harg12 arg13 harg13 (k0_pay3 x0) (k0_pay4 x0) (harg4.unread x1) (harg5.unread x2) (k0_pay38, k0_pay39, k0_pay40, k0_pay41, k0_pay42, k0_pay43)) trips_eq).trans
          (state_eq c i arg3 harg3 arg4 harg4 arg5 harg5 arg6 harg6 arg7 harg7 arg8 harg8 arg9 harg9 arg10 harg10 arg11 harg11 arg12 harg12 arg13 harg13 x1 x2 (k0_pay3 x0) (k0_pay4 x0) 16 le_rfl))
  isplitl [HS0]
  · iapply (owns_unread c harg12 _); iexact HS0
  · iapply (owns_unread c harg13 _); iexact HS1
end Cert.KernelIdeal.Hand

end
-- ==== Proof.KI.Launch.lean ====
/- What the kernel's windows hold at each grid point, as parts of the argument arrays, and the kernel's run: its result array holds,
   block by block, the attention block of the point. -/
module

public import proofs.«01_k».proof.Proof.KI.Runs
public import Idealize.ShloMosaic.Lib.Pipeline
public import Idealize.ShloMosaic.Lib.Claim
public import Idealize.ShloMosaic.Lib.ValueIdx

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- The `n` rows from row `r`, and the 128 columns from column `c`, of the projected array. -/
def tile {α : Type} (x : S16896x2560.Idx → α) (n r c : ℕ) (hr : r + n ≤ 16896) (hc : c + 128 ≤ 2560) : (⟨2, ![n, 128]⟩ : Shape).Idx → α :=
  fun y => x (ix2 ⟨r + (y 0).val, lt_of_lt_of_le (Nat.add_lt_add_left (y 0).isLt r) hr⟩ ⟨c + (y 1).val, lt_of_lt_of_le (Nat.add_lt_add_left (y 1).isLt c) hc⟩)

/-- A tile depends on its offsets only. -/
theorem tile_congr {α : Type} (x : S16896x2560.Idx → α) (n : ℕ) {r r' c c' : ℕ} (hr : r + n ≤ 16896) (hc : c + 128 ≤ 2560) (er : r = r') (ec : c = c') :
    tile x n r c hr hc = tile x n r' c' (er ▸ hr) (ec ▸ hc) := by
  subst er ec; rfl

theorem lt64 (t : Fin cfg0.N) : t.val < 64 := Nat.lt_of_lt_of_eq t.isLt N_0

theorem index0 : ∀ t : Fin cfg0.N, win0_0.index t 0 = t.val / 32 * 8 + t.val % 8 ∧ win0_0.index t 1 = t.val / 8 % 4 :=
  (by decide +kernel : ∀ t : Fin grid0.N, win0_0.index t 0 = t.val / 32 * 8 + t.val % 8 ∧ win0_0.index t 1 = t.val / 8 % 4)
theorem index1 : ∀ t : Fin cfg0.N, win0_1.index t 0 = t.val / 32 ∧ win0_1.index t 1 = 4 + t.val / 8 % 4 :=
  (by decide +kernel : ∀ t : Fin grid0.N, win0_1.index t 0 = t.val / 32 ∧ win0_1.index t 1 = 4 + t.val / 8 % 4)
theorem index2 : ∀ t : Fin cfg0.N, win0_2.index t 0 = t.val / 32 ∧ win0_2.index t 1 = 8 + t.val / 8 % 4 :=
  (by decide +kernel : ∀ t : Fin grid0.N, win0_2.index t 0 = t.val / 32 ∧ win0_2.index t 1 = 8 + t.val / 8 % 4)
theorem index3 : ∀ t : Fin cfg0.N, win0_3.index t 0 = 64 + t.val / 32 ∧ win0_3.index t 1 = 4 + t.val / 8 % 4 :=
  (by decide +kernel : ∀ t : Fin grid0.N, win0_3.index t 0 = 64 + t.val / 32 ∧ win0_3.index t 1 = 4 + t.val / 8 % 4)
theorem index4 : ∀ t : Fin cfg0.N, win0_4.index t 0 = 64 + t.val / 32 ∧ win0_4.index t 1 = 8 + t.val / 8 % 4 :=
  (by decide +kernel : ∀ t : Fin grid0.N, win0_4.index t 0 = 64 + t.val / 32 ∧ win0_4.index t 1 = 8 + t.val / 8 % 4)
theorem index8 : ∀ t : Fin cfg0.N, (win0_8.index t 0 = t.val / 32 * 8 + t.val % 8 ∧ win0_8.xsize (grid0.coords t) 0 = 1024) ∧ win0_8.index t 1 = t.val / 8 % 4 ∧ win0_8.xsize (grid0.coords t) 1 = 128 :=
  (by decide +kernel : ∀ t : Fin grid0.N, (win0_8.index t 0 = t.val / 32 * 8 + t.val % 8 ∧ win0_8.xsize (grid0.coords t) 0 = 1024) ∧ win0_8.index t 1 = t.val / 8 % 4 ∧ win0_8.xsize (grid0.coords t) 1 = 128)

/-- Window 0 holds the queries. -/
theorem block0 (c : Dev nD) (t : Fin cfg0.N) : (X0_0 m c t : Vec F S1024x128 .bf16) = tile (m ((c : Thread nD τ).loc main_arg0)) 1024 (1024 * (t.val / 32 * 8 + t.val % 8)) (128 * (t.val / 8 % 4)) (by have := lt64 t; omega) (by have := lt64 t; omega) := by
  have hi := index0 t
  funext y
  unfold X0_0 Pipeline.Window.fill
  rw [dif_pos (moved0_0 t y)]
  unfold iblk tile
  rw [View.read_apply]
  show V m c main_arg0 _ = m (c.tc.loc main_arg0) _
  unfold V
  congr 1
  funext a
  apply Fin.ext
  match a with
  | ⟨0, _⟩ => show win0_0.index t 0 * 1024 + 1 * (y 0).val = 1024 * (t.val / 32 * 8 + t.val % 8) + (y 0).val; rw [hi.1]; omega
  | ⟨1, _⟩ => show win0_0.index t 1 * 128 + 1 * (y 1).val = 128 * (t.val / 8 % 4) + (y 1).val; rw [hi.2]; omega

/-- Window 1 holds the keys. -/
theorem block1 (c : Dev nD) (t : Fin cfg0.N) : (X0_1 m c t : Vec F S8192x128 .bf16) = tile (m ((c : Thread nD τ).loc main_arg0)) 8192 (8192 * (t.val / 32)) (128 * (4 + t.val / 8 % 4)) (by have := lt64 t; omega) (by have := lt64 t; omega) := by
  have hi := index1 t
  funext y
  unfold X0_1 Pipeline.Window.fill
  rw [dif_pos (moved0_1 t y)]
  unfold iblk tile
  rw [View.read_apply]
  show V m c main_arg0 _ = m (c.tc.loc main_arg0) _
  unfold V
  congr 1
  funext a
  apply Fin.ext
  match a with
  | ⟨0, _⟩ => show win0_1.index t 0 * 8192 + 1 * (y 0).val = 8192 * (t.val / 32) + (y 0).val; rw [hi.1]; omega
  | ⟨1, _⟩ => show win0_1.index t 1 * 128 + 1 * (y 1).val = 128 * (4 + t.val / 8 % 4) + (y 1).val; rw [hi.2]; omega

/-- Window 2 holds the values. -/
theorem block2 (c : Dev nD) (t : Fin cfg0.N) : (X0_2 m c t : Vec F S8192x128 .bf16) = tile (m ((c : Thread nD τ).loc main_arg0)) 8192 (8192 * (t.val / 32)) (128 * (8 + t.val / 8 % 4)) (by have := lt64 t; omega) (by have := lt64 t; omega) := by
  have hi := index2 t
  funext y
  unfold X0_2 Pipeline.Window.fill
  rw [dif_pos (moved0_2 t y)]
  unfold iblk tile
  rw [View.read_apply]
  show V m c main_arg0 _ = m (c.tc.loc main_arg0) _
  unfold V
  congr 1
  funext a
  apply Fin.ext
  match a with
  | ⟨0, _⟩ => show win0_2.index t 0 * 8192 + 1 * (y 0).val = 8192 * (t.val / 32) + (y 0).val; rw [hi.1]; omega
  | ⟨1, _⟩ => show win0_2.index t 1 * 128 + 1 * (y 1).val = 128 * (8 + t.val / 8 % 4) + (y 1).val; rw [hi.2]; omega

/-- Window 3 holds the context keys. -/
theorem block3 (c : Dev nD) (t : Fin cfg0.N) : (iblk m c 3 t : Vec F S256x128 .bf16) = tile (m ((c : Thread nD τ).loc main_arg0)) 256 (256 * (64 + t.val / 32)) (128 * (4 + t.val / 8 % 4)) (by have := lt64 t; omega) (by have := lt64 t; omega) := by
  have hi := index3 t
  funext y
  unfold iblk tile
  rw [View.read_apply]
  show V m c main_arg0 _ = m (c.tc.loc main_arg0) _
  unfold V
  congr 1
  funext a
  apply Fin.ext
  match a with
  | ⟨0, _⟩ => show win0_3.index t 0 * 256 + 1 * (y 0).val = 256 * (64 + t.val / 32) + (y 0).val; rw [hi.1]; omega
  | ⟨1, _⟩ => show win0_3.index t 1 * 128 + 1 * (y 1).val = 128 * (4 + t.val / 8 % 4) + (y 1).val; rw [hi.2]; omega

/-- Window 4 holds the context values. -/
theorem block4 (c : Dev nD) (t : Fin cfg0.N) : (iblk m c 4 t : Vec F S256x128 .bf16) = tile (m ((c : Thread nD τ).loc main_arg0)) 256 (256 * (64 + t.val / 32)) (128 * (8 + t.val / 8 % 4)) (by have := lt64 t; omega) (by have := lt64 t; omega) := by
  have hi := index4 t
  funext y
  unfold iblk tile
  rw [View.read_apply]
  show V m c main_arg0 _ = m (c.tc.loc main_arg0) _
  unfold V
  congr 1
  funext a
  apply Fin.ext
  match a with
  | ⟨0, _⟩ => show win0_4.index t 0 * 256 + 1 * (y 0).val = 256 * (64 + t.val / 32) + (y 0).val; rw [hi.1]; omega
  | ⟨1, _⟩ => show win0_4.index t 1 * 128 + 1 * (y 1).val = 128 * (8 + t.val / 8 % 4) + (y 1).val; rw [hi.2]; omega

/-- Window 5 holds all of its array. -/
theorem block5 (c : Dev nD) (t : Fin cfg0.N) : (iblk m c 5 t : Vec F S1 .i32) = m ((c : Thread nD τ).loc main_arg1) := by
  funext y
  unfold iblk
  rw [View.read_apply]
  show V m c main_arg1 _ = m (c.tc.loc main_arg1) _
  unfold V
  congr 1
  funext a
  apply Fin.ext
  match a with
  | ⟨0, _⟩ => show 0 * 1 + 1 * (y 0).val = (y 0).val; omega

/-- Window 6 holds all of its array. -/
theorem block6 (c : Dev nD) (t : Fin cfg0.N) : (iblk m c 6 t : Vec F S4x64 .f32) = m ((c : Thread nD τ).loc main_arg2) := by
  funext y
  unfold iblk
  rw [View.read_apply]
  show V m c main_arg2 _ = m (c.tc.loc main_arg2) _
  unfold V
  congr 1
  funext a
  apply Fin.ext
  match a with
  | ⟨0, _⟩ => show 0 * 4 + 1 * (y 0).val = (y 0).val; omega
  | ⟨1, _⟩ => show 0 * 64 + 1 * (y 1).val = (y 1).val; omega

/-- Window 7 holds all of its array. -/
theorem block7 (c : Dev nD) (t : Fin cfg0.N) : (iblk m c 7 t : Vec F S1x128 .f32) = m ((c : Thread nD τ).loc main_arg3) := by
  funext y
  unfold iblk
  rw [View.read_apply]
  show V m c main_arg3 _ = m (c.tc.loc main_arg3) _
  unfold V
  congr 1
  funext a
  apply Fin.ext
  match a with
  | ⟨0, _⟩ => show 0 * 1 + 1 * (y 0).val = (y 0).val; omega
  | ⟨1, _⟩ => show 0 * 128 + 1 * (y 1).val = (y 1).val; omega

/-! ## The block of the point, and what the scratch holds -/

/-- The flag word. -/
abbrev flag (c : Dev nD) (t : Fin cfg0.N) : BitVec 32 := flagOf (F := F) (iblk m c 5 t)

/-- The attention block of point `t`. -/
def pointOut (c : Dev nD) (t : Fin cfg0.N) : Vec F S1024x128 .bf16 :=
  attnBlock (X0_0 m c t) (X0_1 m c t) (X0_2 m c t) (iblk m c 3 t) (iblk m c 4 t) (flag m c t) (iblk m c 6 t) (iblk m c 7 t)

/-- What the scratch is known to hold before point `p`: within a head's eight blocks of queries, after the first, the transposed
    values and context values, when the flag is one. -/
def Carry (c : Dev nD) (p : ℕ) (d0 : Vec F S4x128x2048 .bf16) (d1 : Vec F S128x256 .bf16) : Prop :=
  ∀ t : Fin cfg0.N, t.val = p → t.val % 8 ≠ 0 → flag m c t = 1#32 → Slabs (X0_2 m c t) d0 ∧ d1 = k0_pay9 (iblk m c 4 t)

/-- The flag is the same word at every point. -/
theorem flag_eq (c : Dev nD) (t t' : Fin cfg0.N) : flag m c t = flag m c t' :=
  congrFun ((block5 m c t).trans (block5 m c t').symm) _

/-- Within a head the values do not change from one point to the next, -/
theorem values_step (c : Dev nD) (t t' : Fin cfg0.N) (h : t'.val = t.val + 1) (h' : t'.val % 8 ≠ 0) :
    (X0_2 m c t' : Vec F S8192x128 .bf16) = X0_2 m c t := by
  rw [block2, block2]
  exact tile_congr _ _ _ _ (by omega) (by omega)

/-- nor do the context values. -/
theorem ctx_step (c : Dev nD) (t t' : Fin cfg0.N) (h : t'.val = t.val + 1) (h' : t'.val % 8 ≠ 0) :
    (iblk m c 4 t' : Vec F S256x128 .bf16) = iblk m c 4 t := by
  rw [block4, block4]
  exact tile_congr _ _ _ _ (by omega) (by omega)

/-- What the scratch holds after a point it is known to hold before the next. -/
theorem carry_next (c : Dev nD) (t : Fin cfg0.N) (d0 : Vec F S4x128x2048 .bf16) (d1 : Vec F S128x256 .bf16)
    (h : flag m c t = 1#32 → Slabs (X0_2 m c t) d0 ∧ d1 = k0_pay9 (iblk m c 4 t)) : Carry m c (t.val + 1) d0 d1 := by
  intro t' ht' h8 hf
  rw [values_step m c t t' ht' h8, ctx_step m c t t' ht' h8]
  exact h ((flag_eq m c t t').trans hf)

/-! ## The proof data -/

abbrev scM0_0 : Memref sig .tc .vmem S4x128x2048 .bf16 := Memref.whole cc0_scratch0
abbrev scM0_1 : Memref sig .tc .vmem S128x256 .bf16 := Memref.whole cc0_scratch1
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .bf16 := win0_8.stage (cfg0.slots t 8)
abbrev hs0_8 (t : Fin cfg0.N) : (ms0_8 t).IsWhole := hstage0_8 ((cfg0.slots t 8).cast nbuf0_8)

/-- The invariant of the run before point `p`. -/
def inv (c : Dev nD) (p : ℕ) : sProp 𝕄 :=
  iprop((∃ d0 d1, ⌜Carry m c p d0 d1⌝ ∗ owns (c : Thread nD τ) scM0_0 fullShare d0 ∗ owns (c : Thread nD τ) scM0_1 fullShare d1) ∗ (∃ r, prngReg c r))

/-- The kernel's scratch and generator register, spelled out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data: each input's buffer at its block, the output's at the attention block of the point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => pointOut m c t
  Φ p := inv m c p.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = pointOut m c t := by dsimp only [dats]
theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = X0_1 m c t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The first block of queries of a head is at the points divisible by eight. -/
theorem firstQ_iff (t : Fin cfg0.N) : firstQ (grid0.coords t) ↔ t.val % 8 = 0 := by
  have ht : t.val < 64 := lt64 t
  have e2 : (grid0.coords t 2).val = t.val / 1 % 8 := Pipeline.Grid.coords_val t 2 (by decide) rfl
  simp only [firstQ, e2]
  word_cmp

set_option maxHeartbeats 4800000 in
/-- The body at any point leaves the attention block in the output's buffer and keeps the invariant: by the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8]
  rw [show (dats m 0 c).Φ t.castSucc = inv m c t.val from rfl, show (dats m 0 c).Φ t.succ = inv m c (t.val + 1) from rfl]
  unfold inv
  iintro ⟨⟨⟨%e0, %e1, %hC, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases hf : flag m c t = 1#32
  · by_cases h8 : t.val % 8 = 0
    · have ho : pointOut m c t = safeBlock (X0_0 m c t) (X0_1 m c t) (X0_2 m c t) (iblk m c 3 t) (iblk m c 4 t) (iblk m c 6 t) (iblk m c 7 t) := if_pos hf
      rw [ho]
      iapply (run_safe_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (X0_0 m c t) (X0_1 m c t) (X0_2 m c t) (iblk m c 3 t) (iblk m c 4 t) (iblk m c 5 t) (iblk m c 6 t) (iblk m c 7 t) e0 e1 ((firstQ_iff t).2 h8) hf Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS0]; · iexact HS0
      isplitl [HS1]; · iexact HS1
      iintro ⟨⟨H0, H1, H2, H3, H4, H5, H6, H7⟩, H8, ⟨%e2, %he0, HS0⟩, HS1⟩
      isplitl [HS0 HS1 Hg]
      · isplitl [HS0 HS1]
        · iexists _; iexists _
          isplitr; swap
          · isplitl [HS0]; · iexact HS0
            iexact HS1
          ipureintro
          exact carry_next m c t _ _ (fun _ => ⟨he0, rfl⟩)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · obtain ⟨hS, h1⟩ := hC t rfl h8 hf
      have ho : pointOut m c t = safeFrom (X0_0 m c t) (X0_1 m c t) (slab e0 0 (by decide)) (slab e0 1 (by decide)) (slab e0 2 (by decide)) (slab e0 3 (by decide)) e1 (iblk m c 3 t) (iblk m c 6 t) (iblk m c 7 t) :=
        (if_pos hf).trans (safeFrom_slabs hS h1).symm
      rw [ho]
      iapply (run_safe_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (X0_0 m c t) (X0_1 m c t) (X0_2 m c t) (iblk m c 3 t) (iblk m c 4 t) (iblk m c 5 t) (iblk m c 6 t) (iblk m c 7 t) e0 e1 (fun h => h8 ((firstQ_iff t).1 h)) hf Set.univ _)
      isplitl [H0 H1 H2 H3 H4 H5 H6 H7]
      · isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      isplitl [H8]; · iexists _; iexact H8
      isplitl [HS0]; · iexact HS0
      isplitl [HS1]; · iexact HS1
      iintro ⟨⟨H0, H1, H2, H3, H4, H5, H6, H7⟩, H8, HS0, HS1⟩
      isplitl [HS0 HS1 Hg]
      · isplitl [HS0 HS1]
        · iexists _; iexists _
          isplitr; swap
          · isplitl [HS0]; · iexact HS0
            iexact HS1
          ipureintro
          exact carry_next m c t _ _ (fun _ => ⟨hS, h1⟩)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have ho : pointOut m c t = onlineBlock (X0_0 m c t) (X0_1 m c t) (X0_2 m c t) (iblk m c 3 t) (iblk m c 4 t) (iblk m c 6 t) (iblk m c 7 t) := if_neg hf
    rw [ho]
    iapply (run_online c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (X0_0 m c t) (X0_1 m c t) (X0_2 m c t) (iblk m c 3 t) (iblk m c 4 t) (iblk m c 5 t) (iblk m c 6 t) (iblk m c 7 t) e0 e1 hf Set.univ _)
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists _; iexact H8
    isplitl [HS0]; · iexact HS0
    isplitl [HS1]; · iexact HS1
    iintro ⟨⟨H0, H1, H2, H3, H4, H5, H6, H7⟩, H8, HS0, HS1⟩
    isplitl [HS0 HS1 Hg]
    · isplitl [HS0 HS1]
      · iexists _; iexists _
        isplitr; swap
        · isplitl [HS0]; · iexact HS0
          iexact HS1
        ipureintro
        exact carry_next m c t _ _ (fun h => absurd h hf)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The call of the body at a point is the body on the point's buffers. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is known of the scratch. -/
theorem inv_start (c : Dev nD) : (Pipeline.ΦA spec0 c : sProp 𝕄) ⊢ inv m c 0 := by
  rw [PhiA0_eq]
  unfold inv
  iintro ⟨⟨⟨%d0, H0⟩, ⟨%d1, H1⟩⟩, Hg⟩
  isplitl [H0 H1]
  · iexists _; iexists _
    isplitr; swap
    · isplitl [H0]; · iexact H0
      iexact H1
    ipureintro
    intro t ht h8
    exact absurd (by rw [ht]) h8
  iexact Hg

/-- After the last point the scratch is given back. -/
theorem inv_end (c : Dev nD) (p : ℕ) : inv m c p ⊢ (Pipeline.ΦA spec0 c : sProp 𝕄) := by
  rw [PhiA0_eq]
  unfold inv
  iintro ⟨⟨%d0, %d1, -, H0, H1⟩, Hg⟩
  isplitl [H0 H1]
  · isplitl [H0]
    · iexists _; iexact H0
    iexists _; iexact H1
  iexact Hg

set_option backward.isDefEq.respectTransparency.types false in
/-- Every execution ends with the arrays as the proof data say and every semaphore counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_start m c) (hout := fun c => inv_end m c _)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-! ## The result array -/

/-- The grid point that writes an index of the result. -/
def ptOf (i : S16384x512.Idx) : Fin cfg0.N :=
  ⟨(i 0).val / 8192 * 32 + (i 1).val / 128 * 8 + (i 0).val % 8192 / 1024, by
    have h0 : (i 0).val < 16384 := (i 0).isLt
    have h1 : (i 1).val < 512 := (i 1).isLt
    have hN : cfg0.N = 64 := N_0
    omega⟩

/-- The index within its block. -/
def inBlk (i : S16384x512.Idx) : S1024x128.Idx :=
  ix2 (⟨(i 0).val % 1024, Nat.mod_lt _ (by decide)⟩ : Fin 1024) (⟨(i 1).val % 128, Nat.mod_lt _ (by decide)⟩ : Fin 128)

/-- The result: at each index the attention block of its point. -/
def result (c : Dev nD) : Vec F S16384x512 .bf16 := fun i => pointOut m c (ptOf i) (inBlk i)

/-- What a point writes back is its block of the result. -/
theorem flushed_eq (c : Dev nD) (t : Fin cfg0.N) :
    (dats m 0 c).flushed 8 t = (win0_8.blk t).view.read (Elt F) (result m c) := by
  show (cfg0.win 8).cut (grid0.coords t) ((dats m 0 c).after 8 t) = _
  rw [after0_8]
  funext y
  rw [View.read_apply]
  have hi := index8 t
  have ht := lt64 t
  have y0 : (y 0).val < 1024 := lt_of_lt_of_eq (y 0).isLt hi.1.2
  have y1 : (y 1).val < 128 := lt_of_lt_of_eq (y 1).isLt hi.2.2
  obtain ⟨z, hz, z0, z1⟩ : ∃ z : S16384x512.Idx, (win0_8.blk t).view.emb y = z ∧ (z 0).val = 1024 * (t.val / 32 * 8 + t.val % 8) + (y 0).val ∧ (z 1).val = 128 * (t.val / 8 % 4) + (y 1).val := by
    refine ⟨_, rfl, ?_, ?_⟩
    · show win0_8.index t 0 * 1024 + 1 * (y 0).val = _; rw [hi.1.1]; omega
    · show win0_8.index t 1 * 128 + 1 * (y 1).val = _; rw [hi.2.1]; omega
  rw [hz]
  have hp : ptOf z = t := by
    apply Fin.ext
    show (z 0).val / 8192 * 32 + (z 1).val / 128 * 8 + (z 0).val % 8192 / 1024 = t.val
    omega
  show pointOut m c t _ = pointOut m c (ptOf z) (inBlk z)
  rw [hp]
  congr 1
  funext a
  apply Fin.ext
  match a with
  | ⟨0, _⟩ => show (y 0).val = (z 0).val % 1024; omega
  | ⟨1, _⟩ => show (y 1).val = (z 1).val % 128; omega

/-- An index of the result lies in its point's block. -/
theorem mem_blk (i : S16384x512.Idx) : i ∈ (win0_8.blk (ptOf i)).view.set := by
  show i ∈ ((View.whole main_v0).slice (win0_8.rect (ptOf i))).set
  rw [View.set_slice_whole, Rect.mem_set_unit]
  have hi := index8 (ptOf i)
  have h0 : (i 0).val < 16384 := (i 0).isLt
  have h1 : (i 1).val < 512 := (i 1).isLt
  have hp : (ptOf i).val = (i 0).val / 8192 * 32 + (i 1).val / 128 * 8 + (i 0).val % 8192 / 1024 := rfl
  intro a
  match a with
  | ⟨0, _⟩ =>
    show win0_8.index (ptOf i) 0 * 1024 ≤ (i 0 : ℕ) ∧ (i 0 : ℕ) < win0_8.index (ptOf i) 0 * 1024 + win0_8.xsize (grid0.coords (ptOf i)) 0
    rw [hi.1.1, hi.1.2, hp]; omega
  | ⟨1, _⟩ =>
    show win0_8.index (ptOf i) 1 * 128 ≤ (i 1 : ℕ) ∧ (i 1 : ℕ) < win0_8.index (ptOf i) 1 * 128 + win0_8.xsize (grid0.coords (ptOf i)) 1
    rw [hi.2.1, hi.2.2, hp]; omega

/-- The result array ends holding the result. -/
theorem final_out (c : Dev nD) : (dats m 0 c).arrAt 8 cfg0.N = result m c :=
  (dats m 0 c).arrAt_eq_of_cover 8 (result m c) (fun t _ => flushed_eq m c t) (fun i => ⟨ptOf i, flush0_8 _, mem_blk i⟩)

/-- The run, read: the result array at the result, the arguments unchanged. -/
theorem run : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.1 c).1 8).trans (final_out m c), h.2.1 c⟩)
    (θ_run_and (run_quiescent m ρ) (frame m ρ))

end Cert.KernelIdeal.Hand

end
-- ==== Proof.K.Frame.lean ====
/- The kernel's frame at its own formats. The kernel and the program the algebraic claim reads are one program, printed twice, and
   the frame of that program holds for any float values. -/
module

public import proofs.«01_k».proof.Defs
public import proofs.«01_k».proof.Proof.Gen.Kernel
public import proofs.«01_k».proof.Proof.KI.Launch

@[expose] public section

set_option maxRecDepth 16384

noncomputable section

namespace Cert.Kernel.Hand

open Idealize.ShloMosaic
open Cert.Kernel.Gen Cert.KernelIdeal.Gen

/-- The two programs' body tables are equal. -/
theorem bodies_same : Cert.Kernel.defs₀ (F := Bits) = Cert.KernelIdeal.defs₀ (F := Bits) := by
  unfold Cert.Kernel.defs₀ Cert.KernelIdeal.defs₀
  refine congrArg (Defs.onTc (sig := Cert.KernelIdeal.sig)) (funext fun l => funext fun a => ?_)
  rcases l with ⟨_ | n, hl⟩
  · rcases a with ⟨t, s⟩
    show Cert.Kernel.cc0_diff_attn (F := Bits) _ _ _ _ _ _ _ _ _ _ _ _ _ _ _ _ _ _ _ _ _ _ _ = Cert.KernelIdeal.cc0_diff_attn (F := Bits) _ _ _ _ _ _ _ _ _ _ _ _ _ _ _ _ _ _ _ _ _ _ _
    rfl
  · exact absurd hl (Nat.not_lt.2 (Nat.le_add_left _ _))

theorem tables_same : Cert.Kernel.defs (F := Bits) = Cert.KernelIdeal.defs (F := Bits) :=
  congrArg (Pipeline.defs (Cert.KernelIdeal.pcfgs (F := Bits))) bodies_same

theorem mains_same : Cert.Kernel.main (F := Bits) = Cert.KernelIdeal.main (F := Bits) := rfl

/-- The kernel's frame. -/
theorem frame : Cert.quiescent_Kernel := fun m g _ => by
  rw [tables_same]
  exact Cert.KernelIdeal.Hand.frame (F := Bits) m g

end Cert.Kernel.Hand

end
-- ==== Proof.KI.Reals.lean ====
/- Arrays of two axes whose entries are real numbers, at the ideal values. `cv f` is the array with entry `f i j` at row `i` and
   column `j`, the coordinates being natural numbers. Each operation of the kernel on such arrays gives such an array again, and
   the lemmas say which. -/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.IdealHost
public import Mathlib.Analysis.SpecialFunctions.Pow.Real

@[expose] public section

set_option maxRecDepth 16384

noncomputable section

namespace Cert.KernelIdeal.Hand

open Idealize.ShloMosaic Idealize.ShloMosaic.ValueIdx
open scoped BigOperators

/-- The array of the real numbers `f i j`. -/
def cv (φ : FTy) {a b : ℕ} (f : ℕ → ℕ → ℝ) : FVec Ideal (⟨2, ![a, b]⟩ : Shape) φ :=
  fun y => ((f (y 0).val (y 1).val : ℝ) : EReal)

theorem cv_apply (φ : FTy) {a b : ℕ} (f : ℕ → ℕ → ℝ) (y : (⟨2, ![a, b]⟩ : Shape).Idx) :
    cv φ f y = ((f (y 0).val (y 1).val : ℝ) : EReal) := rfl

/-- Two such arrays are equal where their entries are. -/
theorem cv_congr (φ : FTy) {a b : ℕ} {f g : ℕ → ℕ → ℝ} (h : ∀ i j, i < a → j < b → f i j = g i j) :
    (cv φ f : FVec Ideal (⟨2, ![a, b]⟩ : Shape) φ) = cv φ g :=
  funext fun y => congrArg _ (h _ _ (idx2_lt0 y) (idx2_lt1 y))

theorem coe_sum_fin (n : ℕ) (f : ℕ → ℝ) : (∑ k : Fin n, ((f k.val : ℝ) : EReal)) = ((∑ k ∈ Finset.range n, f k : ℝ) : EReal) := by
  rw [Fin.sum_univ_eq_sum_range (fun k => ((f k : ℝ) : EReal)) n]
  induction n with
  | zero => simp
  | succ n ih => rw [Finset.sum_range_succ, Finset.sum_range_succ, ih, EReal.coe_add]

/-! ## Entry by entry -/

variable {a b : ℕ} {φ : FTy}

theorem cv_addf (f g : ℕ → ℕ → ℝ) :
    addf (cv φ f : FVec Ideal (⟨2, ![a, b]⟩ : Shape) φ) (cv φ g) = cv φ fun i j => f i j + g i j := rfl

theorem cv_subf (f g : ℕ → ℕ → ℝ) :
    subf (cv φ f : FVec Ideal (⟨2, ![a, b]⟩ : Shape) φ) (cv φ g) = cv φ fun i j => f i j - g i j := rfl

theorem cv_mulf (f g : ℕ → ℕ → ℝ) :
    mulf (cv φ f : FVec Ideal (⟨2, ![a, b]⟩ : Shape) φ) (cv φ g) = cv φ fun i j => f i j * g i j := rfl

theorem cv_maximumf (f g : ℕ → ℕ → ℝ) :
    maximumf (cv φ f : FVec Ideal (⟨2, ![a, b]⟩ : Shape) φ) (cv φ g) = cv φ fun i j => max (f i j) (g i j) :=
  funext fun y => (EReal.coe_strictMono.monotone.map_max).symm

theorem cv_exp2 (f : ℕ → ℕ → ℝ) :
    exp2 (cv φ f : FVec Ideal (⟨2, ![a, b]⟩ : Shape) φ) = cv φ fun i j => (2 : ℝ) ^ f i j := rfl

theorem cv_truncf (f : ℕ → ℕ → ℝ) (h : FTy.bf16.bits < FTy.f32.bits) :
    truncf .bf16 (cv .f32 f : FVec Ideal (⟨2, ![a, b]⟩ : Shape) .f32) h = cv .bf16 f := rfl

/-- A quotient, where the divisor is nowhere zero. -/
theorem cv_divf (f g : ℕ → ℕ → ℝ) (h : ∀ i j, i < a → j < b → g i j ≠ 0) :
    divf (cv φ f : FVec Ideal (⟨2, ![a, b]⟩ : Shape) φ) (cv φ g) = cv φ fun i j => f i j / g i j :=
  funext fun y => by
    show Ideal.div _ _ = _
    rw [cv_apply, cv_apply, Ideal.div_coe (h _ _ (idx2_lt0 y) (idx2_lt1 y)), cv_apply, ← EReal.coe_mul, mul_one_div]

/-! ## Layout -/

theorem cv_transpose (f : ℕ → ℕ → ℝ) (perm : List (Fin (⟨2, ![a, b]⟩ : Shape).rank)) (h : (⟨2, ![a, b]⟩ : Shape).Transposes perm ⟨2, ![b, a]⟩)
    (hp : perm = [1, 0]) : transpose (⟨2, ![b, a]⟩ : Shape) perm (cv φ f) h = cv φ fun i j => f j i := by
  subst hp
  exact funext fun y => transpose_apply [1, 0] (cv φ f) h y (ix2 (y 1) (y 0)) fun d => match d with | 0 => rfl | 1 => rfl

/-- The last axis of a one-row array repeated down the rows. -/
theorem cv_broadcastRow (f : ℕ → ℕ → ℝ) (h : (⟨2, ![1, b]⟩ : Shape).Broadcasts ⟨2, ![a, b]⟩) :
    broadcastTo (⟨2, ![a, b]⟩ : Shape) (cv φ f) h = cv φ fun _ j => f 0 j :=
  funext fun y => broadcastTo_apply (cv φ f) h y (ix2 0 (y 1)) fun d => match d with
    | 0 => (if_pos rfl).symm
    | 1 => by
      show (y 1).val = if b = 1 then 0 else (y 1).val
      have := idx2_lt1 y
      split <;> omega

/-- The only column of an array repeated along the rows. -/
theorem cv_broadcastCol (f : ℕ → ℕ → ℝ) (h : (⟨2, ![a, 1]⟩ : Shape).Broadcasts ⟨2, ![a, b]⟩) :
    broadcastTo (⟨2, ![a, b]⟩ : Shape) (cv φ f) h = cv φ fun i _ => f i 0 :=
  funext fun y => broadcastTo_apply (cv φ f) h y (ix2 (y 0) 0) fun d => match d with
    | 0 => by
      show (y 0).val = if a = 1 then 0 else (y 0).val
      have := idx2_lt0 y
      split <;> omega
    | 1 => (if_pos rfl).symm

/-! ## Sums and largest entries -/

/-- The sums of the columns, as one row. -/
theorem cv_sumCols (f : ℕ → ℕ → ℝ) (axes : List (Fin (⟨2, ![a, b]⟩ : Shape).rank)) (h : (⟨2, ![a, b]⟩ : Shape).Reduces axes ⟨1, ![b]⟩) (ha : axes = [0]) (hφ : FKind.Formats FTy.f32)
    (acc : BitVec FTy.f32.bits) (hacc : acc = 0x00000000#32) (hc : (⟨1, ![b]⟩ : Shape).ShapeCasts ⟨2, ![1, b]⟩) :
    shapeCast (⟨2, ![1, b]⟩ : Shape) (multiReduction .add axes ⟨1, ![b]⟩ (cv .f32 f : FVec Ideal (⟨2, ![a, b]⟩ : Shape) .f32) acc h hφ hacc) hc
      = cv .f32 fun _ j => ∑ i ∈ Finset.range a, f i j := by
  subst ha
  funext y
  obtain ⟨j, rfl⟩ : ∃ j : Fin b, y = ix2 (0 : Fin 1) j := ⟨y 1, (eq_ix2 y).trans (congrArg (ix2 · (y 1)) (Subsingleton.elim (α := Fin 1) _ _))⟩
  refine (shapeCast_a_1a_apply _ hc 0 j).trans ((Ideal.multiReduction_add_single _ _ h hφ hacc _).trans ?_)
  exact coe_sum_fin a fun i => f i j.val

/-- The sums of the rows, as one column. -/
theorem cv_sumRows (f : ℕ → ℕ → ℝ) (axes : List (Fin (⟨2, ![a, b]⟩ : Shape).rank)) (h : (⟨2, ![a, b]⟩ : Shape).Reduces axes ⟨1, ![a]⟩) (ha : axes = [1]) (hφ : FKind.Formats FTy.f32)
    (acc : BitVec FTy.f32.bits) (hacc : acc = 0x00000000#32) (hc : (⟨1, ![a]⟩ : Shape).ShapeCasts ⟨2, ![a, 1]⟩) :
    shapeCast (⟨2, ![a, 1]⟩ : Shape) (multiReduction .add axes ⟨1, ![a]⟩ (cv .f32 f : FVec Ideal (⟨2, ![a, b]⟩ : Shape) .f32) acc h hφ hacc) hc
      = cv .f32 fun i _ => ∑ j ∈ Finset.range b, f i j := by
  subst ha
  funext y
  obtain ⟨i, rfl⟩ : ∃ i : Fin a, y = ix2 i (0 : Fin 1) := ⟨y 0, (eq_ix2 y).trans (congrArg (ix2 (y 0)) (Subsingleton.elim (α := Fin 1) _ _))⟩
  refine (shapeCast_a_a1_apply _ hc i 0).trans ((Ideal.multiReduction_add_single _ _ h hφ hacc _).trans ?_)
  exact coe_sum_fin b fun j => f i.val j

/-- The largest of finitely many real numbers and minus infinity is a real number, if there is one at all. -/
theorem fold_max_real {ι : Type*} (s : Finset ι) (hs : s.Nonempty) (f : ι → ℝ) :
    ∃ r : ℝ, s.fold max (⊥ : EReal) (fun k => ((f k : ℝ) : EReal)) = (r : EReal) := by
  classical
  induction hs using Finset.Nonempty.cons_induction with
  | singleton k => exact ⟨f k, by simp⟩
  | cons k s hk _ ih =>
    obtain ⟨r, hr⟩ := ih
    exact ⟨max (f k) r, by rw [Finset.fold_cons, hr, EReal.coe_strictMono.monotone.map_max]⟩

theorem ofBits_negInf : (FloatOps.ofBits FTy.f32 0xFF800000#32 : Ideal .f32) = (⊥ : EReal) := by
  show Ideal.ieee 8 23 (0xFF800000#32) = _
  simp [Ideal.ieee]

/-- The largest entries of the rows, as one column: real numbers. -/
theorem cv_maxRows (f : ℕ → ℕ → ℝ) (hb : 0 < b) (axes : List (Fin (⟨2, ![a, b]⟩ : Shape).rank)) (h : (⟨2, ![a, b]⟩ : Shape).Reduces axes ⟨1, ![a]⟩) (ha : axes = [1]) (hφ : FKind.Formats FTy.f32)
    (acc : BitVec FTy.f32.bits) (hacc : acc = 0xFF800000#32) (hc : (⟨1, ![a]⟩ : Shape).ShapeCasts ⟨2, ![a, 1]⟩) :
    ∃ g : ℕ → ℕ → ℝ,
      shapeCast (⟨2, ![a, 1]⟩ : Shape) (multiReduction .maximumf axes ⟨1, ![a]⟩ (cv .f32 f : FVec Ideal (⟨2, ![a, b]⟩ : Shape) .f32) acc h hφ hacc) hc
        = cv .f32 g := by
  haveI : Nonempty (Fin b) := ⟨⟨0, hb⟩⟩
  choose g hg using fun i : ℕ => fold_max_real (Finset.univ : Finset (Fin b)) Finset.univ_nonempty fun j => f i j.val
  refine ⟨fun i _ => g i, ?_⟩
  subst ha
  funext y
  obtain ⟨i, rfl⟩ : ∃ i : Fin a, y = ix2 i (0 : Fin 1) := ⟨y 0, (eq_ix2 y).trans (congrArg (ix2 (y 0)) (Subsingleton.elim (α := Fin 1) _ _))⟩
  refine (shapeCast_a_a1_apply _ hc i 0).trans ((Ideal.multiReduction_maximumf_single _ _ h hφ hacc _).trans ?_)
  rw [show (FloatOps.ofBits FTy.f32 acc : Ideal .f32) = (⊥ : EReal) from (congrArg (FloatOps.ofBits FTy.f32) hacc).trans ofBits_negInf]
  exact hg i.val

/-! ## Products -/

/-- A product whose right operand is held transposed. -/
theorem cv_matmulT {M K N : ℕ} (φ₁ φ₂ : FTy) (f g : ℕ → ℕ → ℝ) :
    matmul (DotDims.transposedRhs M K N) none (cv φ₁ f) (cv φ₂ g) (constant (⟨2, ![M, N]⟩ : Shape) .f32 0x00000000#32)
      = (cv .f32 fun i j => ∑ k ∈ Finset.range K, f i k * g j k) := by
  funext y
  rw [eq_ix2 y]
  refine (Ideal.matmul_transposedRhs_apply none _ _ _ _ _).trans ?_
  rw [show (constant (⟨2, ![M, N]⟩ : Shape) .f32 0x00000000#32 : FVec Ideal _ .f32) (ix2 (y 0) (y 1)) = 0 from Ideal.ofBits_zero_f32, zero_add]
  exact coe_sum_fin K fun k => f (y 0).val k * g (y 1).val k

/-- A plain product. -/
theorem cv_matmul {M K N : ℕ} (φ₁ φ₂ : FTy) (f g : ℕ → ℕ → ℝ) :
    matmul (DotDims.plain M K N) none (cv φ₁ f) (cv φ₂ g) (constant (⟨2, ![M, N]⟩ : Shape) .f32 0x00000000#32)
      = (cv .f32 fun i j => ∑ k ∈ Finset.range K, f i k * g k j) := by
  funext y
  rw [eq_ix2 y]
  refine (Ideal.matmul_plain_apply none _ _ _ _ _).trans ?_
  rw [show (constant (⟨2, ![M, N]⟩ : Shape) .f32 0x00000000#32 : FVec Ideal _ .f32) (ix2 (y 0) (y 1)) = 0 from Ideal.ofBits_zero_f32, zero_add]
  exact coe_sum_fin K fun k => f (y 0).val k * g k (y 1).val

/-! ## Splats -/

theorem cv_zeros : (broadcast (⟨2, ![a, b]⟩ : Shape) (Scalar.ofBits .f32 0x00000000#32 : Ideal .f32)) = cv .f32 fun _ _ => 0 :=
  funext fun _ => Ideal.ofBits_zero_f32

/-- The start of the running maximum is a real number. -/
theorem cv_start : ∃ r : ℝ, (broadcast (⟨2, ![a, b]⟩ : Shape) (Scalar.ofBits .f32 0xF149F2CA#32 : Ideal .f32)) = cv .f32 fun _ _ => r := by
  obtain ⟨r, hr⟩ : ∃ r : ℝ, Ideal.ieee 8 23 (0xF149F2CA#32) = (r : EReal) := by
    unfold Ideal.ieee
    simp only
    rw [if_neg (by decide), if_neg (by decide)]
    exact ⟨_, rfl⟩
  exact ⟨r, funext fun _ => hr⟩

/-! ## Arrays with infinite entries -/

/-- The array of the extended real numbers `f i j`. -/
def ev (φ : FTy) {a b : ℕ} (f : ℕ → ℕ → EReal) : FVec Ideal (⟨2, ![a, b]⟩ : Shape) φ := fun y => f (y 0).val (y 1).val

theorem cv_ev (φ : FTy) {a b : ℕ} (f : ℕ → ℕ → ℝ) : (cv φ f : FVec Ideal (⟨2, ![a, b]⟩ : Shape) φ) = ev φ fun i j => ((f i j : ℝ) : EReal) := rfl

theorem ev_congr (φ : FTy) {a b : ℕ} {f g : ℕ → ℕ → EReal} (h : ∀ i j, i < a → j < b → f i j = g i j) :
    (ev φ f : FVec Ideal (⟨2, ![a, b]⟩ : Shape) φ) = ev φ g :=
  funext fun y => h _ _ (idx2_lt0 y) (idx2_lt1 y)

theorem ev_addf (f g : ℕ → ℕ → EReal) :
    addf (ev φ f : FVec Ideal (⟨2, ![a, b]⟩ : Shape) φ) (ev φ g) = ev φ fun i j => f i j + g i j := rfl

theorem ev_mulf (f : ℕ → ℕ → ℝ) (g : ℕ → ℕ → EReal) :
    mulf (cv φ f : FVec Ideal (⟨2, ![a, b]⟩ : Shape) φ) (ev φ g) = ev φ fun i j => ((f i j : ℝ) : EReal) * g i j := rfl

/-- Division by real numbers, none of them zero. -/
theorem ev_divf (f : ℕ → ℕ → EReal) (g : ℕ → ℕ → ℝ) (h : ∀ i j, i < a → j < b → g i j ≠ 0) :
    divf (ev φ f : FVec Ideal (⟨2, ![a, b]⟩ : Shape) φ) (cv φ g) = ev φ fun i j => f i j * ((1 / g i j : ℝ) : EReal) :=
  funext fun y => Ideal.div_coe (h _ _ (idx2_lt0 y) (idx2_lt1 y)) _

theorem ev_transpose (f : ℕ → ℕ → EReal) (perm : List (Fin (⟨2, ![a, b]⟩ : Shape).rank)) (h : (⟨2, ![a, b]⟩ : Shape).Transposes perm ⟨2, ![b, a]⟩)
    (hp : perm = [1, 0]) : transpose (⟨2, ![b, a]⟩ : Shape) perm (ev φ f) h = ev φ fun i j => f j i := by
  subst hp
  exact funext fun y => transpose_apply [1, 0] (ev φ f) h y (ix2 (y 1) (y 0)) fun d => match d with | 0 => rfl | 1 => rfl

/-- A plain product. -/
theorem ev_matmul {M K N : ℕ} (φ₁ φ₂ : FTy) (f g : ℕ → ℕ → EReal) :
    matmul (DotDims.plain M K N) none (ev φ₁ f) (ev φ₂ g) (constant (⟨2, ![M, N]⟩ : Shape) .f32 0x00000000#32)
      = (ev .f32 fun i j => ∑ k ∈ Finset.range K, f i k * g k j) := by
  funext y
  rw [eq_ix2 y]
  refine (Ideal.matmul_plain_apply none _ _ _ _ _).trans ?_
  rw [show (constant (⟨2, ![M, N]⟩ : Shape) .f32 0x00000000#32 : FVec Ideal _ .f32) (ix2 (y 0) (y 1)) = 0 from Ideal.ofBits_zero_f32, zero_add]
  exact Fin.sum_univ_eq_sum_range (fun k => f (y 0).val k * g k (y 1).val) K

/-- The same with real numbers on the left, -/
theorem ev_matmul_right {M K N : ℕ} (φ₁ φ₂ : FTy) (f : ℕ → ℕ → ℝ) (g : ℕ → ℕ → EReal) :
    matmul (DotDims.plain M K N) none (cv φ₁ f) (ev φ₂ g) (constant (⟨2, ![M, N]⟩ : Shape) .f32 0x00000000#32)
      = (ev .f32 fun i j => ∑ k ∈ Finset.range K, ((f i k : ℝ) : EReal) * g k j) := by
  rw [cv_ev, ev_matmul]

/-- and on the right. -/
theorem ev_matmul_left {M K N : ℕ} (φ₁ φ₂ : FTy) (f : ℕ → ℕ → EReal) (g : ℕ → ℕ → ℝ) :
    matmul (DotDims.plain M K N) none (ev φ₁ f) (cv φ₂ g) (constant (⟨2, ![M, N]⟩ : Shape) .f32 0x00000000#32)
      = (ev .f32 fun i j => ∑ k ∈ Finset.range K, f i k * ((g k j : ℝ) : EReal)) := by
  rw [cv_ev, ev_matmul]

theorem ev_zeros : (broadcast (⟨2, ![a, b]⟩ : Shape) (Scalar.ofBits .f32 0x00000000#32 : Ideal .f32)) = ev .f32 fun _ _ => 0 :=
  funext fun _ => Ideal.ofBits_zero_f32

theorem coe_sum_range (n : ℕ) (f : ℕ → ℝ) : ((∑ k ∈ Finset.range n, f k : ℝ) : EReal) = ∑ k ∈ Finset.range n, ((f k : ℝ) : EReal) :=
  (coe_sum_fin n f).symm.trans (Fin.sum_univ_eq_sum_range (fun k => ((f k : ℝ) : EReal)) n)

/-- A positive real number distributes over a sum of extended real numbers. -/
theorem pos_mul_add {c : ℝ} (hc : 0 < c) (x y : EReal) : (c : EReal) * (x + y) = c * x + c * y :=
  EReal.left_distrib_of_nonneg_of_ne_top (EReal.coe_nonneg.2 hc.le) (EReal.coe_ne_top c) x y

theorem pos_mul_sum {c : ℝ} (hc : 0 < c) (n : ℕ) (f : ℕ → EReal) :
    (c : EReal) * ∑ k ∈ Finset.range n, f k = ∑ k ∈ Finset.range n, (c : EReal) * f k := by
  induction n with
  | zero => simp
  | succ n ih => rw [Finset.sum_range_succ, Finset.sum_range_succ, pos_mul_add hc, ih]

end Cert.KernelIdeal.Hand

end
-- ==== Proof.KI.Maps.lean ====
/- What one output block of the differential attention is, over the real numbers: two attention maps, each a quotient of two sums
   over all keys, then the part that follows them. The form of the kernel that exponentiates the scores as they are gives that. -/
module

public import proofs.«01_k».proof.Proof.KI.Blocks
public import proofs.«01_k».proof.Proof.KI.Reals

@[expose] public section

set_option maxRecDepth 16384

noncomputable section

namespace Cert.KernelIdeal.Hand

open Idealize.ShloMosaic Idealize.ShloMosaic.ValueIdx
open Idealize.ShloMosaic.VecWindow
open Cert.KernelIdeal.Gen
open scoped BigOperators

/-! ## The two maps over the real numbers -/

/-- The queries of the first map: the first 64 lanes. -/
def firstLanes (Q : ℕ → ℕ → ℝ) : ℕ → ℕ → ℝ := fun r d => if d < 64 then Q r d else 0

/-- The queries of the second map: the last 64 lanes. -/
def lastLanes (Q : ℕ → ℕ → ℝ) : ℕ → ℕ → ℝ := fun r d => if d < 64 then 0 else Q r d

/-- The score of key `k` for query `r`. -/
def score (q K : ℕ → ℕ → ℝ) (r k : ℕ) : ℝ := ∑ d ∈ Finset.range 128, q r d * K k d

/-- The weight of key `k` for query `r`, before division. -/
def weight (q K : ℕ → ℕ → ℝ) (r k : ℕ) : ℝ := (2 : ℝ) ^ score q K r k

theorem weight_pos (q K : ℕ → ℕ → ℝ) (r k : ℕ) : 0 < weight q K r k := Real.rpow_pos_of_pos (by norm_num) _

/-- The sum of all weights of query `r`: of 8192 keys, then of 256. -/
def total (q K Kc : ℕ → ℕ → ℝ) (r : ℕ) : ℝ :=
  ∑ k ∈ Finset.range 8192, weight q K r k + ∑ k ∈ Finset.range 256, weight q Kc r k

theorem total_pos (q K Kc : ℕ → ℕ → ℝ) (r : ℕ) : 0 < total q K Kc r :=
  add_pos (Finset.sum_pos (fun k _ => weight_pos q K r k) ⟨0, by simp⟩) (Finset.sum_pos (fun k _ => weight_pos q Kc r k) ⟨0, by simp⟩)

/-- The weighted sum of the values. -/
def mixed (q K V Kc Vc : ℕ → ℕ → ℝ) (r e : ℕ) : ℝ :=
  ∑ k ∈ Finset.range 8192, weight q K r k * V k e + ∑ k ∈ Finset.range 256, weight q Kc r k * Vc k e

/-- One attention map applied to the values. -/
def attend (q K V Kc Vc : ℕ → ℕ → ℝ) (r e : ℕ) : ℝ := mixed q K V Kc Vc r e / total q K Kc r

/-- The weighted sum of values that may be infinite. -/
def mixedE (q K : ℕ → ℕ → ℝ) (V : ℕ → ℕ → EReal) (Kc : ℕ → ℕ → ℝ) (Vc : ℕ → ℕ → EReal) (r e : ℕ) : EReal :=
  ∑ k ∈ Finset.range 8192, ((weight q K r k : ℝ) : EReal) * V k e + ∑ k ∈ Finset.range 256, ((weight q Kc r k : ℝ) : EReal) * Vc k e

/-- One attention map applied to values that may be infinite. -/
def attendE (q K : ℕ → ℕ → ℝ) (V : ℕ → ℕ → EReal) (Kc : ℕ → ℕ → ℝ) (Vc : ℕ → ℕ → EReal) (r e : ℕ) : EReal :=
  mixedE q K V Kc Vc r e * ((1 / total q K Kc r : ℝ) : EReal)

theorem attendE_coe (q K V Kc Vc : ℕ → ℕ → ℝ) (r e : ℕ) :
    attendE q K (fun k e => ((V k e : ℝ) : EReal)) Kc (fun k e => ((Vc k e : ℝ) : EReal)) r e = ((attend q K V Kc Vc r e : ℝ) : EReal) := by
  have h : mixedE q K (fun k e => ((V k e : ℝ) : EReal)) Kc (fun k e => ((Vc k e : ℝ) : EReal)) r e = ((mixed q K V Kc Vc r e : ℝ) : EReal) := by
    rw [mixedE, mixed, EReal.coe_add, coe_sum_range, coe_sum_range]
    simp only [EReal.coe_mul]
  rw [attendE, attend, h, ← EReal.coe_mul, mul_one_div]

/-- A sum over 8192 keys, in four parts. -/
theorem sum_fourParts {G : Type*} [AddCommMonoid G] (f : ℕ → G) : ∑ k ∈ Finset.range 8192, f k
    = ((∑ k ∈ Finset.range 2048, f (0 + k) + ∑ k ∈ Finset.range 2048, f (2048 + k)) + ∑ k ∈ Finset.range 2048, f (4096 + k))
      + ∑ k ∈ Finset.range 2048, f (6144 + k) := by
  rw [show (8192 : ℕ) = ((2048 + 2048) + 2048) + 2048 from rfl, Finset.sum_range_add, Finset.sum_range_add, Finset.sum_range_add]
  simp only [zero_add]

/-! ## What follows the two maps -/

/-- The second map's output is subtracted, times lambda; each row is divided by its root mean square, scaled by the gains and by a
    constant. -/
def finish (o1 o2 : FVec Ideal S1024x128 .f32) (lam : FVec Ideal S4x64 .f32) (sub : FVec Ideal S1x128 .f32) : FVec Ideal S1024x128 .bf16 :=
  let s1 : FVec Ideal S1x1 .f32 := shapeCast S1x1 (multiReduction .add [1] S1 (mulf (extractStridedSlice S1x64 ![0, 0] lam slices_S4x64_o0_0_S1x64)
    (extractStridedSlice S1x64 ![1, 0] lam slices_S4x64_o1_0_S1x64)) 0x00000000#32 reduces_S1x64_S1 (.inl rfl) rfl) shapeCasts_S1_S1x1
  let s2 : FVec Ideal S1x1 .f32 := shapeCast S1x1 (multiReduction .add [1] S1 (mulf (extractStridedSlice S1x64 ![2, 0] lam slices_S4x64_o2_0_S1x64)
    (extractStridedSlice S1x64 ![3, 0] lam slices_S4x64_o3_0_S1x64)) 0x00000000#32 reduces_S1x64_S1 (.inl rfl) rfl) shapeCasts_S1_S1x1
  let l : FVec Ideal S1x1 .f32 := addf (subf (exp s1) (exp s2)) (broadcast S1x1 (Scalar.ofBits .f32 0x3E4CCCCD#32))
  let x : FVec Ideal S1024x128 .f32 := subf o1 (mulf (broadcastTo S1024x128 l broadcasts_S1x1_S1024x128) o2)
  let n : FVec Ideal S1024x1 .f32 := shapeCast S1024x1 (multiReduction .add [1] S1024 (mulf x x) 0x00000000#32 reduces_S1024x128_S1024 (.inl rfl) rfl) shapeCasts_S1024_S1024x1
  let g : FVec Ideal S1024x1 .f32 := rsqrt (addf (divf n (broadcast S1024x1 (Scalar.ofBits .f32 0x43000000#32))) (broadcast S1024x1 (Scalar.ofBits .f32 0x358637BD#32)))
  truncf .bf16 (mulf (mulf (mulf x (broadcastTo S1024x128 g broadcasts_S1024x1_S1024x128)) (broadcastTo S1024x128 sub broadcasts_S1x128_S1024x128))
    (broadcast S1024x128 (Scalar.ofBits .f32 0x3F4CCCCD#32))) bitsLt_bf16_f32

/-! ## The blocks of the arrays -/

theorem cv_chunk {φ : FTy} (f : ℕ → ℕ → ℝ) (o : ℕ) (h : o + 2048 ≤ 8192) :
    chunk (cv φ f : FVec Ideal S8192x128 φ) o h = (cv φ fun k d => f (o + k) d : FVec Ideal S2048x128 φ) := by
  funext y
  show ((f (o + 1 * (y 0).val) (0 + 1 * (y 1).val) : ℝ) : EReal) = ((f (o + (y 0).val) (y 1).val : ℝ) : EReal)
  rw [one_mul, one_mul, zero_add]

theorem cv_rows512 {φ : FTy} (f : ℕ → ℕ → ℝ) (o : ℕ) (h : o + 512 ≤ 8192) :
    rows512 (cv φ f : FVec Ideal S8192x128 φ) o h = (cv φ fun k d => f (o + k) d : FVec Ideal S512x128 φ) := by
  funext y
  show ((f (o + 1 * (y 0).val) (0 + 1 * (y 1).val) : ℝ) : EReal) = ((f (o + (y 0).val) (y 1).val : ℝ) : EReal)
  rw [one_mul, one_mul, zero_add]

theorem laneBit (j : Fin 128) : (k0_pay1 (ix2 0 j) : BitVec 1) = if j.val < 64 then 1#1 else 0#1 := by
  revert j
  decide +kernel

theorem laneMask (y : S1024x128.Idx) :
    broadcastTo S1024x128 (shapeCast S1x128 k0_pay1 shapeCasts_S1x128_S1x128) broadcasts_S1x128_S1024x128 y = if (y 1).val < 64 then 1#1 else 0#1 := by
  rw [shapeCast_self]
  exact (broadcastTo_apply _ _ y (ix2 0 (y 1)) fun d => match d with | 0 => (if_pos rfl).symm | 1 => rfl).trans (laneBit (y 1))

theorem ofBits_zero_bf16 : (FloatOps.ofBits FTy.bf16 0x0000#16 : Ideal .bf16) = ((0 : ℝ) : EReal) := by
  show Ideal.ieee 8 7 (0x0000#16) = _
  simp [Ideal.ieee]

theorem cv_firstLanes (Q : ℕ → ℕ → ℝ) : k0_pay3 (F := Ideal) (cv .bf16 Q) = cv .bf16 (firstLanes Q) := by
  funext y
  show Scalar.select (broadcastTo S1024x128 (shapeCast S1x128 k0_pay1 shapeCasts_S1x128_S1x128) broadcasts_S1x128_S1024x128 y) (cv .bf16 Q y) (FloatOps.ofBits FTy.bf16 0x0000#16 : Ideal .bf16) = _
  rw [laneMask, ofBits_zero_bf16, cv_apply, cv_apply, firstLanes]
  by_cases h : (y 1).val < 64
  · rw [if_pos h, if_pos h, select_one]
  · rw [if_neg h, if_neg h, select_zero]

theorem cv_lastLanes (Q : ℕ → ℕ → ℝ) : k0_pay4 (F := Ideal) (cv .bf16 Q) = cv .bf16 (lastLanes Q) := by
  funext y
  show Scalar.select (broadcastTo S1024x128 (shapeCast S1x128 k0_pay1 shapeCasts_S1x128_S1x128) broadcasts_S1x128_S1024x128 y) (FloatOps.ofBits FTy.bf16 0x0000#16 : Ideal .bf16) (cv .bf16 Q y) = _
  rw [laneMask, ofBits_zero_bf16, cv_apply, cv_apply, lastLanes]
  by_cases h : (y 1).val < 64
  · rw [if_pos h, if_pos h, select_one]
  · rw [if_neg h, if_neg h, select_zero]

/-! ## The form without a running maximum -/

theorem dotKQ : dot_S2048x128_S1024x128_S2048x1024_1_1_0_0_n_n = DotDims.transposedRhs 2048 128 1024 := rfl
theorem dotVP : dot_S128x2048_S2048x1024_S128x1024_1_0_0_1_n_n = DotDims.plain 128 2048 1024 := rfl
theorem dotKQc : dot_S256x128_S1024x128_S256x1024_1_1_0_0_n_n = DotDims.transposedRhs 256 128 1024 := rfl
theorem dotVPc : dot_S128x256_S256x1024_S128x1024_1_0_0_1_n_n = DotDims.plain 128 256 1024 := rfl

theorem pay37_eq (a : FVec Ideal S128x1024 .f32) (l : FVec Ideal S1x1024 .f32) (C : Vec Ideal S128x256 .bf16) (p : FVec Ideal S256x1024 .bf16)
    (s : FVec Ideal S1x1024 .f32) (o : FVec Ideal S1024x128 .f32) (lam : Vec Ideal S4x64 .f32) (sub : Vec Ideal S1x128 .f32) :
    k0_pay37 a l C p s o lam sub = finish o (transpose S1024x128 [1, 0] (divf
      (addf (matmul (φ₁ := .bf16) (φ₂ := .bf16) dot_S128x256_S256x1024_S128x1024_1_0_0_1_n_n none C p (constant S128x1024 .f32 0x00000000#32) : FVec Ideal S128x1024 .f32) a)
      (broadcastTo S128x1024 (addf s l) broadcasts_S1x1024_S128x1024)) transposes_S128x1024_p1_0_S1024x128) lam sub := rfl

/-- The weights of a part of the keys, keys down the rows. -/
theorem cv_weights {n : ℕ} (K q : ℕ → ℕ → ℝ) :
    (cv .f32 fun i j => (2 : ℝ) ^ ∑ d ∈ Finset.range 128, K i d * q j d : FVec Ideal (⟨2, ![n, 1024]⟩ : Shape) .f32)
      = cv .f32 fun i j => weight q K j i :=
  cv_congr _ fun i j _ _ => congrArg ((2 : ℝ) ^ ·) (Finset.sum_congr rfl fun d _ => mul_comm _ _)

theorem weight_shift (q K : ℕ → ℕ → ℝ) (o r k : ℕ) : weight q (fun i => K (o + i)) r k = weight q K r (o + k) := rfl

/-- The sum of all weights, from the four parts and the context. -/
theorem partsTotal (q K Kc : ℕ → ℕ → ℝ) (r : ℕ) :
    ∑ i ∈ Finset.range 256, weight q Kc r i +
      (0 + ∑ i ∈ Finset.range 2048, weight q (fun i => K (0 + i)) r i + ∑ i ∈ Finset.range 2048, weight q (fun i => K (2048 + i)) r i +
        ∑ i ∈ Finset.range 2048, weight q (fun i => K (4096 + i)) r i + ∑ i ∈ Finset.range 2048, weight q (fun i => K (6144 + i)) r i)
      = total q K Kc r := by
  rw [total, sum_fourParts (weight q K r)]
  simp only [weight_shift]
  ring

/-- The weighted sum of all values, from the four parts and the context. -/
theorem partsMixed (q K V Kc Vc : ℕ → ℕ → ℝ) (r e : ℕ) :
    ∑ k ∈ Finset.range 256, Vc k e * weight q Kc r k +
      (0 + ∑ k ∈ Finset.range 2048, V (0 + k) e * weight q (fun i => K (0 + i)) r k + ∑ k ∈ Finset.range 2048, V (2048 + k) e * weight q (fun i => K (2048 + i)) r k +
        ∑ k ∈ Finset.range 2048, V (4096 + k) e * weight q (fun i => K (4096 + i)) r k + ∑ k ∈ Finset.range 2048, V (6144 + k) e * weight q (fun i => K (6144 + i)) r k)
      = mixed q K V Kc Vc r e := by
  rw [mixed, sum_fourParts fun k => weight q K r k * V k e]
  simp only [weight_shift, mul_comm (V _ _), mul_comm (Vc _ _)]
  ring

/-- The same of values that may be infinite. -/
theorem partsMixedE (q K : ℕ → ℕ → ℝ) (V : ℕ → ℕ → EReal) (Kc : ℕ → ℕ → ℝ) (Vc : ℕ → ℕ → EReal) (r e : ℕ) :
    ∑ k ∈ Finset.range 256, Vc k e * ((weight q Kc r k : ℝ) : EReal) +
      (0 + ∑ k ∈ Finset.range 2048, V (0 + k) e * ((weight q (fun i => K (0 + i)) r k : ℝ) : EReal)
        + ∑ k ∈ Finset.range 2048, V (2048 + k) e * ((weight q (fun i => K (2048 + i)) r k : ℝ) : EReal) +
        ∑ k ∈ Finset.range 2048, V (4096 + k) e * ((weight q (fun i => K (4096 + i)) r k : ℝ) : EReal)
        + ∑ k ∈ Finset.range 2048, V (6144 + k) e * ((weight q (fun i => K (6144 + i)) r k : ℝ) : EReal))
      = mixedE q K V Kc Vc r e := by
  rw [mixedE, sum_fourParts fun k => ((weight q K r k : ℝ) : EReal) * V k e]
  simp only [weight_shift, EReal.mul_comm (V _ _), EReal.mul_comm (Vc _ _)]
  rw [zero_add, add_comm]

/-- The block computed without a running maximum is the two maps and what follows them. -/
theorem safeBlock_eq (Q K V Kc Vc : ℕ → ℕ → ℝ) (lam : Vec Ideal S4x64 .f32) (sub : Vec Ideal S1x128 .f32) :
    safeBlock (F := Ideal) (cv .bf16 Q) (cv .bf16 K) (cv .bf16 V) (cv .bf16 Kc) (cv .bf16 Vc) lam sub
      = finish (cv .f32 (attend (firstLanes Q) K V Kc Vc)) (cv .f32 (attend (lastLanes Q) K V Kc Vc)) lam sub := by
  unfold safeBlock safeFrom
  simp only [pay37_eq, cv_firstLanes, cv_lastLanes, cv_chunk]
  generalize firstLanes Q = q1
  generalize lastLanes Q = q2
  simp only [k0_pay36, k0_pay5, k0_pay6, k0_pay7, k0_pay8, k0_pay9, k0_pay10, k0_pay11, k0_pay12, k0_pay13, k0_pay14, k0_pay15, k0_pay16, k0_pay17,
    k0_pay18, k0_pay19, k0_pay20, k0_pay21, k0_pay22, k0_pay23, k0_pay24, k0_pay25, k0_pay26, k0_pay27, k0_pay28, k0_pay29, k0_pay30, k0_pay31,
    k0_pay32, k0_pay33, k0_pay34, k0_pay35, shapeCast_shapeCast, shapeCast_self, dotKQ, dotVP, dotKQc, dotVPc]
  simp only [cv_transpose, cv_zeros, cv_matmulT, cv_matmul, cv_exp2, cv_truncf, cv_addf, cv_sumCols, cv_broadcastRow, cv_weights]
  rw [cv_divf, cv_divf, cv_transpose _ _ _ rfl, cv_transpose _ _ _ rfl]
  · simp only [partsMixed, partsTotal]
    rfl
  · intro i j _ _
    rw [partsTotal]
    exact (total_pos q2 K Kc j).ne'
  · intro i j _ _
    rw [partsTotal]
    exact (total_pos q1 K Kc j).ne'

end Cert.KernelIdeal.Hand

end
-- ==== Proof.KI.Online.lean ====
/- The form of the kernel that keeps a running maximum gives the same block. Whatever the maximum is, the carried sums are the sums
   of the weights and of the weighted values, times two to the power of minus the maximum, and that factor divides out. -/
module

public import proofs.«01_k».proof.Proof.KI.Maps

@[expose] public section

set_option maxRecDepth 16384

noncomputable section

namespace Cert.KernelIdeal.Hand

open Idealize.ShloMosaic Idealize.ShloMosaic.ValueIdx
open Cert.KernelIdeal.Gen
open scoped BigOperators

theorem dotQK : dot_S1024x128_S512x128_S1024x512_1_1_0_0_n_n = DotDims.transposedRhs 1024 128 512 := rfl
theorem dotPV : dot_S1024x512_S512x128_S1024x128_1_0_0_1_n_n = DotDims.plain 1024 512 128 := rfl
theorem dotQKc : dot_S1024x128_S256x128_S1024x256_1_1_0_0_n_n = DotDims.transposedRhs 1024 128 256 := rfl
theorem dotPVc : dot_S1024x256_S256x128_S1024x128_1_0_0_1_n_n = DotDims.plain 1024 256 128 := rfl

/-- What is carried for one map: some maximum `m`, the sum `W` of the weights and the weighted values `U`, both times two to the power
    of minus `m`. The values may be infinite. -/
def Held (W : ℕ → ℝ) (U : ℕ → ℕ → EReal) (M L : FVec Ideal S1024x1 .f32) (A : FVec Ideal S1024x128 .f32) : Prop :=
  ∃ m : ℕ → ℕ → ℝ, M = cv .f32 m ∧ (L = cv .f32 fun i _ => W i * (2 : ℝ) ^ (-m i 0)) ∧ A = ev .f32 fun i e => (((2 : ℝ) ^ (-m i 0) : ℝ) : EReal) * U i e

theorem two_pow_pos (x : ℝ) : (0 : ℝ) < (2 : ℝ) ^ x := Real.rpow_pos_of_pos (by norm_num) x

theorem two_pow_sub (x y : ℝ) : (2 : ℝ) ^ (x - y) = (2 : ℝ) ^ (-y) * (2 : ℝ) ^ x := by
  rw [← Real.rpow_add (by norm_num), neg_add_eq_sub]

/-- Going from the maximum `a` to the maximum `b` while taking in more terms. -/
theorem rescale (n : ℕ) (U : EReal) (a b : ℝ) (s : ℕ → ℝ) (v : ℕ → EReal) :
    (((2 : ℝ) ^ (a - b) : ℝ) : EReal) * ((((2 : ℝ) ^ (-a) : ℝ) : EReal) * U) + ∑ k ∈ Finset.range n, (((2 : ℝ) ^ (s k - b) : ℝ) : EReal) * v k
      = (((2 : ℝ) ^ (-b) : ℝ) : EReal) * (U + ∑ k ∈ Finset.range n, (((2 : ℝ) ^ s k : ℝ) : EReal) * v k) := by
  rw [pos_mul_add (two_pow_pos _), pos_mul_sum (two_pow_pos _)]
  congr 1
  · rw [← mul_assoc, ← EReal.coe_mul, ← Real.rpow_add (by norm_num), show a - b + -a = -b by ring]
  · exact Finset.sum_congr rfl fun k _ => by rw [two_pow_sub, EReal.coe_mul, mul_assoc]

theorem rescale_one (n : ℕ) (W a b : ℝ) (s : ℕ → ℝ) :
    (2 : ℝ) ^ (a - b) * (W * (2 : ℝ) ^ (-a)) + ∑ k ∈ Finset.range n, (2 : ℝ) ^ (s k - b)
      = (W + ∑ k ∈ Finset.range n, (2 : ℝ) ^ s k) * (2 : ℝ) ^ (-b) := by
  rw [add_mul, Finset.sum_mul]
  congr 1
  · rw [mul_left_comm, ← Real.rpow_add (by norm_num), show a - b + -a = -b by ring]
  · exact Finset.sum_congr rfl fun k _ => by rw [two_pow_sub, mul_comm]

/-- One step over 512 keys. -/
theorem held_step {W : ℕ → ℝ} {U : ℕ → ℕ → EReal} {M L : FVec Ideal S1024x1 .f32} {A : FVec Ideal S1024x128 .f32} (h : Held W U M L A) (q K : ℕ → ℕ → ℝ) (V : ℕ → ℕ → EReal) :
    Held (fun i => W i + ∑ k ∈ Finset.range 512, weight q K i k) (fun i e => U i e + ∑ k ∈ Finset.range 512, ((weight q K i k : ℝ) : EReal) * V k e)
      (k0_pay45 (cv .bf16 q) M (cv .bf16 K)) (k0_pay48 (cv .bf16 q) M L (cv .bf16 K)) (k0_pay49 (cv .bf16 q) M A (cv .bf16 K) (ev .bf16 V)) := by
  obtain ⟨m, rfl, rfl, rfl⟩ := h
  obtain ⟨g, hg⟩ := cv_maxRows (a := 1024) (b := 512) (score q K) (by norm_num) [1] reduces_S1024x512_S1024 rfl (.inl rfl) 0xFF800000#32 rfl
    shapeCasts_S1024_S1024x1
  have hs : k0_pay44 (F := Ideal) (cv .bf16 q) (cv .bf16 K) = cv .f32 (score q K) := by
    simp only [k0_pay44, dotQK, cv_matmulT]; rfl
  have hm : k0_pay45 (F := Ideal) (cv .bf16 q) (cv .f32 m) (cv .bf16 K) = cv .f32 fun i j => max (m i j) (g i j) := by
    simp only [k0_pay45, hs]
    exact (congrArg (maximumf (cv .f32 m)) hg).trans (cv_maximumf m g)
  refine ⟨fun i j => max (m i j) (g i j), hm, ?_, ?_⟩
  · simp only [k0_pay48, k0_pay46, k0_pay47, hm, hs, cv_subf, cv_exp2, cv_mulf, cv_broadcastCol, cv_sumRows, cv_addf]
    refine cv_congr _ fun i j _ hj => ?_
    obtain rfl : j = 0 := by omega
    exact rescale_one _ _ _ _ _
  · simp only [k0_pay49, k0_pay46, k0_pay47, hm, hs, dotPV, cv_subf, cv_exp2, ev_mulf, cv_broadcastCol, cv_truncf, ev_matmul_right, ev_addf]
    exact ev_congr _ fun i e _ _ => rescale _ _ _ _ _ fun k => V k e

/-- The context's 256 keys. -/
theorem held_context {W : ℕ → ℝ} {U : ℕ → ℕ → EReal} {M L : FVec Ideal S1024x1 .f32} {A : FVec Ideal S1024x128 .f32} (h : Held W U M L A) (q K : ℕ → ℕ → ℝ) (V : ℕ → ℕ → EReal) :
    Held (fun i => W i + ∑ k ∈ Finset.range 256, weight q K i k) (fun i e => U i e + ∑ k ∈ Finset.range 256, ((weight q K i k : ℝ) : EReal) * V k e)
      (k0_pay57 (cv .bf16 q) M (cv .bf16 K)) (k0_pay60 (cv .bf16 q) M L (cv .bf16 K)) (k0_pay61 (cv .bf16 q) M A (cv .bf16 K) (ev .bf16 V)) := by
  obtain ⟨m, rfl, rfl, rfl⟩ := h
  obtain ⟨g, hg⟩ := cv_maxRows (a := 1024) (b := 256) (score q K) (by norm_num) [1] reduces_S1024x256_S1024 rfl (.inl rfl) 0xFF800000#32 rfl
    shapeCasts_S1024_S1024x1
  have hs : k0_pay56 (F := Ideal) (cv .bf16 q) (cv .bf16 K) = cv .f32 (score q K) := by
    simp only [k0_pay56, dotQKc, cv_matmulT]; rfl
  have hm : k0_pay57 (F := Ideal) (cv .bf16 q) (cv .f32 m) (cv .bf16 K) = cv .f32 fun i j => max (m i j) (g i j) := by
    simp only [k0_pay57, hs]
    exact (congrArg (maximumf (cv .f32 m)) hg).trans (cv_maximumf m g)
  refine ⟨fun i j => max (m i j) (g i j), hm, ?_, ?_⟩
  · simp only [k0_pay60, k0_pay58, k0_pay59, hm, hs, cv_subf, cv_exp2, cv_mulf, cv_broadcastCol, cv_sumRows, cv_addf]
    refine cv_congr _ fun i j _ hj => ?_
    obtain rfl : j = 0 := by omega
    exact rescale_one _ _ _ _ _
  · simp only [k0_pay61, k0_pay58, k0_pay59, hm, hs, dotPVc, cv_subf, cv_exp2, ev_mulf, cv_broadcastCol, cv_truncf, ev_matmul_right, ev_addf]
    exact ev_congr _ fun i e _ _ => rescale _ _ _ _ _ fun k => V k e

/-- Nothing taken in yet. -/
theorem held_start : Held (fun _ => 0) (fun _ _ => 0) k0_pay38 k0_pay39 k0_pay40 := by
  obtain ⟨r, hr⟩ := cv_start (a := 1024) (b := 1)
  refine ⟨fun _ _ => r, hr, ?_, ?_⟩
  · exact cv_zeros.trans (cv_congr _ fun _ _ _ _ => (zero_mul _).symm)
  · exact ev_zeros.trans (ev_congr _ fun _ _ _ _ => (mul_zero _).symm)

theorem ev_rows512 {φ : FTy} (f : ℕ → ℕ → EReal) (o : ℕ) (h : o + 512 ≤ 8192) :
    rows512 (ev φ f : FVec Ideal S8192x128 φ) o h = (ev φ fun k d => f (o + k) d : FVec Ideal S512x128 φ) := by
  funext y
  show f (o + 1 * (y 0).val) (0 + 1 * (y 1).val) = f (o + (y 0).val) (y 1).val
  rw [one_mul, one_mul, zero_add]

/-- What is carried before step `n`: the first `512 n` keys, for both maps. -/
theorem held_state (q1 q2 K : ℕ → ℕ → ℝ) (V : ℕ → ℕ → EReal) (n : ℕ) (hn : n ≤ 16) :
    Held (fun i => ∑ k ∈ Finset.range (512 * n), weight q1 K i k) (fun i e => ∑ k ∈ Finset.range (512 * n), ((weight q1 K i k : ℝ) : EReal) * V k e)
      (onState (cv .bf16 q1) (cv .bf16 q2) (cv .bf16 K) (ev .bf16 V) n).1 (onState (cv .bf16 q1) (cv .bf16 q2) (cv .bf16 K) (ev .bf16 V) n).2.1
      (onState (cv .bf16 q1) (cv .bf16 q2) (cv .bf16 K) (ev .bf16 V) n).2.2.1
    ∧ Held (fun i => ∑ k ∈ Finset.range (512 * n), weight q2 K i k) (fun i e => ∑ k ∈ Finset.range (512 * n), ((weight q2 K i k : ℝ) : EReal) * V k e)
      (onState (cv .bf16 q1) (cv .bf16 q2) (cv .bf16 K) (ev .bf16 V) n).2.2.2.1 (onState (cv .bf16 q1) (cv .bf16 q2) (cv .bf16 K) (ev .bf16 V) n).2.2.2.2.1
      (onState (cv .bf16 q1) (cv .bf16 q2) (cv .bf16 K) (ev .bf16 V) n).2.2.2.2.2 := by
  induction n with
  | zero => exact ⟨held_start, held_start⟩
  | succ n ih =>
    obtain ⟨h1, h2⟩ := ih (by omega)
    have hb : 512 * n + 512 ≤ 8192 := by omega
    have e : onState (F := Ideal) (cv .bf16 q1) (cv .bf16 q2) (cv .bf16 K) (ev .bf16 V) (n + 1)
        = onStep (cv .bf16 q1) (cv .bf16 q2) (cv .bf16 fun k d => K (512 * n + k) d) (ev .bf16 fun k d => V (512 * n + k) d)
          (onState (cv .bf16 q1) (cv .bf16 q2) (cv .bf16 K) (ev .bf16 V) n) := by
      rw [onState, dif_pos hb, cv_rows512, ev_rows512]
    rw [e]
    simp only [show 512 * (n + 1) = 512 * n + 512 by ring, Finset.sum_range_add]
    exact ⟨held_step h1 q1 (fun k d => K (512 * n + k) d) fun k d => V (512 * n + k) d,
      held_step h2 q2 (fun k d => K (512 * n + k) d) fun k d => V (512 * n + k) d⟩

/-- The maximum divides out. -/
theorem held_quotient {W : ℕ → ℝ} {U : ℕ → ℕ → EReal} {M L : FVec Ideal S1024x1 .f32} {A : FVec Ideal S1024x128 .f32} (h : Held W U M L A)
    (hW : ∀ i, 0 < W i) : divf A (broadcastTo S1024x128 L broadcasts_S1024x1_S1024x128) = ev .f32 fun i e => U i e * ((1 / W i : ℝ) : EReal) := by
  obtain ⟨m, rfl, rfl, rfl⟩ := h
  rw [cv_broadcastCol, ev_divf _ _ fun i j _ _ => (mul_pos (hW i) (two_pow_pos _)).ne']
  refine ev_congr _ fun i e _ _ => ?_
  rw [EReal.mul_comm (((2 : ℝ) ^ (-m i 0) : ℝ) : EReal), mul_assoc, ← EReal.coe_mul]
  congr 2
  field_simp [(two_pow_pos (-m i 0)).ne']

/-- The last part is the same as in the other form. -/
theorem onFinish_eq (v7 v10 : Vec Ideal S1024x128 .bf16) (a : Carried Ideal) (kc vc : Vec Ideal S256x128 .bf16) (lam : Vec Ideal S4x64 .f32)
    (sub : Vec Ideal S1x128 .f32) : onFinish v7 v10 a kc vc lam sub
      = finish (divf (k0_pay61 v7 a.1 a.2.2.1 kc vc) (broadcastTo S1024x128 (k0_pay60 v7 a.1 a.2.1 kc) broadcasts_S1024x1_S1024x128))
        (divf (k0_pay61 v10 a.2.2.2.1 a.2.2.2.2.2 kc vc) (broadcastTo S1024x128 (k0_pay60 v10 a.2.2.2.1 a.2.2.2.2.1 kc) broadcasts_S1024x1_S1024x128))
        lam sub := rfl

/-- The block computed with a running maximum is the two maps and what follows them. -/
theorem onlineBlock_eq (Q K V Kc Vc : ℕ → ℕ → ℝ) (lam : Vec Ideal S4x64 .f32) (sub : Vec Ideal S1x128 .f32) :
    onlineBlock (F := Ideal) (cv .bf16 Q) (cv .bf16 K) (cv .bf16 V) (cv .bf16 Kc) (cv .bf16 Vc) lam sub
      = finish (cv .f32 (attend (firstLanes Q) K V Kc Vc)) (cv .f32 (attend (lastLanes Q) K V Kc Vc)) lam sub := by
  unfold onlineBlock
  rw [cv_firstLanes, cv_lastLanes, onFinish_eq, cv_ev _ V, cv_ev _ Vc]
  obtain ⟨h1, h2⟩ := held_state (firstLanes Q) (lastLanes Q) K (fun k e => ((V k e : ℝ) : EReal)) 16 le_rfl
  have e1 := held_quotient (held_context h1 (firstLanes Q) Kc fun k e => ((Vc k e : ℝ) : EReal)) fun i => total_pos (firstLanes Q) K Kc i
  have e2 := held_quotient (held_context h2 (lastLanes Q) Kc fun k e => ((Vc k e : ℝ) : EReal)) fun i => total_pos (lastLanes Q) K Kc i
  rw [cv_ev _ (attend (firstLanes Q) K V Kc Vc), cv_ev _ (attend (lastLanes Q) K V Kc Vc)]
  exact congrArg₂ (fun o1 o2 => finish o1 o2 lam sub) (e1.trans (ev_congr _ fun i e _ _ => attendE_coe (firstLanes Q) K V Kc Vc i e))
    (e2.trans (ev_congr _ fun i e _ _ => attendE_coe (lastLanes Q) K V Kc Vc i e))

/-- Either form, whatever the flag. -/
theorem attnBlock_eq (Q K V Kc Vc : ℕ → ℕ → ℝ) (flag : BitVec 32) (lam : Vec Ideal S4x64 .f32) (sub : Vec Ideal S1x128 .f32) :
    attnBlock (F := Ideal) (cv .bf16 Q) (cv .bf16 K) (cv .bf16 V) (cv .bf16 Kc) (cv .bf16 Vc) flag lam sub
      = finish (cv .f32 (attend (firstLanes Q) K V Kc Vc)) (cv .f32 (attend (lastLanes Q) K V Kc Vc)) lam sub := by
  unfold attnBlock
  split
  · exact safeBlock_eq Q K V Kc Vc lam sub
  · exact onlineBlock_eq Q K V Kc Vc lam sub

end Cert.KernelIdeal.Hand

end
-- ==== Proof.RI.Maps.lean ====
/- The reference's two attention maps, over the real numbers. The queries, keys and values are entries of the first argument; a
   weight after division is two to the power of the score over the sum of these powers, because the maximum the reference
   subtracts divides out and the exponential of the score times the logarithm of two is that power of two. -/
module

public import proofs.«01_k».proof.Proof.Gen.ReferenceIdeal.Read
public import proofs.«01_k».proof.Proof.KI.Reals
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx
open Cert.KernelIdeal.Hand (coe_sum_fin fold_max_real ofBits_negInf)
open scoped BigOperators

variable (x0 : (⟨S16896x2560, .bf16⟩ : BufTy).Contents (Elt Ideal)) (X : ℕ → ℕ → ℝ)

/-- The queries, keys and values are the real numbers `X`: the first 1536 columns of the first argument. -/
def Reads : Prop := ∀ y : S16896x2560.Idx, (y 1).val < 1536 → x0 y = ((X (y 0).val (y 1).val : ℝ) : EReal)

/-- The row of the first argument that holds key `k` of image `b`: the 8192 latent rows, then the 256 context rows. -/
def keyRow (b k : ℕ) : ℕ := if k < 8192 then b * 8192 + k else 16384 + (b * 256 + (k - 8192))

variable {x0 X} (hX : Reads x0 X)
include hX

theorem read_v2 (i : S2x8192x2560.Idx) (h : (i 2).val < 1536) :
    val_main_v2 (F := Ideal) x0 i = ((X ((i 0).val * 8192 + (i 1).val) (i 2).val : ℝ) : EReal) := by
  rw [val_main_v2_apply, val_main_v1_apply, val_main_v0_apply]
  have h2 := (i 2).isLt
  refine (hX _ (show (((i 0).val * 8192 + (i 1).val) * 2560 + (i 2).val) % 2560 < 1536 by omega)).trans ?_
  show ((X ((((i 0).val * 8192 + (i 1).val) * 2560 + (i 2).val) / 2560) ((((i 0).val * 8192 + (i 1).val) * 2560 + (i 2).val) % 2560) : ℝ) : EReal) = _
  rw [show (((i 0).val * 8192 + (i 1).val) * 2560 + (i 2).val) / 2560 = (i 0).val * 8192 + (i 1).val by omega,
    show (((i 0).val * 8192 + (i 1).val) * 2560 + (i 2).val) % 2560 = (i 2).val by omega]

theorem read_v4 (i : S2x256x2560.Idx) (h : (i 2).val < 1536) :
    val_main_v4 (F := Ideal) x0 i = ((X (16384 + ((i 0).val * 256 + (i 1).val)) (i 2).val : ℝ) : EReal) := by
  rw [val_main_v4_apply, val_main_v3_apply, val_main_v0_apply]
  have h2 := (i 2).isLt
  refine (hX _ (show (((i 0).val * 256 + (i 1).val) * 2560 + (i 2).val) % 2560 < 1536 by omega)).trans ?_
  show ((X (16384 + (((i 0).val * 256 + (i 1).val) * 2560 + (i 2).val) / 2560) ((((i 0).val * 256 + (i 1).val) * 2560 + (i 2).val) % 2560) : ℝ) : EReal) = _
  rw [show (((i 0).val * 256 + (i 1).val) * 2560 + (i 2).val) / 2560 = (i 0).val * 256 + (i 1).val by omega,
    show (((i 0).val * 256 + (i 1).val) * 2560 + (i 2).val) % 2560 = (i 2).val by omega]

theorem read_v5 (i : S2x8448x2560.Idx) (h : (i 2).val < 1536) :
    val_main_v5 (F := Ideal) x0 i = ((X (keyRow (i 0).val (i 1).val) (i 2).val : ℝ) : EReal) := by
  have h0 : (i 0).val < 2 := (i 0).isLt
  have h1 : (i 1).val < 8448 := (i 1).isLt
  have h2 : (i 2).val < 2560 := (i 2).isLt
  unfold val_main_v5 keyRow
  by_cases hk : (i 1).val < 8192
  · rw [if_pos hk]
    exact (concatenate_pair_apply_left 1 (val_main_v2 (F := Ideal) x0) (val_main_v4 (F := Ideal) x0) _ i rfl
      (ix3 (⟨(i 0).val, h0⟩ : Fin 2) (⟨(i 1).val, hk⟩ : Fin 8192) (⟨(i 2).val, h2⟩ : Fin 2560))
      (fun b : Fin 3 => match b with | 0 => rfl | 1 => rfl | 2 => rfl)).trans (read_v2 hX _ h)
  · rw [if_neg hk]
    have hk' : (i 1).val - 8192 < 256 := by omega
    let y : S2x256x2560.Idx := ix3 (⟨(i 0).val, h0⟩ : Fin 2) (⟨(i 1).val - 8192, hk'⟩ : Fin 256) (⟨(i 2).val, h2⟩ : Fin 2560)
    have hy : ∀ b : Fin 3, b ≠ 1 → (y b).val = (i b).val := by
      intro b hb
      rcases b with ⟨_ | _ | _ | n, hn⟩
      · rfl
      · exact absurd rfl hb
      · rfl
      · omega
    exact (concatenate_pair_apply_right 1 (val_main_v2 (F := Ideal) x0) (val_main_v4 (F := Ideal) x0) _ i rfl rfl y
      (fun b hb => hy b hb) (show (i 1).val - 8192 + 8192 = (i 1).val by omega)).trans (read_v4 hX _ h)

/-- The queries. -/
theorem read_v7 (i : S2x8192x4x2x64.Idx) :
    val_main_v7 (F := Ideal) x0 i = ((X ((i 0).val * 8192 + (i 1).val) ((i 2).val * 128 + (i 3).val * 64 + (i 4).val) : ℝ) : EReal) := by
  have h0 : (i 0).val < 2 := (i 0).isLt
  have h1 : (i 1).val < 8192 := (i 1).isLt
  have h2 : (i 2).val < 4 := (i 2).isLt
  have h3 : (i 3).val < 2 := (i 3).isLt
  have h4 : (i 4).val < 64 := (i 4).isLt
  rw [val_main_v7_apply, val_main_v6_apply]
  generalize hn : ((((i 0).val * 8192 + (i 1).val) * 4 + (i 2).val) * 2 + (i 3).val) * 64 + (i 4).val = n
  refine (read_v2 hX _ (show (((((i 0).val * 8192 + (i 1).val) * 4 + (i 2).val) * 2 + (i 3).val) * 64 + (i 4).val) % 512 < 1536 by omega)).trans ?_
  show ((X ((((((i 0).val * 8192 + (i 1).val) * 4 + (i 2).val) * 2 + (i 3).val) * 64 + (i 4).val) / 4194304 * 8192
    + (((((i 0).val * 8192 + (i 1).val) * 4 + (i 2).val) * 2 + (i 3).val) * 64 + (i 4).val) / 512 % 8192)
    ((((((i 0).val * 8192 + (i 1).val) * 4 + (i 2).val) * 2 + (i 3).val) * 64 + (i 4).val) % 512) : ℝ) : EReal) = _
  rw [hn, show n / 4194304 * 8192 + n / 512 % 8192 = (i 0).val * 8192 + (i 1).val by omega,
    show n % 512 = (i 2).val * 128 + (i 3).val * 64 + (i 4).val by omega]

/-- The keys. -/
theorem read_v9 (i : S2x8448x4x2x64.Idx) :
    val_main_v9 (F := Ideal) x0 i = ((X (keyRow (i 0).val (i 1).val) (512 + ((i 2).val * 128 + (i 3).val * 64 + (i 4).val)) : ℝ) : EReal) := by
  have h0 : (i 0).val < 2 := (i 0).isLt
  have h1 : (i 1).val < 8448 := (i 1).isLt
  have h2 : (i 2).val < 4 := (i 2).isLt
  have h3 : (i 3).val < 2 := (i 3).isLt
  have h4 : (i 4).val < 64 := (i 4).isLt
  rw [val_main_v9_apply, val_main_v8_apply]
  generalize hn : ((((i 0).val * 8448 + (i 1).val) * 4 + (i 2).val) * 2 + (i 3).val) * 64 + (i 4).val = n
  refine (read_v5 hX _ (show 512 + (((((i 0).val * 8448 + (i 1).val) * 4 + (i 2).val) * 2 + (i 3).val) * 64 + (i 4).val) % 512 < 1536 by omega)).trans ?_
  show ((X (keyRow ((((((i 0).val * 8448 + (i 1).val) * 4 + (i 2).val) * 2 + (i 3).val) * 64 + (i 4).val) / 4325376)
    ((((((i 0).val * 8448 + (i 1).val) * 4 + (i 2).val) * 2 + (i 3).val) * 64 + (i 4).val) / 512 % 8448))
    (512 + (((((i 0).val * 8448 + (i 1).val) * 4 + (i 2).val) * 2 + (i 3).val) * 64 + (i 4).val) % 512) : ℝ) : EReal) = _
  rw [hn, show n / 4325376 = (i 0).val by omega, show n / 512 % 8448 = (i 1).val by omega,
    show n % 512 = (i 2).val * 128 + (i 3).val * 64 + (i 4).val by omega]

/-- The values. -/
theorem read_v11 (i : S2x8448x4x128.Idx) :
    val_main_v11 (F := Ideal) x0 i = ((X (keyRow (i 0).val (i 1).val) (1024 + ((i 2).val * 128 + (i 3).val)) : ℝ) : EReal) := by
  have h0 : (i 0).val < 2 := (i 0).isLt
  have h1 : (i 1).val < 8448 := (i 1).isLt
  have h2 : (i 2).val < 4 := (i 2).isLt
  have h3 : (i 3).val < 128 := (i 3).isLt
  rw [val_main_v11_apply, val_main_v10_apply]
  generalize hn : (((i 0).val * 8448 + (i 1).val) * 4 + (i 2).val) * 128 + (i 3).val = n
  refine (read_v5 hX _ (show 1024 + ((((i 0).val * 8448 + (i 1).val) * 4 + (i 2).val) * 128 + (i 3).val) % 512 < 1536 by omega)).trans ?_
  show ((X (keyRow (((((i 0).val * 8448 + (i 1).val) * 4 + (i 2).val) * 128 + (i 3).val) / 4325376)
    (((((i 0).val * 8448 + (i 1).val) * 4 + (i 2).val) * 128 + (i 3).val) / 512 % 8448))
    (1024 + ((((i 0).val * 8448 + (i 1).val) * 4 + (i 2).val) * 128 + (i 3).val) % 512) : ℝ) : EReal) = _
  rw [hn, show n / 4325376 = (i 0).val by omega, show n / 512 % 8448 = (i 1).val by omega,
    show n % 512 = (i 2).val * 128 + (i 3).val by omega]

omit hX

/-- The score of key `k` for query `q`: image `b`, map `t`, head `h`. -/
def refScore (X : ℕ → ℕ → ℝ) (b t h q k : ℕ) : ℝ :=
  ∑ d ∈ Finset.range 64, X (b * 8192 + q) (h * 128 + t * 64 + d) * X (keyRow b k) (512 + (h * 128 + t * 64 + d))

/-- The sum of the weights over all 8448 keys. -/
def refTotal (X : ℕ → ℕ → ℝ) (b t h q : ℕ) : ℝ := ∑ k ∈ Finset.range 8448, (2 : ℝ) ^ refScore X b t h q k

theorem refTotal_pos (X : ℕ → ℕ → ℝ) (b t h q : ℕ) : 0 < refTotal X b t h q :=
  Finset.sum_pos (fun _ _ => Real.rpow_pos_of_pos (by norm_num) _) ⟨0, by simp⟩

include hX

theorem read_v28 (i : S2x2x4x8192x8448.Idx) :
    val_main_v28 (F := Ideal) x0 i = ((refScore X (i 0).val (i 1).val (i 2).val (i 3).val (i 4).val : ℝ) : EReal) := by
  rw [val_main_v28_apply]
  refine (Finset.sum_congr rfl fun k _ => ?_).trans (coe_sum_fin 64 fun d =>
    X ((i 0).val * 8192 + (i 3).val) ((i 2).val * 128 + (i 1).val * 64 + d) * X (keyRow (i 0).val (i 4).val) (512 + ((i 2).val * 128 + (i 1).val * 64 + d)))
  rw [read_v7 hX, read_v9 hX, ← EReal.coe_mul]

omit hX in
/-- The logarithm of two, computed by the program. -/
theorem read_v31 (i : S2x2x4x8192x8448.Idx) : val_main_v31 (F := Ideal) i = ((Real.log 2 : ℝ) : EReal) := by
  rw [val_main_v31_apply, val_main_v30_apply, val_main_v29_apply, val_main_cst_2_apply]
  have h2 : (FloatOps.ofBits FTy.f32 0x40000000#32 : Ideal .f32) = ((2 : ℝ) : EReal) := by
    show Ideal.ieee 8 23 (0x40000000#32) = _
    simp [Ideal.ieee]
    rw [← EReal.coe_mul]
    exact congrArg _ (by norm_num)
  rw [h2, Ideal.hostUnary_log_def, Ideal.log_coe, if_neg (by norm_num)]

theorem read_v32 (i : S2x2x4x8192x8448.Idx) :
    val_main_v32 (F := Ideal) x0 i = ((refScore X (i 0).val (i 1).val (i 2).val (i 3).val (i 4).val * Real.log 2 : ℝ) : EReal) := by
  rw [val_main_v32_apply, read_v28 hX, read_v31]
  exact (EReal.coe_mul _ _).symm

/-- The largest score of a query is a real number. -/
theorem read_v35 (i : S2x2x4x8192.Idx) : ∃ r : ℝ, val_main_v35 (F := Ideal) x0 i = (r : EReal) := by
  haveI : Nonempty (Fin 8448) := ⟨0⟩
  have hred : S2x2x4x8192x8448.Reduces [4] S2x2x4x8192 := by decide
  obtain ⟨r, hr⟩ := fold_max_real (Finset.univ : Finset (Fin 8448)) Finset.univ_nonempty fun k =>
    refScore X (hred.lift i k 0).val (hred.lift i k 1).val (hred.lift i k 2).val (hred.lift i k 3).val (hred.lift i k 4).val * Real.log 2
  refine ⟨r, ?_⟩
  have h33 : val_main_v33 (F := Ideal) x0 i = (r : EReal) := by
    unfold val_main_v33 val_main_cst_3
    refine (congrFun (hostReduce_maximumf_eq_multiReduction (F := Ideal) (φ := .f32) (val_main_v32 (F := Ideal) x0) 0xFF800000#32 reducesTo_S2x2x4x8192x8448_S2x2x4x8192_d4 h_S_
      hred (.inl rfl) rfl) i).trans ((Ideal.multiReduction_maximumf_single _ _ hred _ _ i).trans ?_)
    rw [show (FloatOps.ofBits FTy.f32 0xFF800000#32 : Ideal .f32) = (⊥ : EReal) from ofBits_negInf]
    exact (congrArg (Finset.fold max ⊥ · Finset.univ) (funext fun k => read_v32 hX _)).trans hr
  rw [val_main_v35_apply, val_main_v34_apply, val_main_cst_4_apply, h33,
    show (FloatOps.ofBits FTy.f32 0xFF800000#32 : Ideal .f32) = (⊥ : EReal) from ofBits_negInf]
  exact max_eq_right bot_le

/-- A weight after division. -/
theorem read_v43 (i : S2x2x4x8192x8448.Idx) :
    val_main_v43 (F := Ideal) x0 i
      = (((2 : ℝ) ^ refScore X (i 0).val (i 1).val (i 2).val (i 3).val (i 4).val / refTotal X (i 0).val (i 1).val (i 2).val (i 3).val : ℝ) : EReal) := by
  choose g hg using read_v35 hX
  have h39 : ∀ j : S2x2x4x8192x8448.Idx, val_main_v39 (F := Ideal) x0 j
      = (((2 : ℝ) ^ refScore X (j 0).val (j 1).val (j 2).val (j 3).val (j 4).val * Real.exp (-g (idx_main_v36 (idx_main_v37 j))) : ℝ) : EReal) := by
    intro j
    rw [val_main_v39_apply, val_main_v38_apply, read_v32 hX, val_main_v37_apply, val_main_v36_apply, hg, Ideal.hostUnary_exp_def]
    refine (Ideal.exp_coe _).trans (congrArg _ ?_)
    show Real.exp (_ + -g _) = _
    rw [Real.exp_add, Real.rpow_def_of_pos (by norm_num), mul_comm (Real.log 2)]
  have h42 : val_main_v42 (F := Ideal) x0 i
      = ((refTotal X (i 0).val (i 1).val (i 2).val (i 3).val * Real.exp (-g (idx_main_v36 (idx_main_v37 i))) : ℝ) : EReal) := by
    rw [val_main_v42_apply, val_main_v41_apply, val_main_v40_apply, val_main_cst_5_apply,
      show (FloatOps.ofBits FTy.f32 0x00000000#32 : Ideal .f32) = (0 : EReal) from Ideal.ofBits_zero_f32, zero_add]
    refine (Finset.sum_congr rfl fun k _ => h39 _).trans ?_
    refine (coe_sum_fin 8448 fun k => (2 : ℝ) ^ refScore X (i 0).val (i 1).val (i 2).val (i 3).val k
      * Real.exp (-g (idx_main_v36 (idx_main_v37 i)))).trans (congrArg _ ?_)
    rw [← Finset.sum_mul, refTotal]
  have hne : refTotal X (i 0).val (i 1).val (i 2).val (i 3).val * Real.exp (-g (idx_main_v36 (idx_main_v37 i))) ≠ 0 :=
    (mul_pos (refTotal_pos X _ _ _ _) (Real.exp_pos _)).ne'
  rw [val_main_v43_apply, h39, h42, Ideal.hostDivf_def, Ideal.div_coe hne, ← EReal.coe_mul, mul_one_div]
  exact congrArg _ (mul_div_mul_right _ _ (Real.exp_pos _).ne')

end Cert.ReferenceIdeal.Hand

end
-- ==== Proof.KI.Finish.lean ====
/- What follows the two attention maps, read at one index, and the value of lambda. Both programs end in the same sequence of
   operations, `tailAt`, on the same row of real numbers. -/
module

public import proofs.«01_k».proof.Proof.KI.Maps

@[expose] public section

set_option maxRecDepth 16384

noncomputable section

namespace Cert.KernelIdeal.Hand

open Idealize.ShloMosaic Idealize.ShloMosaic.ValueIdx
open Cert.KernelIdeal.Gen
open scoped BigOperators

/-- The constant added to lambda. -/
def lamInit : ℝ := (FloatOps.ofBits FTy.f32 0x3E4CCCCD#32 : Ideal .f32).toReal

theorem lamInit_eq : (FloatOps.ofBits FTy.f32 0x3E4CCCCD#32 : Ideal .f32) = ((lamInit : ℝ) : EReal) := by
  obtain ⟨r, hr⟩ : ∃ r : ℝ, Ideal.ieee 8 23 (0x3E4CCCCD#32) = (r : EReal) := by
    unfold Ideal.ieee
    simp only
    rw [if_neg (by decide), if_neg (by decide)]
    exact ⟨_, rfl⟩
  have h : (FloatOps.ofBits FTy.f32 0x3E4CCCCD#32 : Ideal .f32) = (r : EReal) := hr
  rw [lamInit, h, EReal.toReal_coe]

/-- Lambda, from its four vectors. -/
def lamOf (Y : ℕ → ℕ → ℝ) : ℝ :=
  Real.exp (∑ d ∈ Finset.range 64, Y 0 d * Y 1 d) - Real.exp (∑ d ∈ Finset.range 64, Y 2 d * Y 3 d) + lamInit

/-- The end of both programs at lane `e` of a row `x`: the row is divided by its root mean square and scaled by the gain `s` and by a
    constant. -/
def tailAt (x : ℕ → ℝ) (e : ℕ) (s : EReal) : EReal :=
  ((x e : ℝ) : EReal) * Ideal.rsqrt (Ideal.div ((∑ k ∈ Finset.range 128, x k * x k : ℝ) : EReal) (FloatOps.ofBits FTy.f32 0x43000000#32 : Ideal .f32)
    + (FloatOps.ofBits FTy.f32 0x358637BD#32 : Ideal .f32)) * s * (FloatOps.ofBits FTy.f32 0x3F4CCCCD#32 : Ideal .f32)

/-- One row of the four vectors of lambda. -/
theorem cv_lamRow (Y : ℕ → ℕ → ℝ) (r : ℕ) (h : (⟨2, ![4, 64]⟩ : Shape).Slices ![r, 0] ⟨2, ![1, 64]⟩) :
    extractStridedSlice (⟨2, ![1, 64]⟩ : Shape) ![r, 0] (cv .f32 Y : FVec Ideal (⟨2, ![4, 64]⟩ : Shape) .f32) h
      = (cv .f32 fun _ d => Y r d : FVec Ideal (⟨2, ![1, 64]⟩ : Shape) .f32) := by
  funext y
  show ((Y (r + (y 0).val) (0 + (y 1).val) : ℝ) : EReal) = ((Y r (y 1).val : ℝ) : EReal)
  have h0 := idx2_lt0 y
  rw [zero_add, show r + (y 0).val = r by omega]

theorem cv_exp {a b : ℕ} (f : ℕ → ℕ → ℝ) :
    exp (cv .f32 f : FVec Ideal (⟨2, ![a, b]⟩ : Shape) .f32) = cv .f32 fun i j => Real.exp (f i j) := rfl

theorem cv_lamInit {a b : ℕ} : (broadcast (⟨2, ![a, b]⟩ : Shape) (Scalar.ofBits .f32 0x3E4CCCCD#32 : Ideal .f32)) = cv .f32 fun _ _ => lamInit :=
  funext fun _ => lamInit_eq

/-- The only entry of an array repeated over rows and columns. -/
theorem cv_broadcastOne {a b : ℕ} (f : ℕ → ℕ → ℝ) (h : (⟨2, ![1, 1]⟩ : Shape).Broadcasts ⟨2, ![a, b]⟩) :
    broadcastTo (⟨2, ![a, b]⟩ : Shape) (cv .f32 f) h = cv .f32 fun _ _ => f 0 0 :=
  funext fun y => broadcastTo_apply (cv .f32 f) h y (ix2 0 0) fun d => match d with
    | 0 => (if_pos rfl).symm
    | 1 => (if_pos rfl).symm

/-- What follows the two maps, at an index. -/
theorem finish_apply (o1 o2 Y : ℕ → ℕ → ℝ) (sub : FVec Ideal S1x128 .f32) (y : S1024x128.Idx) :
    finish (cv .f32 o1) (cv .f32 o2) (cv .f32 Y) sub y
      = tailAt (fun e => o1 (y 0).val e - lamOf Y * o2 (y 0).val e) (y 1).val (sub (ix2 0 (y 1))) := by
  unfold finish
  simp only [cv_lamRow, cv_mulf, cv_sumRows, cv_exp, cv_lamInit, cv_subf, cv_addf, cv_broadcastOne]
  show FloatOps.mulf (F := Ideal) (FloatOps.mulf (F := Ideal) (FloatOps.mulf (F := Ideal) _ (broadcastTo S1024x128 _ broadcasts_S1024x1_S1024x128 y))
    (broadcastTo S1024x128 sub broadcasts_S1x128_S1024x128 y)) _ = _
  rw [broadcastTo_apply _ broadcasts_S1024x1_S1024x128 y (ix2 (y 0) 0) (fun d => match d with | 0 => rfl | 1 => rfl),
    broadcastTo_apply sub broadcasts_S1x128_S1024x128 y (ix2 0 (y 1)) (fun d => match d with | 0 => rfl | 1 => rfl)]
  rfl

end Cert.KernelIdeal.Hand

end
-- ==== Proof.RI.Value.lean ====
/- The reference's result at an index, from the real numbers its first and third arguments hold: the two maps' weights are
   combined before they meet the values, and the sequence `tailAt` follows. -/
module

public import proofs.«01_k».proof.Proof.RI.Maps
public import proofs.«01_k».proof.Proof.KI.Finish
public import Idealize.ShloMosaic.Lib.ValueIdxRank1

@[expose] public section

set_option maxRecDepth 16384

noncomputable section

namespace Cert.ReferenceIdeal.Hand

open Cert.ReferenceIdeal Cert.ReferenceIdeal.Gen Cert.ReferenceIdeal.Read Idealize.ShloMosaic Idealize.ShloMosaic.ValueIdx
open Cert.KernelIdeal.Hand (coe_sum_fin lamInit lamInit_eq lamOf tailAt)
open scoped BigOperators

variable {x0 : (⟨S16896x2560, .bf16⟩ : BufTy).Contents (Elt Ideal)} {X : ℕ → ℕ → ℝ}
  {x2 : (⟨S4x64, .f32⟩ : BufTy).Contents (Elt Ideal)} {Y : ℕ → ℕ → ℝ}

/-- The vectors of lambda are the real numbers `Y`. -/
def LamReads (x2 : (⟨S4x64, .f32⟩ : BufTy).Contents (Elt Ideal)) (Y : ℕ → ℕ → ℝ) : Prop :=
  ∀ y : S4x64.Idx, x2 y = ((Y (y 0).val (y 1).val : ℝ) : EReal)

/-- A weight after division: map `t` of head `h`, row `q`, key `k`. -/
def refWeight (X : ℕ → ℕ → ℝ) (b t h q k : ℕ) : ℝ := (2 : ℝ) ^ refScore X b t h q k / refTotal X b t h q

/-- The difference of the two maps applied to the values. -/
def refMixed (X Y : ℕ → ℕ → ℝ) (b h q e : ℕ) : ℝ :=
  ∑ k ∈ Finset.range 8448, X (keyRow b k) (1024 + (h * 128 + e)) * (refWeight X b 0 h q k - lamOf Y * refWeight X b 1 h q k)

/-- A sum over an array of one axis is the sum over its positions. -/
theorem sum_lanes (v : S64.Idx → EReal) (f : ℕ → ℝ) (h : ∀ j : S64.Idx, v j = ((f (j 0).val : ℝ) : EReal)) :
    ∑ j : S64.Idx, v j = ((∑ d ∈ Finset.range 64, f d : ℝ) : EReal) := by
  rw [← coe_sum_fin 64 f, ← Equiv.sum_comp (idxEquiv1 (n := 64)).symm]
  exact Finset.sum_congr rfl fun k _ => h _

section Lambda
variable (hY : LamReads x2 Y)
include hY

theorem read_v16 (j : S64.Idx) : val_main_v16 (F := Ideal) x2 j = ((Y 0 (j 0).val * Y 1 (j 0).val : ℝ) : EReal) := by
  have hj : (j 0).val < 64 := (j 0).isLt
  rw [val_main_v16_apply, val_main_v13_apply, val_main_v12_apply, val_main_v15_apply, val_main_v14_apply, hY, hY, EReal.coe_mul]
  show ((Y 0 ((j 0).val % 64) : ℝ) : EReal) * ((Y (1 + 0) ((j 0).val % 64) : ℝ) : EReal) = _
  rw [Nat.mod_eq_of_lt hj]

theorem read_v23 (j : S64.Idx) : val_main_v23 (F := Ideal) x2 j = ((Y 2 (j 0).val * Y 3 (j 0).val : ℝ) : EReal) := by
  have hj : (j 0).val < 64 := (j 0).isLt
  rw [val_main_v23_apply, val_main_v20_apply, val_main_v19_apply, val_main_v22_apply, val_main_v21_apply, hY, hY, EReal.coe_mul]
  show ((Y (2 + 0) ((j 0).val % 64) : ℝ) : EReal) * ((Y (3 + 0) ((j 0).val % 64) : ℝ) : EReal) = _
  rw [Nat.mod_eq_of_lt hj]

theorem read_v18 (i : S_.Idx) :
    val_main_v18 (F := Ideal) x2 i = ((Real.exp (∑ d ∈ Finset.range 64, Y 0 d * Y 1 d) : ℝ) : EReal) := by
  rw [val_main_v18_apply, val_main_v17_apply, val_main_cst_apply,
    show (FloatOps.ofBits FTy.f32 0x00000000#32 : Ideal .f32) = (0 : EReal) from Ideal.ofBits_zero_f32, zero_add,
    sum_lanes _ (fun d => Y 0 d * Y 1 d) (read_v16 hY), Ideal.hostUnary_exp_def]
  exact Ideal.exp_coe _

theorem read_v25 (i : S_.Idx) :
    val_main_v25 (F := Ideal) x2 i = ((Real.exp (∑ d ∈ Finset.range 64, Y 2 d * Y 3 d) : ℝ) : EReal) := by
  rw [val_main_v25_apply, val_main_v24_apply, val_main_cst_0_apply,
    show (FloatOps.ofBits FTy.f32 0x00000000#32 : Ideal .f32) = (0 : EReal) from Ideal.ofBits_zero_f32, zero_add,
    sum_lanes _ (fun d => Y 2 d * Y 3 d) (read_v23 hY), Ideal.hostUnary_exp_def]
  exact Ideal.exp_coe _

theorem read_v27 (i : S_.Idx) : val_main_v27 (F := Ideal) x2 i = ((lamOf Y : ℝ) : EReal) := by
  rw [val_main_v27_apply, val_main_v26_apply, read_v18 hY, read_v25 hY, val_main_cst_1_apply, lamInit_eq]
  rfl

end Lambda

section Maps
variable (hX : Reads x0 X)
include hX

theorem read_v45 (i : S2x4x8192x8448.Idx) :
    val_main_v45 (F := Ideal) x0 i = ((refWeight X (i 0).val 0 (i 1).val (i 2).val (i 3).val : ℝ) : EReal) := by
  have h0 : (i 0).val < 2 := (i 0).isLt
  have h1 : (i 1).val < 4 := (i 1).isLt
  have h2 : (i 2).val < 8192 := (i 2).isLt
  have h3 : (i 3).val < 8448 := (i 3).isLt
  rw [val_main_v45_apply, val_main_v44_apply, read_v43 hX]
  generalize hn : (((i 0).val * 4 + (i 1).val) * 8192 + (i 2).val) * 8448 + (i 3).val = n
  show ((refWeight X (((((i 0).val * 4 + (i 1).val) * 8192 + (i 2).val) * 8448 + (i 3).val) / 276824064) 0
    (((((i 0).val * 4 + (i 1).val) * 8192 + (i 2).val) * 8448 + (i 3).val) / 69206016 % 4)
    (((((i 0).val * 4 + (i 1).val) * 8192 + (i 2).val) * 8448 + (i 3).val) / 8448 % 8192)
    (((((i 0).val * 4 + (i 1).val) * 8192 + (i 2).val) * 8448 + (i 3).val) % 8448) : ℝ) : EReal) = _
  rw [hn, show n / 276824064 = (i 0).val by omega, show n / 69206016 % 4 = (i 1).val by omega,
    show n / 8448 % 8192 = (i 2).val by omega, show n % 8448 = (i 3).val by omega]

theorem read_v47 (i : S2x4x8192x8448.Idx) :
    val_main_v47 (F := Ideal) x0 i = ((refWeight X (i 0).val 1 (i 1).val (i 2).val (i 3).val : ℝ) : EReal) := by
  have h0 : (i 0).val < 2 := (i 0).isLt
  have h1 : (i 1).val < 4 := (i 1).isLt
  have h2 : (i 2).val < 8192 := (i 2).isLt
  have h3 : (i 3).val < 8448 := (i 3).isLt
  rw [val_main_v47_apply, val_main_v46_apply, read_v43 hX]
  generalize hn : (((i 0).val * 4 + (i 1).val) * 8192 + (i 2).val) * 8448 + (i 3).val = n
  show ((refWeight X (((((i 0).val * 4 + (i 1).val) * 8192 + (i 2).val) * 8448 + (i 3).val) / 276824064) (1 + 0)
    (((((i 0).val * 4 + (i 1).val) * 8192 + (i 2).val) * 8448 + (i 3).val) / 69206016 % 4)
    (((((i 0).val * 4 + (i 1).val) * 8192 + (i 2).val) * 8448 + (i 3).val) / 8448 % 8192)
    (((((i 0).val * 4 + (i 1).val) * 8192 + (i 2).val) * 8448 + (i 3).val) % 8448) : ℝ) : EReal) = _
  rw [hn, show n / 276824064 = (i 0).val by omega, show n / 69206016 % 4 = (i 1).val by omega,
    show n / 8448 % 8192 = (i 2).val by omega, show n % 8448 = (i 3).val by omega, add_zero]

variable (hY : LamReads x2 Y)
include hY

theorem read_v50 (i : S2x4x8192x8448.Idx) :
    val_main_v50 (F := Ideal) x0 x2 i
      = ((refWeight X (i 0).val 0 (i 1).val (i 2).val (i 3).val - lamOf Y * refWeight X (i 0).val 1 (i 1).val (i 2).val (i 3).val : ℝ) : EReal) := by
  rw [val_main_v50_apply, val_main_v49_apply, val_main_v48_apply, read_v45 hX, read_v47 hX, read_v27 hY, EReal.coe_sub, EReal.coe_mul]
  rfl

theorem read_v52 (i : S2x8192x4x128.Idx) :
    val_main_v52 (F := Ideal) x0 x2 i = ((refMixed X Y (i 0).val (i 2).val (i 1).val (i 3).val : ℝ) : EReal) := by
  rw [val_main_v52_apply, val_main_v51_apply]
  refine Eq.trans (Finset.sum_congr rfl fun k _ => ?_) (coe_sum_fin 8448 fun k => X (keyRow (i 0).val k) (1024 + ((i 2).val * 128 + (i 3).val))
    * (refWeight X (i 0).val 0 (i 2).val (i 1).val k - lamOf Y * refWeight X (i 0).val 1 (i 2).val (i 1).val k))
  rw [read_v11 hX, read_v50 hX hY, ← EReal.coe_mul]

theorem read_v54 (i : S2x8192x4.Idx) :
    val_main_v54 (F := Ideal) x0 x2 i
      = ((∑ k ∈ Finset.range 128, refMixed X Y (i 0).val (i 2).val (i 1).val k * refMixed X Y (i 0).val (i 2).val (i 1).val k : ℝ) : EReal) := by
  rw [val_main_v54_apply, val_main_cst_6_apply,
    show (FloatOps.ofBits FTy.f32 0x00000000#32 : Ideal .f32) = (0 : EReal) from Ideal.ofBits_zero_f32, zero_add]
  refine Eq.trans (Finset.sum_congr rfl fun k _ => ?_) (coe_sum_fin 128 fun k =>
    refMixed X Y (i 0).val (i 2).val (i 1).val k * refMixed X Y (i 0).val (i 2).val (i 1).val k)
  rw [val_main_v53_apply, read_v52 hX hY, EReal.coe_mul]
  rfl

/-- The reference's result at an index. -/
theorem read_v70 (x3 : (⟨S1x128, .f32⟩ : BufTy).Contents (Elt Ideal)) (i : S16384x512.Idx) :
    val_main_v70 (F := Ideal) x0 x2 x3 i
      = tailAt (fun e => refMixed X Y ((i 0).val / 8192) ((i 1).val / 128) ((i 0).val % 8192) e) ((i 1).val % 128)
          (x3 (ix2 (0 : Fin 1) (⟨(i 1).val % 128, Nat.mod_lt _ (by norm_num)⟩ : Fin 128))) := by
  have h0 : (i 0).val < 16384 := (i 0).isLt
  have h1 : (i 1).val < 512 := (i 1).isLt
  have e0 : ((idx_main_v69 i) 0).val = (i 0).val / 8192 := by
    show ((i 0).val * 512 + (i 1).val) / 4194304 = (i 0).val / 8192
    omega
  have e1 : ((idx_main_v69 i) 1).val = (i 0).val % 8192 := by
    show ((i 0).val * 512 + (i 1).val) / 512 % 8192 = (i 0).val % 8192
    omega
  have e2 : ((idx_main_v69 i) 2).val = (i 1).val / 128 := by
    show ((i 0).val * 512 + (i 1).val) / 128 % 4 = (i 1).val / 128
    omega
  have e3 : ((idx_main_v69 i) 3).val = (i 1).val % 128 := by
    show ((i 0).val * 512 + (i 1).val) % 128 = (i 1).val % 128
    omega
  have es : idx_main_v63 (idx_main_v64 (idx_main_v65 (idx_main_v69 i))) = ix2 (0 : Fin 1) (⟨(i 1).val % 128, Nat.mod_lt _ (by norm_num)⟩ : Fin 128) :=
    funext fun a => match a with
      | 0 => rfl
      | 1 => Fin.ext (show ((idx_main_v69 i) 3).val % 128 = (i 1).val % 128 by omega)
  rw [val_main_v70_apply, val_main_v69_apply, val_main_v68_apply, val_main_v66_apply, val_main_v62_apply, val_main_v61_apply,
    val_main_v60_apply, val_main_v59_apply, val_main_v57_apply, val_main_v55_apply, val_main_v56_apply, val_main_v58_apply,
    val_main_v65_apply, val_main_v64_apply, val_main_v63_apply, val_main_v67_apply, read_v52 hX hY, read_v54 hX hY, es]
  generalize x3 (ix2 (0 : Fin 1) (⟨(i 1).val % 128, Nat.mod_lt _ (by norm_num)⟩ : Fin 128)) = s
  rw [← e0, ← e1, ← e2, ← e3]
  rfl

end Maps

end Cert.ReferenceIdeal.Hand

end
-- ==== Proof.Agree.lean ====
/- The two programs' attention agrees over the real numbers: the kernel's map of a query on the 8192 keys and on the 256 keys of
   the context is the reference's map on its 8448 keys, and the difference of the two maps applied to the values is the
   difference of what the two maps give. -/
module

public import proofs.«01_k».proof.Proof.KI.Maps
public import proofs.«01_k».proof.Proof.RI.Value

@[expose] public section

noncomputable section

namespace Cert.Agree

open Cert.KernelIdeal.Hand Cert.ReferenceIdeal.Hand
open scoped BigOperators

theorem score_firstLanes (Q K : ℕ → ℕ → ℝ) (r k : ℕ) : score (firstLanes Q) K r k = ∑ d ∈ Finset.range 64, Q r d * K k d := by
  rw [score, show (128 : ℕ) = 64 + 64 from rfl, Finset.sum_range_add]
  have h1 : ∑ d ∈ Finset.range 64, firstLanes Q r d * K k d = ∑ d ∈ Finset.range 64, Q r d * K k d :=
    Finset.sum_congr rfl fun d hd => by rw [firstLanes, if_pos (Finset.mem_range.1 hd)]
  have h2 : ∑ d ∈ Finset.range 64, firstLanes Q r (64 + d) * K k (64 + d) = 0 :=
    Finset.sum_eq_zero fun d hd => by rw [firstLanes, if_neg (by omega), zero_mul]
  rw [h1, h2, add_zero]

theorem score_lastLanes (Q K : ℕ → ℕ → ℝ) (r k : ℕ) :
    score (lastLanes Q) K r k = ∑ d ∈ Finset.range 64, Q r (64 + d) * K k (64 + d) := by
  rw [score, show (128 : ℕ) = 64 + 64 from rfl, Finset.sum_range_add]
  have h1 : ∑ d ∈ Finset.range 64, lastLanes Q r d * K k d = 0 :=
    Finset.sum_eq_zero fun d hd => by rw [lastLanes, if_pos (Finset.mem_range.1 hd), zero_mul]
  have h2 : ∑ d ∈ Finset.range 64, lastLanes Q r (64 + d) * K k (64 + d) = ∑ d ∈ Finset.range 64, Q r (64 + d) * K k (64 + d) :=
    Finset.sum_congr rfl fun d hd => by rw [lastLanes, if_neg (by omega)]
  rw [h1, h2, zero_add]

/-- The sum of the weights on all 8448 keys. -/
theorem total_allKeys (q K Kc : ℕ → ℕ → ℝ) (r : ℕ) (w : ℕ → ℝ)
    (hw : ∀ k, k < 8192 → weight q K r k = w k) (hwc : ∀ k, k < 256 → weight q Kc r k = w (8192 + k)) :
    total q K Kc r = ∑ k ∈ Finset.range 8448, w k := by
  rw [total, show (8448 : ℕ) = 8192 + 256 from rfl, Finset.sum_range_add]
  exact congrArg₂ (· + ·) (Finset.sum_congr rfl fun k hk => hw k (Finset.mem_range.1 hk))
    (Finset.sum_congr rfl fun k hk => hwc k (Finset.mem_range.1 hk))

/-- One map applied to values that may be infinite, from its weights and values on all 8448 keys. -/
theorem attendE_allKeys (q K : ℕ → ℕ → ℝ) (V : ℕ → ℕ → EReal) (Kc : ℕ → ℕ → ℝ) (Vc : ℕ → ℕ → EReal) (r e : ℕ) (w : ℕ → ℝ) (v : ℕ → EReal)
    (hw : ∀ k, k < 8192 → weight q K r k = w k) (hwc : ∀ k, k < 256 → weight q Kc r k = w (8192 + k))
    (hv : ∀ k, k < 8192 → V k e = v k) (hvc : ∀ k, k < 256 → Vc k e = v (8192 + k)) :
    attendE q K V Kc Vc r e = ∑ k ∈ Finset.range 8448, v k * ((w k / ∑ k ∈ Finset.range 8448, w k : ℝ) : EReal) := by
  have hm : mixedE q K V Kc Vc r e = ∑ k ∈ Finset.range 8448, ((w k : ℝ) : EReal) * v k := by
    rw [mixedE, show (8448 : ℕ) = 8192 + 256 from rfl, Finset.sum_range_add]
    exact congrArg₂ (· + ·)
      (Finset.sum_congr rfl fun k hk => by rw [hw k (Finset.mem_range.1 hk), hv k (Finset.mem_range.1 hk)])
      (Finset.sum_congr rfl fun k hk => by rw [hwc k (Finset.mem_range.1 hk), hvc k (Finset.mem_range.1 hk)])
  rw [attendE, hm, EReal.mul_comm, pos_mul_sum (one_div_pos.2 (total_pos q K Kc r)), total_allKeys q K Kc r w hw hwc]
  refine Finset.sum_congr rfl fun k _ => ?_
  rw [← mul_assoc, ← EReal.coe_mul, one_div_mul_eq_div, EReal.mul_comm]

/-- The same of real values. -/
theorem attend_allKeys (q K V Kc Vc : ℕ → ℕ → ℝ) (r e : ℕ) (w v : ℕ → ℝ)
    (hw : ∀ k, k < 8192 → weight q K r k = w k) (hwc : ∀ k, k < 256 → weight q Kc r k = w (8192 + k))
    (hv : ∀ k, k < 8192 → V k e = v k) (hvc : ∀ k, k < 256 → Vc k e = v (8192 + k)) :
    attend q K V Kc Vc r e = ∑ k ∈ Finset.range 8448, v k * (w k / ∑ k ∈ Finset.range 8448, w k) := by
  refine EReal.coe_injective ?_
  rw [← attendE_coe, attendE_allKeys _ _ _ _ _ r e w (fun k => ((v k : ℝ) : EReal)) hw hwc (fun k hk => by rw [hv k hk]) (fun k hk => by rw [hvc k hk]),
    coe_sum_range]
  simp only [EReal.coe_mul]

variable (X Y : ℕ → ℕ → ℝ) (b h p : ℕ)

/-- The queries of block `p` of image `b`, head `h`. -/
def queries : ℕ → ℕ → ℝ := fun r d => X (1024 * (b * 8 + p) + r) (128 * h + d)
/-- The keys of image `b`, head `h`. -/
def keys : ℕ → ℕ → ℝ := fun k d => X (8192 * b + k) (128 * (4 + h) + d)
/-- The values of image `b`, head `h`. -/
def values : ℕ → ℕ → ℝ := fun k d => X (8192 * b + k) (128 * (8 + h) + d)
/-- The keys of the context of image `b`, head `h`. -/
def ctxKeys : ℕ → ℕ → ℝ := fun k d => X (256 * (64 + b) + k) (128 * (4 + h) + d)
/-- The values of the context of image `b`, head `h`. -/
def ctxValues : ℕ → ℕ → ℝ := fun k d => X (256 * (64 + b) + k) (128 * (8 + h) + d)

theorem keyRow_latent {k : ℕ} (hk : k < 8192) : keyRow b k = 8192 * b + k := by rw [keyRow, if_pos hk]; omega

theorem keyRow_context (k : ℕ) : keyRow b (8192 + k) = 256 * (64 + b) + k := by rw [keyRow, if_neg (by omega)]; omega

theorem weight_first (r : ℕ) {k : ℕ} (hk : k < 8192) :
    weight (firstLanes (queries X b h p)) (keys X b h) r k = (2 : ℝ) ^ refScore X b 0 h (1024 * p + r) k := by
  rw [weight, score_firstLanes, refScore, keyRow_latent b hk]
  refine congrArg _ (Finset.sum_congr rfl fun d _ => ?_)
  rw [queries, keys, show 1024 * (b * 8 + p) + r = b * 8192 + (1024 * p + r) by omega, show 128 * h + d = h * 128 + 0 * 64 + d by omega,
    show 128 * (4 + h) + d = 512 + (h * 128 + 0 * 64 + d) by omega]

theorem weight_first_context (r k : ℕ) :
    weight (firstLanes (queries X b h p)) (ctxKeys X b h) r k = (2 : ℝ) ^ refScore X b 0 h (1024 * p + r) (8192 + k) := by
  rw [weight, score_firstLanes, refScore, keyRow_context b k]
  refine congrArg _ (Finset.sum_congr rfl fun d _ => ?_)
  rw [queries, ctxKeys, show 1024 * (b * 8 + p) + r = b * 8192 + (1024 * p + r) by omega, show 128 * h + d = h * 128 + 0 * 64 + d by omega,
    show 128 * (4 + h) + d = 512 + (h * 128 + 0 * 64 + d) by omega]

theorem weight_last (r : ℕ) {k : ℕ} (hk : k < 8192) :
    weight (lastLanes (queries X b h p)) (keys X b h) r k = (2 : ℝ) ^ refScore X b 1 h (1024 * p + r) k := by
  rw [weight, score_lastLanes, refScore, keyRow_latent b hk]
  refine congrArg _ (Finset.sum_congr rfl fun d _ => ?_)
  rw [queries, keys, show 1024 * (b * 8 + p) + r = b * 8192 + (1024 * p + r) by omega, show 128 * h + (64 + d) = h * 128 + 1 * 64 + d by omega,
    show 128 * (4 + h) + (64 + d) = 512 + (h * 128 + 1 * 64 + d) by omega]

theorem weight_last_context (r k : ℕ) :
    weight (lastLanes (queries X b h p)) (ctxKeys X b h) r k = (2 : ℝ) ^ refScore X b 1 h (1024 * p + r) (8192 + k) := by
  rw [weight, score_lastLanes, refScore, keyRow_context b k]
  refine congrArg _ (Finset.sum_congr rfl fun d _ => ?_)
  rw [queries, ctxKeys, show 1024 * (b * 8 + p) + r = b * 8192 + (1024 * p + r) by omega, show 128 * h + (64 + d) = h * 128 + 1 * 64 + d by omega,
    show 128 * (4 + h) + (64 + d) = 512 + (h * 128 + 1 * 64 + d) by omega]

theorem value_latent (e : ℕ) {k : ℕ} (hk : k < 8192) : values X b h k e = X (keyRow b k) (1024 + (h * 128 + e)) := by
  rw [values, keyRow_latent b hk, show 128 * (8 + h) + e = 1024 + (h * 128 + e) by omega]

theorem value_context (e k : ℕ) : ctxValues X b h k e = X (keyRow b (8192 + k)) (1024 + (h * 128 + e)) := by
  rw [ctxValues, keyRow_context b k, show 128 * (8 + h) + e = 1024 + (h * 128 + e) by omega]

/-- The difference of what the two maps give is the reference's combination of them, applied to the values. -/
theorem difference_agrees (r e : ℕ) :
    attend (firstLanes (queries X b h p)) (keys X b h) (values X b h) (ctxKeys X b h) (ctxValues X b h) r e
        - lamOf Y * attend (lastLanes (queries X b h p)) (keys X b h) (values X b h) (ctxKeys X b h) (ctxValues X b h) r e
      = refMixed X Y b h (1024 * p + r) e := by
  rw [attend_allKeys _ _ _ _ _ r e (fun k => (2 : ℝ) ^ refScore X b 0 h (1024 * p + r) k) (fun k => X (keyRow b k) (1024 + (h * 128 + e)))
      (fun k hk => weight_first X b h p r hk) (fun k _ => weight_first_context X b h p r k)
      (fun k hk => value_latent X b h e hk) (fun k _ => value_context X b h e k),
    attend_allKeys _ _ _ _ _ r e (fun k => (2 : ℝ) ^ refScore X b 1 h (1024 * p + r) k) (fun k => X (keyRow b k) (1024 + (h * 128 + e)))
      (fun k hk => weight_last X b h p r hk) (fun k _ => weight_last_context X b h p r k)
      (fun k hk => value_latent X b h e hk) (fun k _ => value_context X b h e k),
    Finset.mul_sum, ← Finset.sum_sub_distrib, refMixed]
  refine Finset.sum_congr rfl fun k _ => ?_
  rw [refWeight, refWeight, refTotal, refTotal]
  ring

end Cert.Agree

end
-- ==== Proof.KI.Result.lean ====
/- The kernel's result at an index, from the real numbers its first and third arguments hold: the reference's value. -/
module

public import proofs.«01_k».proof.Proof.KI.Launch
public import proofs.«01_k».proof.Proof.KI.Online
public import proofs.«01_k».proof.Proof.Agree

@[expose] public section

set_option maxRecDepth 16384

noncomputable section

namespace Cert.KernelIdeal.Hand

open Idealize.ShloMosaic Idealize.ShloMosaic.ValueIdx
open Cert.KernelIdeal Cert.KernelIdeal.Gen
open Cert.ReferenceIdeal.Hand (Reads LamReads refMixed)
open Cert.Agree
open scoped BigOperators

variable {X Y : ℕ → ℕ → ℝ}

/-- A tile of the queries, keys or values is a matrix of real numbers. -/
theorem tile_reads {x : FVec Ideal S16896x2560 .bf16} (hX : Reads x X) (n r c : ℕ) (hr : r + n ≤ 16896) (hc : c + 128 ≤ 2560) (h : c + 128 ≤ 1536) :
    tile x n r c hr hc = (cv .bf16 fun i j => X (r + i) (c + j) : FVec Ideal (⟨2, ![n, 128]⟩ : Shape) .bf16) :=
  funext fun y => hX _ (show c + (y 1).val < 1536 by have := idx2_lt1 y; omega)

variable (m : (ℓ : Loc nD τ sig) → Buf (Elt Ideal) ℓ) (c : Dev nD)

theorem lam_reads (hY : LamReads (m ((c.tc : Thread nD τ).loc main_arg2)) Y) (t : Fin cfg0.N) :
    (iblk m c 6 t : Vec Ideal S4x64 .f32) = cv .f32 Y :=
  (block6 m c t).trans (funext fun y => hY y)

/-- The attention block of a point, at an index. -/
theorem pointOut_apply (hX : Reads (m ((c.tc : Thread nD τ).loc main_arg0)) X) (hY : LamReads (m ((c.tc : Thread nD τ).loc main_arg2)) Y)
    (t : Fin cfg0.N) (y : S1024x128.Idx) :
    pointOut m c t y = tailAt (fun e => refMixed X Y (t.val / 32) (t.val / 8 % 4) (1024 * (t.val % 8) + (y 0).val) e) (y 1).val
      ((m ((c.tc : Thread nD τ).loc main_arg3) : FVec Ideal S1x128 .f32) (ix2 0 (y 1))) := by
  have ht := lt64 t
  have b0 : (X0_0 m c t : FVec Ideal S1024x128 .bf16) = cv .bf16 (queries X (t.val / 32) (t.val / 8 % 4) (t.val % 8)) :=
    (block0 m c t).trans (tile_reads hX _ _ _ _ _ (show 128 * (t.val / 8 % 4) + 128 ≤ 1536 by omega))
  have b1 : (X0_1 m c t : FVec Ideal S8192x128 .bf16) = cv .bf16 (keys X (t.val / 32) (t.val / 8 % 4)) :=
    (block1 m c t).trans (tile_reads hX _ _ _ _ _ (show 128 * (4 + t.val / 8 % 4) + 128 ≤ 1536 by omega))
  have b2 : (X0_2 m c t : FVec Ideal S8192x128 .bf16) = cv .bf16 (values X (t.val / 32) (t.val / 8 % 4)) :=
    (block2 m c t).trans (tile_reads hX _ _ _ _ _ (show 128 * (8 + t.val / 8 % 4) + 128 ≤ 1536 by omega))
  have b3 : (iblk m c 3 t : FVec Ideal S256x128 .bf16) = cv .bf16 (ctxKeys X (t.val / 32) (t.val / 8 % 4)) :=
    (block3 m c t).trans (tile_reads hX _ _ _ _ _ (show 128 * (4 + t.val / 8 % 4) + 128 ≤ 1536 by omega))
  have b4 : (iblk m c 4 t : FVec Ideal S256x128 .bf16) = cv .bf16 (ctxValues X (t.val / 32) (t.val / 8 % 4)) :=
    (block4 m c t).trans (tile_reads hX _ _ _ _ _ (show 128 * (8 + t.val / 8 % 4) + 128 ≤ 1536 by omega))
  have e := congrFun (attnBlock_eq (queries X (t.val / 32) (t.val / 8 % 4) (t.val % 8)) (keys X (t.val / 32) (t.val / 8 % 4))
    (values X (t.val / 32) (t.val / 8 % 4)) (ctxKeys X (t.val / 32) (t.val / 8 % 4)) (ctxValues X (t.val / 32) (t.val / 8 % 4))
    (flag m c t) (cv .f32 Y) (m ((c.tc : Thread nD τ).loc main_arg3))) y
  rw [finish_apply] at e
  simp only [difference_agrees] at e
  rw [← e]
  unfold pointOut
  exact congrFun (congr (congr (congr (congr (congr (congr (congr (congrArg _ b0) b1) b2) b3) b4) rfl) (lam_reads m c hY t)) (block7 m c t)) y

/-- The kernel's result at an index. -/
theorem result_apply (hX : Reads (m ((c.tc : Thread nD τ).loc main_arg0)) X) (hY : LamReads (m ((c.tc : Thread nD τ).loc main_arg2)) Y) (i : S16384x512.Idx) :
    result m c i = tailAt (fun e => refMixed X Y ((i 0).val / 8192) ((i 1).val / 128) ((i 0).val % 8192) e) ((i 1).val % 128)
      ((m ((c.tc : Thread nD τ).loc main_arg3) : FVec Ideal S1x128 .f32) (ix2 (0 : Fin 1) (⟨(i 1).val % 128, Nat.mod_lt _ (by norm_num)⟩ : Fin 128))) := by
  have h0 : (i 0).val < 16384 := (i 0).isLt
  have h1 : (i 1).val < 512 := (i 1).isLt
  refine (pointOut_apply m c hX hY (ptOf i) (inBlk i)).trans ?_
  have ev : (ptOf i).val = (i 0).val / 8192 * 32 + (i 1).val / 128 * 8 + (i 0).val % 8192 / 1024 := rfl
  have e0 : ((inBlk i) 0).val = (i 0).val % 1024 := rfl
  rw [show (ptOf i).val / 32 = (i 0).val / 8192 by omega, show (ptOf i).val / 8 % 4 = (i 1).val / 128 by omega,
    show 1024 * ((ptOf i).val % 8) + ((inBlk i) 0).val = (i 0).val % 8192 by omega]
  rfl

end Cert.KernelIdeal.Hand

end
-- ==== Proof.Post.Spec.lean ====
/- One row of the layer's second half over the extended reals: the output projection and its gate, the modulated root-mean-square
   norm, and the multilayer perceptron of squared rectified values and its gate. Coordinates are natural numbers: `at2 x i j` is
   the entry of an array of two axes at row `i` and column `j`, zero outside it. -/
module

public import Idealize.ShloMosaic.Lib.ValueIdx
public import Idealize.ShloMosaic.PureOps.Ideal.Laws

@[expose] public section

noncomputable section

namespace Cert.Post

open Idealize.ShloMosaic Idealize.ShloMosaic.ValueIdx
open scoped BigOperators

/-! ## Arrays read at natural numbers -/

def at2 {a b : ℕ} (x : (⟨2, ![a, b]⟩ : Shape).Idx → EReal) (i j : ℕ) : EReal :=
  if h : i < a ∧ j < b then x (ix2 ⟨i, h.1⟩ ⟨j, h.2⟩) else 0

def at3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

theorem at2_of {a b : ℕ} (x : (⟨2, ![a, b]⟩ : Shape).Idx → EReal) (y : (⟨2, ![a, b]⟩ : Shape).Idx) {i j : ℕ}
    (hi : (y 0).val = i) (hj : (y 1).val = j) : x y = at2 x i j := by
  subst hi hj
  unfold at2
  rw [dif_pos ⟨idx2_lt0 y, idx2_lt1 y⟩]
  exact congrArg x (eq_ix2 y)

theorem at3_of {a b c : ℕ} (x : (⟨3, ![a, b, c]⟩ : Shape).Idx → EReal) (y : (⟨3, ![a, b, c]⟩ : Shape).Idx) {i j k : ℕ}
    (hi : (y 0).val = i) (hj : (y 1).val = j) (hk : (y 2).val = k) : x y = at3 x i j k := by
  subst hi hj hk
  unfold at3
  rw [dif_pos ⟨(y 0).isLt, (y 1).isLt, (y 2).isLt⟩]
  exact congrArg x (eq_ix3 y)

theorem at2_eq {a b : ℕ} {x : (⟨2, ![a, b]⟩ : Shape).Idx → EReal} {i j : ℕ} (hi : i < a) (hj : j < b) :
    at2 x i j = x (ix2 ⟨i, hi⟩ ⟨j, hj⟩) := dif_pos ⟨hi, hj⟩

theorem at3_eq {a b c : ℕ} {x : (⟨3, ![a, b, c]⟩ : Shape).Idx → EReal} {i j k : ℕ} (hi : i < a) (hj : j < b) (hk : k < c) :
    at3 x i j k = x (ix3 ⟨i, hi⟩ ⟨j, hj⟩ ⟨k, hk⟩) := dif_pos ⟨hi, hj, hk⟩

/-- An array read through a map that shifts the coordinates, as a block of it is. -/
theorem at2_shift {a b a' b' : ℕ} (x : (⟨2, ![a, b]⟩ : Shape).Idx → EReal) (f : (⟨2, ![a', b']⟩ : Shape).Idx → EReal)
    (e : (⟨2, ![a', b']⟩ : Shape).Idx → (⟨2, ![a, b]⟩ : Shape).Idx) (hf : ∀ y, f y = x (e y)) (n s : Fin 2 → ℕ)
    (h0 : ∀ y, (e y 0).val = n 0 * s 0 + 1 * (y 0).val) (h1 : ∀ y, (e y 1).val = n 1 * s 1 + 1 * (y 1).val) (i j : ℕ) (hi : i < a') (hj : j < b') :
    at2 f i j = at2 x (n 0 * s 0 + i) (n 1 * s 1 + j) := by
  rw [at2_eq hi hj, hf]
  exact at2_of x _ ((h0 _).trans (by rw [Nat.one_mul]; rfl)) ((h1 _).trans (by rw [Nat.one_mul]; rfl))

theorem at3_shift {a b c a' b' c' : ℕ} (x : (⟨3, ![a, b, c]⟩ : Shape).Idx → EReal) (f : (⟨3, ![a', b', c']⟩ : Shape).Idx → EReal)
    (e : (⟨3, ![a', b', c']⟩ : Shape).Idx → (⟨3, ![a, b, c]⟩ : Shape).Idx) (hf : ∀ y, f y = x (e y)) (n s : Fin 3 → ℕ)
    (h0 : ∀ y, (e y 0).val = n 0 * s 0 + 1 * (y 0).val) (h1 : ∀ y, (e y 1).val = n 1 * s 1 + 1 * (y 1).val)
    (h2 : ∀ y, (e y 2).val = n 2 * s 2 + 1 * (y 2).val) (i j k : ℕ) (hi : i < a') (hj : j < b') (hk : k < c') :
    at3 f i j k = at3 x (n 0 * s 0 + i) (n 1 * s 1 + j) (n 2 * s 2 + k) := by
  rw [at3_eq hi hj hk, hf]
  exact at3_of x _ ((h0 _).trans (by rw [Nat.one_mul]; rfl)) ((h1 _).trans (by rw [Nat.one_mul]; rfl)) ((h2 _).trans (by rw [Nat.one_mul]; rfl))

/-- `f` is the block of `x` in the block row `p` and the block column `q`. -/
def Part2 {a b a' b' : ℕ} (f : (⟨2, ![a', b']⟩ : Shape).Idx → EReal) (x : (⟨2, ![a, b]⟩ : Shape).Idx → EReal) (p q : ℕ) : Prop :=
  ∀ i j, i < a' → j < b' → at2 f i j = at2 x (p * a' + i) (q * b' + j)

/-- `f` is the block of layer `p` of `x` in the block row `q` and the block column `r`. -/
def Part3 {a b c b' c' : ℕ} (f : (⟨3, ![1, b', c']⟩ : Shape).Idx → EReal) (x : (⟨3, ![a, b, c]⟩ : Shape).Idx → EReal) (p q r : ℕ) : Prop :=
  ∀ i j, i < b' → j < c' → at3 f 0 i j = at3 x p (q * b' + i) (r * c' + j)

/-- An array read through a map that shifts the coordinates by whole blocks is the block at the place `n` of the map. -/
theorem part2 {a b a' b' : ℕ} (x : (⟨2, ![a, b]⟩ : Shape).Idx → EReal) (f : (⟨2, ![a', b']⟩ : Shape).Idx → EReal)
    (e : (⟨2, ![a', b']⟩ : Shape).Idx → (⟨2, ![a, b]⟩ : Shape).Idx) (hf : ∀ y, f y = x (e y)) (n : Fin 2 → ℕ) {p q : ℕ} (hn : n 0 = p ∧ n 1 = q)
    (h0 : ∀ y, (e y 0).val = n 0 * a' + 1 * (y 0).val) (h1 : ∀ y, (e y 1).val = n 1 * b' + 1 * (y 1).val) : Part2 f x p q := fun i j hi hj => by
  rw [← hn.1, ← hn.2]
  exact at2_shift x f e hf n ![a', b'] h0 h1 i j hi hj

theorem part3 {a b c b' c' : ℕ} (x : (⟨3, ![a, b, c]⟩ : Shape).Idx → EReal) (f : (⟨3, ![1, b', c']⟩ : Shape).Idx → EReal)
    (e : (⟨3, ![1, b', c']⟩ : Shape).Idx → (⟨3, ![a, b, c]⟩ : Shape).Idx) (hf : ∀ y, f y = x (e y)) (n : Fin 3 → ℕ) {p q r : ℕ}
    (hn : n 0 = p ∧ n 1 = q ∧ n 2 = r) (h0 : ∀ y, (e y 0).val = n 0 * 1 + 1 * (y 0).val) (h1 : ∀ y, (e y 1).val = n 1 * b' + 1 * (y 1).val)
    (h2 : ∀ y, (e y 2).val = n 2 * c' + 1 * (y 2).val) : Part3 f x p q r := fun i j hi hj => by
  rw [← hn.1, ← hn.2.1, ← hn.2.2]
  exact (at3_shift x f e hf n ![1, b', c'] h0 h1 h2 0 i j Nat.one_pos hi hj).trans (congrArg (fun l => at3 x l _ _) (Nat.mul_one _))

/-- A block of whole rows. -/
theorem Part2.rows {a b a' t : ℕ} {f : (⟨2, ![a', b]⟩ : Shape).Idx → EReal} {x : (⟨2, ![a, b]⟩ : Shape).Idx → EReal} (h : Part2 f x t 0)
    (i j : ℕ) (hi : i < a') (hj : j < b) : at2 f i j = at2 x (a' * t + i) j :=
  (h i j hi hj).trans (by rw [Nat.mul_comm t, Nat.zero_mul, Nat.zero_add])

/-- All of a layer's matrix. -/
theorem Part3.whole {a b c b' p : ℕ} {f : (⟨3, ![1, b', c]⟩ : Shape).Idx → EReal} {x : (⟨3, ![a, b, c]⟩ : Shape).Idx → EReal} (h : Part3 f x p 0 0)
    (i j : ℕ) (hi : i < b') (hj : j < c) : at3 f 0 i j = at3 x p i j :=
  (h i j hi hj).trans (by rw [Nat.zero_mul, Nat.zero_mul, Nat.zero_add, Nat.zero_add])

/-- A chunk of the columns of a layer's matrix. -/
theorem Part3.columns {a b c b' c' p r : ℕ} {f : (⟨3, ![1, b', c']⟩ : Shape).Idx → EReal} {x : (⟨3, ![a, b, c]⟩ : Shape).Idx → EReal} (h : Part3 f x p 0 r)
    (i j : ℕ) (hi : i < b') (hj : j < c') : at3 f 0 i j = at3 x p i (r * c' + j) :=
  (h i j hi hj).trans (by rw [Nat.zero_mul, Nat.zero_add])

/-- The blocks of 512 whole rows cover an array of 1024 columns: an index lies in the block of its row. -/
theorem rows_cover {n : ℕ} (z : (⟨2, ![n, 1024]⟩ : Shape).Idx) (ix sz : Fin 2 → ℕ) (hi : ix 0 = (z 0).val / 512 ∧ ix 1 = 0) (hx : sz 0 = 512 ∧ sz 1 = 1024) (a : Fin 2) :
    ix a * (![512, 1024] : Fin 2 → ℕ) a ≤ (z a).val ∧ (z a).val < ix a * (![512, 1024] : Fin 2 → ℕ) a + sz a := by
  have h1 := idx2_lt1 z
  match a with
  | 0 =>
    show ix 0 * 512 ≤ (z 0).val ∧ (z 0).val < ix 0 * 512 + sz 0
    rw [hi.1, hx.1]; omega
  | 1 =>
    show ix 1 * 1024 ≤ (z 1).val ∧ (z 1).val < ix 1 * 1024 + sz 1
    rw [hi.2, hx.2]; omega

/-! ## The row -/

/-- The row of the residual stream after the attention: `x` plus the gated projection of the attention row `o`. -/
def mid (x o g : ℕ → EReal) (W : ℕ → ℕ → EReal) (j : ℕ) : EReal :=
  x j + g j * ∑ k ∈ Finset.range 1024, o k * W k j

/-- The reciprocal root of the mean square of a row. -/
def invRms (x : ℕ → EReal) : EReal :=
  Ideal.rsqrt (Ideal.div (∑ k ∈ Finset.range 1024, x k * x k) (Ideal.ofBits .f32 0x44800000#32) + Ideal.ofBits .f32 0x358637BD#32)

/-- The modulated norm of a row. -/
def normed (x gain sc sh : ℕ → EReal) (j : ℕ) : EReal :=
  x j * invRms x * gain j * (Ideal.ofBits .f32 0x3F800000#32 + sc j) + sh j

/-- The squared rectified values of the hidden layer. -/
def activated (h : ℕ → EReal) (W : ℕ → ℕ → EReal) (n : ℕ) : EReal :=
  max (∑ k ∈ Finset.range 1024, h k * W k n) 0 * max (∑ k ∈ Finset.range 1024, h k * W k n) 0

/-- The row of the result: the gated second product added. -/
def last (x a g : ℕ → EReal) (W : ℕ → ℕ → EReal) (j : ℕ) : EReal :=
  x j + g j * ∑ n ∈ Finset.range 4096, a n * W n j

/-- The whole row from its inputs. -/
def row (x o g1 gain sc sh g2 : ℕ → EReal) (W W1 W2 : ℕ → ℕ → EReal) : ℕ → EReal :=
  last (mid x o g1 W) (activated (normed (mid x o g1 W) gain sc sh) W1) g2 W2

/-- A row depends on its inputs within their lengths only. -/
theorem row_congr {x x' o o' g1 g1' gain gain' sc sc' sh sh' g2 g2' : ℕ → EReal} {W W' W1 W1' W2 W2' : ℕ → ℕ → EReal}
    (hx : ∀ k < 1024, x k = x' k) (ho : ∀ k < 1024, o k = o' k) (hg1 : ∀ k < 1024, g1 k = g1' k) (hgain : ∀ k < 1024, gain k = gain' k)
    (hsc : ∀ k < 1024, sc k = sc' k) (hsh : ∀ k < 1024, sh k = sh' k) (hg2 : ∀ k < 1024, g2 k = g2' k)
    (hW : ∀ k j, k < 1024 → j < 1024 → W k j = W' k j) (hW1 : ∀ k n, k < 1024 → n < 4096 → W1 k n = W1' k n)
    (hW2 : ∀ n j, n < 4096 → j < 1024 → W2 n j = W2' n j) (j : ℕ) (hj : j < 1024) :
    row x o g1 gain sc sh g2 W W1 W2 j = row x' o' g1' gain' sc' sh' g2' W' W1' W2' j := by
  have hm : ∀ j < 1024, mid x o g1 W j = mid x' o' g1' W' j := fun j hj => by
    unfold mid
    rw [hx j hj, hg1 j hj, Finset.sum_congr rfl fun k hk => by
      rw [ho k (Finset.mem_range.mp hk), hW k j (Finset.mem_range.mp hk) hj]]
  have hr : invRms (mid x o g1 W) = invRms (mid x' o' g1' W') := by
    unfold invRms
    rw [Finset.sum_congr rfl fun k hk => by rw [hm k (Finset.mem_range.mp hk)]]
  have hn : ∀ j < 1024, normed (mid x o g1 W) gain sc sh j = normed (mid x' o' g1' W') gain' sc' sh' j := fun j hj => by
    unfold normed
    rw [hm j hj, hr, hgain j hj, hsc j hj, hsh j hj]
  have hh : ∀ n < 4096, activated (normed (mid x o g1 W) gain sc sh) W1 n = activated (normed (mid x' o' g1' W') gain' sc' sh') W1' n := fun n hn' => by
    unfold activated
    rw [Finset.sum_congr rfl fun k hk => by
      rw [hn k (Finset.mem_range.mp hk), hW1 k n (Finset.mem_range.mp hk) hn']]
  unfold row last
  rw [hm j hj, hg2 j hj, Finset.sum_congr rfl fun n hn' => by
    rw [hh n (Finset.mem_range.mp hn'), hW2 n j (Finset.mem_range.mp hn') hj]]

/-- The attention row: 512 entries from each of two arrays. -/
def joined (oa ob : ℕ → EReal) (k : ℕ) : EReal := if k < 512 then oa k else ob (k - 512)

theorem joined_congr {oa oa' ob ob' : ℕ → EReal} (ha : ∀ k < 512, oa k = oa' k) (hb : ∀ k < 512, ob k = ob' k) (k : ℕ) (hk : k < 1024) :
    joined oa ob k = joined oa' ob' k := by
  unfold joined
  split
  · exact ha k ‹_›
  · exact hb _ (by omega)

/-- The sum over the joined row, half by half. -/
theorem sum_joined (oa ob : ℕ → EReal) (w : ℕ → EReal) :
    ∑ k ∈ Finset.range 1024, joined oa ob k * w k
      = (∑ k ∈ Finset.range 512, oa k * w k) + ∑ k ∈ Finset.range 512, ob k * w (512 + k) := by
  rw [show (1024 : ℕ) = 512 + 512 from rfl, Finset.sum_range_add]
  refine congrArg₂ (· + ·) ?_ ?_
  · exact Finset.sum_congr rfl fun k hk => by rw [joined, if_pos (Finset.mem_range.mp hk)]
  · exact Finset.sum_congr rfl fun k _ => by rw [joined, if_neg (by omega), Nat.add_sub_cancel_left]

/-- The row of a layer `L` from its rows of the stream and of the attention: layer `L` of the stacked weights and of the
    modulation, whose six chunks of 1024 are shift, scale, gate of the attention and shift, scale, gate of the perceptron, in
    the row `b` of the modulation. -/
def layerRow (L b : ℕ) (x o : ℕ → EReal) (wo : (⟨3, ![4, 1024, 1024]⟩ : Shape).Idx → EReal) (md : (⟨3, ![4, 8, 6144]⟩ : Shape).Idx → EReal)
    (gain : (⟨2, ![1, 1024]⟩ : Shape).Idx → EReal) (w1 : (⟨3, ![4, 1024, 4096]⟩ : Shape).Idx → EReal)
    (w2 : (⟨3, ![4, 4096, 1024]⟩ : Shape).Idx → EReal) : ℕ → EReal :=
  row x o (fun j => at3 md L b (2048 + j)) (at2 gain 0) (fun j => at3 md L b (4096 + j)) (fun j => at3 md L b (3072 + j))
    (fun j => at3 md L b (5120 + j)) (at3 wo L) (at3 w1 L) (at3 w2 L)

/-- The result of the last layer at row `r`, column `j`: layer 3, the row `r / 8192` of the modulation its batch entry. -/
def result {a : ℕ} (x : (⟨2, ![a, 1024]⟩ : Shape).Idx → EReal) (oa ob : (⟨2, ![a, 512]⟩ : Shape).Idx → EReal)
    (wo : (⟨3, ![4, 1024, 1024]⟩ : Shape).Idx → EReal) (md : (⟨3, ![4, 8, 6144]⟩ : Shape).Idx → EReal)
    (gain : (⟨2, ![1, 1024]⟩ : Shape).Idx → EReal) (w1 : (⟨3, ![4, 1024, 4096]⟩ : Shape).Idx → EReal)
    (w2 : (⟨3, ![4, 4096, 1024]⟩ : Shape).Idx → EReal) (r : ℕ) : ℕ → EReal :=
  layerRow 3 (r / 8192) (at2 x r) (joined (at2 oa r) (at2 ob r)) wo md gain w1 w2

/-- The latent rows of an array, and below them the context's rows of another. -/
def stacked {b : ℕ} (x : (⟨2, ![16384, b]⟩ : Shape).Idx → EReal) (c : (⟨2, ![512, b]⟩ : Shape).Idx → EReal) (r : ℕ) : ℕ → EReal :=
  if r < 16384 then at2 x r else at2 c (r - 16384)

/-- The result of layer `L` at row `r`, where the context's rows are below the latent ones and the context has the row 2 of the
    modulation, which is `r / 8192` too. -/
def resultOn (L : ℕ) (x oa ob : ℕ → ℕ → EReal)
    (wo : (⟨3, ![4, 1024, 1024]⟩ : Shape).Idx → EReal) (md : (⟨3, ![4, 8, 6144]⟩ : Shape).Idx → EReal)
    (gain : (⟨2, ![1, 1024]⟩ : Shape).Idx → EReal) (w1 : (⟨3, ![4, 1024, 4096]⟩ : Shape).Idx → EReal)
    (w2 : (⟨3, ![4, 4096, 1024]⟩ : Shape).Idx → EReal) (r : ℕ) : ℕ → EReal :=
  layerRow L (r / 8192) (x r) (joined (oa r) (ob r)) wo md gain w1 w2

end Cert.Post

end
-- ==== Proof.Post.Arrays.lean ====
/- Arrays of two axes over the extended reals given by a function of the coordinates as natural numbers: `ev f` has the entry
   `f i j` at row `i` and column `j`. Each operation of the kernel's body takes such arrays to such an array. -/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import proofs.«01_k».proof.Proof.Post.Spec

@[expose] public section

set_option maxRecDepth 16384

noncomputable section

namespace Cert.Post

open Idealize.ShloMosaic Idealize.ShloMosaic.ValueIdx
open scoped BigOperators

def ev (φ : FTy) {a b : ℕ} (f : ℕ → ℕ → EReal) : FVec Ideal (⟨2, ![a, b]⟩ : Shape) φ :=
  fun y => f (y 0).val (y 1).val

variable {a b : ℕ} {φ : FTy}

theorem ev_congr {f g : ℕ → ℕ → EReal} (h : ∀ i j, i < a → j < b → f i j = g i j) :
    (ev φ f : FVec Ideal (⟨2, ![a, b]⟩ : Shape) φ) = ev φ g :=
  funext fun y => h _ _ (idx2_lt0 y) (idx2_lt1 y)

theorem ev_addf (f g : ℕ → ℕ → EReal) :
    addf (ev φ f : FVec Ideal (⟨2, ![a, b]⟩ : Shape) φ) (ev φ g) = ev φ fun i j => f i j + g i j := rfl

theorem ev_mulf (f g : ℕ → ℕ → EReal) :
    mulf (ev φ f : FVec Ideal (⟨2, ![a, b]⟩ : Shape) φ) (ev φ g) = ev φ fun i j => f i j * g i j := rfl

theorem ev_divf (f g : ℕ → ℕ → EReal) :
    divf (ev φ f : FVec Ideal (⟨2, ![a, b]⟩ : Shape) φ) (ev φ g) = ev φ fun i j => Ideal.div (f i j) (g i j) := rfl

theorem ev_maximumf (f g : ℕ → ℕ → EReal) :
    maximumf (ev φ f : FVec Ideal (⟨2, ![a, b]⟩ : Shape) φ) (ev φ g) = ev φ fun i j => max (f i j) (g i j) := rfl

theorem ev_rsqrt (f : ℕ → ℕ → EReal) :
    rsqrt (ev φ f : FVec Ideal (⟨2, ![a, b]⟩ : Shape) φ) = ev φ fun i j => Ideal.rsqrt (f i j) := rfl

theorem ev_truncf (f : ℕ → ℕ → EReal) (h : FTy.bf16.bits < FTy.f32.bits) :
    truncf .bf16 (ev .f32 f : FVec Ideal (⟨2, ![a, b]⟩ : Shape) .f32) h = ev .bf16 f := rfl

theorem ev_splat (w : BitVec FTy.f32.bits) :
    (broadcast (⟨2, ![a, b]⟩ : Shape) (Scalar.ofBits .f32 w : Ideal .f32)) = ev .f32 fun _ _ => Ideal.ofBits .f32 w := rfl

/-- The last axis of a one-row array repeated down the rows. -/
theorem ev_broadcastRow (f : ℕ → ℕ → EReal) (h : (⟨2, ![1, b]⟩ : Shape).Broadcasts ⟨2, ![a, b]⟩) :
    broadcastTo (⟨2, ![a, b]⟩ : Shape) (ev φ f) h = ev φ fun _ j => f 0 j :=
  funext fun y => broadcastTo_apply (ev φ f) h y (ix2 0 (y 1)) fun d => match d with
    | 0 => (if_pos rfl).symm
    | 1 => by
      show (y 1).val = if b = 1 then 0 else (y 1).val
      have := idx2_lt1 y
      split <;> omega

/-- The only column of an array repeated along the rows. -/
theorem ev_broadcastCol (f : ℕ → ℕ → EReal) (h : (⟨2, ![a, 1]⟩ : Shape).Broadcasts ⟨2, ![a, b]⟩) :
    broadcastTo (⟨2, ![a, b]⟩ : Shape) (ev φ f) h = ev φ fun i _ => f i 0 :=
  funext fun y => broadcastTo_apply (ev φ f) h y (ix2 (y 0) 0) fun d => match d with
    | 0 => by
      show (y 0).val = if a = 1 then 0 else (y 0).val
      have := idx2_lt0 y
      split <;> omega
    | 1 => (if_pos rfl).symm

/-- The sums of the rows, as one column. -/
theorem ev_sumRows (f : ℕ → ℕ → EReal) (axes : List (Fin (⟨2, ![a, b]⟩ : Shape).rank)) (h : (⟨2, ![a, b]⟩ : Shape).Reduces axes ⟨1, ![a]⟩)
    (ha : axes = [1]) (hφ : FKind.Formats FTy.f32)
    (acc : BitVec FTy.f32.bits) (hacc : acc = 0x00000000#32) (hc : (⟨1, ![a]⟩ : Shape).ShapeCasts ⟨2, ![a, 1]⟩) :
    shapeCast (⟨2, ![a, 1]⟩ : Shape) (multiReduction .add axes ⟨1, ![a]⟩ (ev .f32 f : FVec Ideal (⟨2, ![a, b]⟩ : Shape) .f32) acc h hφ hacc) hc
      = ev .f32 fun i _ => ∑ j ∈ Finset.range b, f i j := by
  subst ha
  funext y
  obtain ⟨i, rfl⟩ : ∃ i : Fin a, y = ix2 i (0 : Fin 1) := ⟨y 0, (eq_ix2 y).trans (congrArg (ix2 (y 0)) (Subsingleton.elim (α := Fin 1) _ _))⟩
  refine (shapeCast_a_a1_apply _ hc i 0).trans ((Ideal.multiReduction_add_single _ _ h hφ hacc _).trans ?_)
  exact Fin.sum_univ_eq_sum_range (fun k => f i.val k) b

/-- A plain product over a zero accumulator. -/
theorem ev_matmul {M K N : ℕ} (φ₁ φ₂ : FTy) (f g : ℕ → ℕ → EReal) :
    matmul (DotDims.plain M K N) none (ev φ₁ f) (ev φ₂ g) (constant (⟨2, ![M, N]⟩ : Shape) .f32 0x00000000#32)
      = (ev .f32 fun i j => ∑ k ∈ Finset.range K, f i k * g k j) := by
  funext y
  rw [eq_ix2 y]
  refine (Ideal.matmul_plain_apply none _ _ _ _ _).trans ?_
  rw [show (constant (⟨2, ![M, N]⟩ : Shape) .f32 0x00000000#32 : FVec Ideal _ .f32) (ix2 (y 0) (y 1)) = 0 from Ideal.ofBits_zero_f32, zero_add]
  exact Fin.sum_univ_eq_sum_range (fun k => f (y 0).val k * g k (y 1).val) K

/-- An array of two axes is `ev` of what is read from it. -/
theorem eq_ev (x : FVec Ideal (⟨2, ![a, b]⟩ : Shape) φ) : x = ev φ (at2 x) :=
  funext fun y => at2_of x y rfl rfl

/-- An array with a leading axis of size one, that axis dropped. -/
theorem shapeCast_ev (x : FVec Ideal (⟨3, ![1, a, b]⟩ : Shape) φ) (h : (⟨3, ![1, a, b]⟩ : Shape).ShapeCasts ⟨2, ![a, b]⟩) :
    shapeCast (⟨2, ![a, b]⟩ : Shape) x h = ev φ (at3 x 0) :=
  funext fun y => (shapeCast_apply x h y (ix3 0 (y 0) (y 1)) (by
    rw [Shape.rowMajor_val_three, Shape.rowMajor_val_two]
    show (0 * a + (y 0).val) * b + (y 1).val = _
    rw [Nat.zero_mul, Nat.zero_add]; rfl)).trans (at3_of x _ rfl rfl rfl)

end Cert.Post

end
-- ==== Proof.K2I.Block.lean ====
/- One block of the kernel's result at an index: each of its 512 rows is the row `Cert.Post.row` of the rows it is computed from. -/
module

public import proofs.«01_k».proof.Proof.Gen.Kernel2Ideal.Skeleton
public import proofs.«01_k».proof.Proof.Post.Arrays
public import Idealize.ShloMosaic.Lib.VecWindow
public import Idealize.ShloMosaic.Lib.WholeRead

@[expose] public section

set_option maxRecDepth 16384

noncomputable section

namespace Cert.Kernel2Ideal.Hand

open Idealize.ShloMosaic Idealize.ShloMosaic.ValueIdx Idealize.ShloMosaic.VecWindow
open Cert.Kernel2Ideal Cert.Kernel2Ideal.Gen Cert.Post
open scoped BigOperators

/-- The block after the output projection and its gate. -/
theorem pay2_eq (oa ob : Vec Ideal S512x512 .bf16) (wa wb : Vec Ideal S1x512x1024 .bf16) (x : Vec Ideal S512x1024 .f32) (g : Vec Ideal S1x1x1024 .f32)
    (W : ℕ → ℕ → EReal) (hwa : ∀ k j, k < 512 → j < 1024 → at3 wa 0 k j = W k j) (hwb : ∀ k j, k < 512 → j < 1024 → at3 wb 0 k j = W (512 + k) j) :
    k0_pay2 oa ob wa wb x g = (ev .f32 fun i => mid (at2 x i) (joined (at2 oa i) (at2 ob i)) (at3 g 0 0) W) := by
  unfold k0_pay2
  simp only []
  rw [shapeCast_ev wa, shapeCast_ev wb, shapeCast_ev g, eq_ev oa, eq_ev ob, eq_ev x]
  erw [ev_matmul, ev_matmul]
  rw [ev_addf, ev_broadcastRow, ev_mulf, ev_addf]
  refine ev_congr fun i j hi hj => ?_
  unfold mid
  rw [sum_joined, ← eq_ev oa, ← eq_ev ob, ← eq_ev x]
  congr 2
  exact congrArg₂ (· + ·)
    (Finset.sum_congr rfl fun k hk => by rw [hwa k j (Finset.mem_range.mp hk) hj])
    (Finset.sum_congr rfl fun k hk => by rw [hwb k j (Finset.mem_range.mp hk) hj])

/-- The hidden layer of a block. -/
theorem pay4_eq (f : ℕ → ℕ → EReal) (sh sc : Vec Ideal S1x1x1024 .f32) (gain : Vec Ideal S1x1024 .f32) (w1 : Vec Ideal S1x1024x4096 .bf16) :
    k0_pay4 (ev .f32 f) (k0_pay3 sh) sc gain w1
      = (ev .bf16 fun i => activated (normed (f i) (at2 gain 0) (at3 sc 0 0) (at3 sh 0 0)) (at3 w1 0)) := by
  unfold k0_pay4 k0_pay3
  simp only []
  rw [shapeCast_ev sh, shapeCast_ev sc, shapeCast_ev w1, eq_ev gain]
  rw [ev_mulf]
  erw [ev_sumRows _ _ _ rfl]
  simp only [ev_splat, ev_divf, ev_addf, ev_rsqrt, ev_broadcastCol, ev_mulf, ev_broadcastRow, ev_truncf]
  erw [ev_matmul]
  rw [ev_maximumf, ev_mulf, ev_truncf, Ideal.ofBits_zero_f32, ← eq_ev gain]
  rfl

/-- The block of the result. -/
theorem pay1_eq (f h : ℕ → ℕ → EReal) (g : Vec Ideal S1x1x1024 .f32) (w2 : Vec Ideal S1x4096x1024 .bf16) :
    k0_pay1 (ev .f32 f) (ev .bf16 h) g w2 = (ev .f32 fun i => last (f i) (h i) (at3 g 0 0) (at3 w2 0)) := by
  unfold k0_pay1
  simp only []
  rw [shapeCast_ev g, shapeCast_ev w2]
  erw [ev_matmul]
  rw [ev_broadcastRow, ev_mulf, ev_addf]
  rfl

/-! ## The block from the contents of the staging buffers -/

/-- The block from the contents of the staging buffers, `r` the row of the modulation. -/
def block (r : ℕ) (x : Vec Ideal S512x1024 .f32) (oa ob : Vec Ideal S512x512 .bf16) (wo : Vec Ideal S1x1024x1024 .bf16) (g1 : Vec Ideal S1x8x1024 .f32)
    (gain : Vec Ideal S1x1024 .f32) (sh sc g2 : Vec Ideal S1x8x1024 .f32) (w1 : Vec Ideal S1x1024x4096 .bf16) (w2 : Vec Ideal S1x4096x1024 .bf16) : ℕ → ℕ → EReal :=
  fun i => row (at2 x i) (joined (at2 oa i) (at2 ob i)) (at3 g1 0 r) (at2 gain 0) (at3 sc 0 r) (at3 sh 0 r) (at3 g2 0 r) (at3 wo 0) (at3 w1 0) (at3 w2 0)

/-- A load of some of a buffer holding `x` reads the window of `x` there. -/
theorem load_part {sig : RefSig} {sp : Space} {s : Shape} {e : EltTy} {a : Memref sig .tc sp s e} (h : a.IsWhole)
    (x : s.Idx → Elt Ideal e) {off size : Fin s.rank → ℕ} (inb : ∀ d, off d + size d ≤ s.size d) :
    a.view.readAt (Elt Ideal) (Rect.unit off size inb).toLoadRect (h.unread x) = window x off size inb := by
  rw [View.readAt_unit a.view _ inb rfl inb, h.read_unread]

/-- The window that is all of an array is the array. -/
theorem window_whole {α : Type} {s : Shape} (x : s.Idx → α) (off : Fin s.rank → ℕ) (inb : ∀ d, off d + s.size d ≤ s.size d) :
    window x off s.size inb = x :=
  funext fun y => congrArg x (funext fun d => Fin.ext (by
    show off d + 1 * (y d).val = (y d).val
    have := inb d; omega))

/-- The row loaded from a buffer of eight rows. -/
theorem at3_row {off : Fin 3 → ℕ} {r : ℕ} (h : off 0 = 0 ∧ off 1 = r ∧ off 2 = 0) (x : Vec Ideal S1x8x1024 .f32) (inb) (j : ℕ) (hj : j < 1024) :
    at3 (window x off ![1, 1, 1024] inb : Vec Ideal S1x1x1024 .f32) 0 0 j = at3 x 0 r j := by
  rw [at3_eq (by decide) (by decide) hj]
  refine at3_of x _ ?_ ?_ ?_
  · show off 0 + 1 * 0 = 0
    rw [h.1]
  · show off 1 + 1 * 0 = _
    rw [h.2.1]; omega
  · show off 2 + 1 * j = _
    rw [h.2.2]; omega

/-- Half of the rows of the output projection, from row `o`. -/
theorem at3_half (x : Vec Ideal S1x1024x1024 .bf16) (o : ℕ) (inb) (k j : ℕ) (hk : k < 512) (hj : j < 1024) :
    at3 (window x ![0, o, 0] ![1, 512, 1024] inb : Vec Ideal S1x512x1024 .bf16) 0 k j = at3 x 0 (o + k) j := by
  rw [at3_eq (by decide) hk hj]
  refine at3_of x _ ?_ ?_ ?_
  · show 0 + 1 * 0 = 0
    rfl
  · show o + 1 * k = _
    omega
  · show 0 + 1 * j = _
    omega

/-- The payloads of the body together, `off` the place of the modulation's row `r`. -/
theorem pays_eq {off : Fin 3 → ℕ} {r : ℕ} (h : off 0 = 0 ∧ off 1 = r ∧ off 2 = 0)
    (x0 : Vec Ideal S512x1024 .f32) (x1 x2 : Vec Ideal S512x512 .bf16) (x3 : Vec Ideal S1x1024x1024 .bf16) (x4 : Vec Ideal S1x8x1024 .f32) (x5 : Vec Ideal S1x1024 .f32)
    (x6 x7 x8 : Vec Ideal S1x8x1024 .f32) (x9 : Vec Ideal S1x1024x4096 .bf16) (x10 : Vec Ideal S1x4096x1024 .bf16) (i1 i2 i3 i4 i5 i6) :
    k0_pay1 (k0_pay2 x1 x2 (window x3 ![0, 0, 0] ![1, 512, 1024] i1) (window x3 ![0, 512, 0] ![1, 512, 1024] i2) x0 (window x4 off ![1, 1, 1024] i3))
        (k0_pay4 (k0_pay2 x1 x2 (window x3 ![0, 0, 0] ![1, 512, 1024] i1) (window x3 ![0, 512, 0] ![1, 512, 1024] i2) x0 (window x4 off ![1, 1, 1024] i3))
          (k0_pay3 (window x6 off ![1, 1, 1024] i4)) (window x7 off ![1, 1, 1024] i5) x5 x9) (window x8 off ![1, 1, 1024] i6) x10
      = ev .f32 (block r x0 x1 x2 x3 x4 x5 x6 x7 x8 x9 x10) := by
  rw [pay2_eq _ _ _ _ _ _ (at3 x3 0) (fun k j hk hj => (at3_half x3 0 _ k j hk hj).trans (by rw [Nat.zero_add])) (fun k j hk hj => at3_half x3 512 _ k j hk hj)]
  erw [pay4_eq, pay1_eq]
  refine ev_congr fun i j _ hj => ?_
  exact row_congr (fun _ _ => rfl) (fun _ _ => rfl) (fun k hk => at3_row h x4 _ k hk) (fun _ _ => rfl) (fun k hk => at3_row h x7 _ k hk)
    (fun k hk => at3_row h x6 _ k hk) (fun k hk => at3_row h x8 _ k hk) (fun _ _ _ _ => rfl) (fun _ _ _ _ => rfl) (fun _ _ _ _ => rfl) j hj

/-- The block of the point `t`, its staging buffers holding the blocks of layer `L`: 512 rows of the layer's result. -/
theorem block_layer {L t : ℕ} (ht : t < 33) (X OA OB : ℕ → ℕ → EReal) (wo : Vec Ideal S4x1024x1024 .bf16) (md : Vec Ideal S4x8x6144 .f32) (gn : Vec Ideal S1x1024 .f32)
    (w1 : Vec Ideal S4x1024x4096 .bf16) (w2 : Vec Ideal S4x4096x1024 .bf16)
    {x0 : Vec Ideal S512x1024 .f32} {x1 x2 : Vec Ideal S512x512 .bf16} {x3 : Vec Ideal S1x1024x1024 .bf16} {x4 : Vec Ideal S1x8x1024 .f32} {x5 : Vec Ideal S1x1024 .f32}
    {x6 x7 x8 : Vec Ideal S1x8x1024 .f32} {x9 : Vec Ideal S1x1024x4096 .bf16} {x10 : Vec Ideal S1x4096x1024 .bf16}
    (h0 : ∀ i k, i < 512 → k < 1024 → at2 x0 i k = X (512 * t + i) k) (h1 : ∀ i k, i < 512 → k < 512 → at2 x1 i k = OA (512 * t + i) k)
    (h2 : ∀ i k, i < 512 → k < 512 → at2 x2 i k = OB (512 * t + i) k) (h3 : Part3 x3 wo L 0 0) (h4 : Part3 x4 md L 0 2) (h5 : Part2 x5 gn 0 0)
    (h6 : Part3 x6 md L 0 3) (h7 : Part3 x7 md L 0 4) (h8 : Part3 x8 md L 0 5) (h9 : Part3 x9 w1 L 0 0) (h10 : Part3 x10 w2 L 0 0)
    (i j : ℕ) (hi : i < 512) (hj : j < 1024) :
    block (t / 16) x0 x1 x2 x3 x4 x5 x6 x7 x8 x9 x10 i j
      = layerRow L ((512 * t + i) / 8192) (X (512 * t + i)) (joined (OA (512 * t + i)) (OB (512 * t + i))) wo md gn w1 w2 j := by
  have hr : (512 * t + i) / 8192 = t / 16 := by omega
  have hb : t / 16 < 8 := by omega
  unfold block layerRow
  rw [hr]
  exact row_congr (fun k hk => h0 i k hi hk) (joined_congr (fun k hk => h1 i k hi hk) (fun k hk => h2 i k hi hk))
    (fun k hk => h4.columns _ k hb hk) (fun k hk => h5.rows 0 k (by decide) hk) (fun k hk => h7.columns _ k hb hk) (fun k hk => h6.columns _ k hb hk)
    (fun k hk => h8.columns _ k hb hk) h3.whole h9.whole h10.whole j hj

end Cert.Kernel2Ideal.Hand

end
-- ==== Proof.K2I.Launch.lean ====
/- The kernel's result array, read at an index: the row of `Cert.Post.result`. -/
module

public import proofs.«01_k».proof.Proof.Gen.Kernel2Ideal.Value
public import proofs.«01_k».proof.Proof.K2I.Block
public import Idealize.ShloMosaic.Lib.VecWindow
public import Idealize.ShloMosaic.Lib.WholeRead

@[expose] public section

set_option maxRecDepth 16384

noncomputable section

namespace Cert.Kernel2Ideal.Hand

open Idealize.ShloMosaic Idealize.ShloMosaic.TcCoe Idealize.ShloMosaic.ValueIdx Idealize.ShloMosaic.VecWindow Idealize.SL.Sem
open Idealize.ShloMosaic.Pipeline (Dat)
open Cert.Kernel2Ideal Cert.Kernel2Ideal.Gen Cert.Kernel2Ideal.Value Cert.Post
open scoped BigOperators

/-! ## The block a point leaves -/

/-- The row of the modulation a point takes: its batch entry. -/
theorem off_eq : ∀ t : Fin cfg0.N, k0_off1 (grid0.coords t) 0 = 0 ∧ k0_off1 (grid0.coords t) 1 = t.val / 16 ∧ k0_off1 (grid0.coords t) 2 = 0 :=
  (by decide +kernel : ∀ t : Fin grid0.N, k0_off1 (grid0.coords t) 0 = 0 ∧ k0_off1 (grid0.coords t) 1 = t.val / 16 ∧ k0_off1 (grid0.coords t) 2 = 0)

theorem lt32 (t : Fin cfg0.N) : t.val < 32 := Nat.lt_of_lt_of_eq t.isLt N_0

set_option backward.isDefEq.respectTransparency.types false in
/-- What the body leaves in the output's buffer. -/
theorem out_eq (c : Dev nD) (t : Fin cfg0.N) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1x1024x1024 .bf16) (harg4 : arg4.IsWhole) (arg5 : Memref sig .tc .vmem S1x8x1024 .f32) (harg5 : arg5.IsWhole) (arg6 : Memref sig .tc .vmem S1x1024 .f32) (harg6 : arg6.IsWhole) (arg7 : Memref sig .tc .vmem S1x8x1024 .f32) (harg7 : arg7.IsWhole) (arg8 : Memref sig .tc .vmem S1x8x1024 .f32) (harg8 : arg8.IsWhole) (arg9 : Memref sig .tc .vmem S1x8x1024 .f32) (harg9 : arg9.IsWhole) (arg10 : Memref sig .tc .vmem S1x1024x4096 .bf16) (harg10 : arg10.IsWhole) (arg11 : Memref sig .tc .vmem S1x4096x1024 .bf16) (harg11 : arg11.IsWhole) (arg12 : Memref sig .tc .vmem S512x1024 .f32) (harg12 : arg12.IsWhole)
    (x0 : Vec Ideal S512x1024 .f32) (x1 x2 : Vec Ideal S512x512 .bf16) (x3 : Vec Ideal S1x1024x1024 .bf16) (x4 : Vec Ideal S1x8x1024 .f32) (x5 : Vec Ideal S1x1024 .f32)
    (x6 x7 x8 : Vec Ideal S1x8x1024 .f32) (x9 : Vec Ideal S1x1024x4096 .bf16) (x10 : Vec Ideal S1x4096x1024 .bf16) :
    out0_A_11 (F := Ideal) c (grid0.coords t) arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = (ev .f32 (block (t.val / 16) x0 x1 x2 x3 x4 x5 x6 x7 x8 x9 x10)) := by
  unfold out0_A_11 kernelRun0_A
  refine (View.read_writes_full _ _ _ _ _).trans ?_
  simp only [load_part]
  unfold kernelRun0_A.sl.r_3 kernelRun0_A.sl.r kernelRun0_A.sl.r_1 kernelRun0_A.sl.r_2
  simp only [load_part]
  rw [show window x1 ![0, 0] ![512, 512] inb_S512x512_S512x512_0_0 = x1 from window_whole x1 _ _,
    show window x2 ![0, 0] ![512, 512] inb_S512x512_S512x512_0_0 = x2 from window_whole x2 _ _,
    show window x0 ![0, 0] ![512, 1024] inb_S512x1024_S512x1024_0_0 = x0 from window_whole x0 _ _,
    show window x5 ![0, 0] ![1, 1024] inb_S1x1024_S1x1024_0_0 = x5 from window_whole x5 _ _,
    show window x9 ![0, 0, 0] ![1, 1024, 4096] inb_S1x1024x4096_S1x1024x4096_0_0_0 = x9 from window_whole x9 _ _,
    show window x10 ![0, 0, 0] ![1, 4096, 1024] inb_S1x4096x1024_S1x4096x1024_0_0_0 = x10 from window_whole x10 _ _]
  exact pays_eq (off_eq t) x0 x1 x2 x3 x4 x5 x6 x7 x8 x9 x10 _ _ _ _ _ _

/-! ## The windows' blocks -/

variable (m : (ℓ : Loc nD τ sig) → Buf (Elt Ideal) ℓ) (ρ : Dev nD → PrngReg)

/-- The arguments. -/
abbrev arr0 (c : Dev nD) : Vec Ideal S16384x1024 .f32 := m ((c : Thread nD τ).loc main_arg0)
abbrev arr1 (c : Dev nD) : Vec Ideal S16384x512 .bf16 := m ((c : Thread nD τ).loc main_arg1)
abbrev arr2 (c : Dev nD) : Vec Ideal S16384x512 .bf16 := m ((c : Thread nD τ).loc main_arg2)
abbrev arr3 (c : Dev nD) : Vec Ideal S4x1024x1024 .bf16 := m ((c : Thread nD τ).loc main_arg3)
abbrev arr4 (c : Dev nD) : Vec Ideal S4x8x6144 .f32 := m ((c : Thread nD τ).loc main_arg4)
abbrev arr5 (c : Dev nD) : Vec Ideal S1x1024 .f32 := m ((c : Thread nD τ).loc main_arg5)
abbrev arr6 (c : Dev nD) : Vec Ideal S4x1024x4096 .bf16 := m ((c : Thread nD τ).loc main_arg6)
abbrev arr7 (c : Dev nD) : Vec Ideal S4x4096x1024 .bf16 := m ((c : Thread nD τ).loc main_arg7)

/-- The windows' index maps. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 3 ∧ win0_3.index t 1 = 0 ∧ win0_3.index t 2 = 0 :=
  (by decide +kernel : ∀ t : Fin grid0.N, win0_3.index t 0 = 3 ∧ win0_3.index t 1 = 0 ∧ win0_3.index t 2 = 0)
theorem index4 : ∀ t : Fin cfg0.N, win0_4.index t 0 = 3 ∧ win0_4.index t 1 = 0 ∧ win0_4.index t 2 = 2 :=
  (by decide +kernel : ∀ t : Fin grid0.N, win0_4.index t 0 = 3 ∧ win0_4.index t 1 = 0 ∧ win0_4.index t 2 = 2)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 3 ∧ win0_6.index t 1 = 0 ∧ win0_6.index t 2 = 3 :=
  (by decide +kernel : ∀ t : Fin grid0.N, win0_6.index t 0 = 3 ∧ win0_6.index t 1 = 0 ∧ win0_6.index t 2 = 3)
theorem index7 : ∀ t : Fin cfg0.N, win0_7.index t 0 = 3 ∧ win0_7.index t 1 = 0 ∧ win0_7.index t 2 = 4 :=
  (by decide +kernel : ∀ t : Fin grid0.N, win0_7.index t 0 = 3 ∧ win0_7.index t 1 = 0 ∧ win0_7.index t 2 = 4)
theorem index8 : ∀ t : Fin cfg0.N, win0_8.index t 0 = 3 ∧ win0_8.index t 1 = 0 ∧ win0_8.index t 2 = 5 :=
  (by decide +kernel : ∀ t : Fin grid0.N, win0_8.index t 0 = 3 ∧ win0_8.index t 1 = 0 ∧ win0_8.index t 2 = 5)
theorem index9 : ∀ t : Fin cfg0.N, win0_9.index t 0 = 3 ∧ win0_9.index t 1 = 0 ∧ win0_9.index t 2 = 0 :=
  (by decide +kernel : ∀ t : Fin grid0.N, win0_9.index t 0 = 3 ∧ win0_9.index t 1 = 0 ∧ win0_9.index t 2 = 0)
theorem index10 : ∀ t : Fin cfg0.N, win0_10.index t 0 = 3 ∧ win0_10.index t 1 = 0 ∧ win0_10.index t 2 = 0 :=
  (by decide +kernel : ∀ t : Fin grid0.N, win0_10.index t 0 = 3 ∧ win0_10.index t 1 = 0 ∧ win0_10.index t 2 = 0)
theorem index11 : ∀ t : Fin cfg0.N, win0_11.index t 0 = t.val ∧ win0_11.index t 1 = 0 :=
  (by decide +kernel : ∀ t : Fin grid0.N, win0_11.index t 0 = t.val ∧ win0_11.index t 1 = 0)
theorem size11 : ∀ t : Fin cfg0.N, win0_11.xsize (grid0.coords t) 0 = 512 ∧ win0_11.xsize (grid0.coords t) 1 = 1024 :=
  (by decide +kernel : ∀ t : Fin grid0.N, win0_11.xsize (grid0.coords t) 0 = 512 ∧ win0_11.xsize (grid0.coords t) 1 = 1024)

/-! ## The result array -/

/-- The result at an index. -/
def out (c : Dev nD) : Vec Ideal S16384x1024 .f32 :=
  fun z => result (arr0 m c) (arr1 m c) (arr2 m c) (arr3 m c) (arr4 m c) (arr5 m c) (arr6 m c) (arr7 m c) (z 0).val (z 1).val

/-- What a point leaves, at an index of its block. -/
theorem outsAt_eq (c : Dev nD) (t : Fin cfg0.N) (i j : ℕ) (hi : i < 512) (hj : j < 1024) :
    block (t.val / 16) (iblk m c 0 t) (iblk m c 1 t) (iblk m c 2 t) (iblk m c 3 t) (iblk m c 4 t) (iblk m c 5 t) (iblk m c 6 t) (iblk m c 7 t) (iblk m c 8 t)
        (iblk m c 9 t) (iblk m c 10 t) i j
      = result (arr0 m c) (arr1 m c) (arr2 m c) (arr3 m c) (arr4 m c) (arr5 m c) (arr6 m c) (arr7 m c) (512 * t.val + i) j :=
  block_layer (by have := lt32 t; omega) (at2 (arr0 m c)) (at2 (arr1 m c)) (at2 (arr2 m c)) (arr3 m c) (arr4 m c) (arr5 m c) (arr6 m c) (arr7 m c)
    (part2 (arr0 m c) _ _ (fun _ => rfl) (win0_0.index t) (index0 t) (fun _ => rfl) (fun _ => rfl)).rows
    (part2 (arr1 m c) _ _ (fun _ => rfl) (win0_1.index t) (index1 t) (fun _ => rfl) (fun _ => rfl)).rows
    (part2 (arr2 m c) _ _ (fun _ => rfl) (win0_2.index t) (index2 t) (fun _ => rfl) (fun _ => rfl)).rows
    (part3 (arr3 m c) _ _ (fun _ => rfl) (win0_3.index t) (index3 t) (fun _ => rfl) (fun _ => rfl) (fun _ => rfl))
    (part3 (arr4 m c) _ _ (fun _ => rfl) (win0_4.index t) (index4 t) (fun _ => rfl) (fun _ => rfl) (fun _ => rfl))
    (part2 (arr5 m c) _ _ (fun _ => rfl) (win0_5.index t) (index5 t) (fun _ => rfl) (fun _ => rfl))
    (part3 (arr4 m c) _ _ (fun _ => rfl) (win0_6.index t) (index6 t) (fun _ => rfl) (fun _ => rfl) (fun _ => rfl))
    (part3 (arr4 m c) _ _ (fun _ => rfl) (win0_7.index t) (index7 t) (fun _ => rfl) (fun _ => rfl) (fun _ => rfl))
    (part3 (arr4 m c) _ _ (fun _ => rfl) (win0_8.index t) (index8 t) (fun _ => rfl) (fun _ => rfl) (fun _ => rfl))
    (part3 (arr6 m c) _ _ (fun _ => rfl) (win0_9.index t) (index9 t) (fun _ => rfl) (fun _ => rfl) (fun _ => rfl))
    (part3 (arr7 m c) _ _ (fun _ => rfl) (win0_10.index t) (index10 t) (fun _ => rfl) (fun _ => rfl) (fun _ => rfl)) i j hi hj

/-- What a point writes back is its block of the result. -/
theorem flushed_eq (c : Dev nD) (t : Fin cfg0.N) : (dats m 0 c).flushed 11 t = (win0_11.blk t).view.read (Elt Ideal) (out m c) := by
  rw [flushed11]
  unfold outsAt0
  rw [out_eq]
  funext y
  rw [View.read_apply]
  have hi := index11 t
  have hx := size11 t
  have y0 : (y 0).val < 512 := lt_of_lt_of_eq (y 0).isLt hx.1
  have y1 : (y 1).val < 1024 := lt_of_lt_of_eq (y 1).isLt hx.2
  refine (outsAt_eq m c t (y 0).val (y 1).val y0 y1).trans ?_
  show result _ _ _ _ _ _ _ _ _ _ = result _ _ _ _ _ _ _ _ (win0_11.index t 0 * 512 + 1 * (y 0).val) (win0_11.index t 1 * 1024 + 1 * (y 1).val)
  rw [hi.1, hi.2, show t.val * 512 + 1 * (y 0).val = 512 * t.val + (y 0).val by omega, show 0 * 1024 + 1 * (y 1).val = (y 1).val by omega]

/-- The point that writes an index of the result. -/
def ptOf (z : S16384x1024.Idx) : Fin cfg0.N := ⟨(z 0).val / 512, by
  have h0 : (z 0).val < 16384 := (z 0).isLt
  have hN : cfg0.N = 32 := N_0
  omega⟩

/-- An index of the result lies in its point's block. -/
theorem mem_blk (z : S16384x1024.Idx) : z ∈ (win0_11.blk (ptOf z)).view.set := by
  show z ∈ ((View.whole main_v0).slice (win0_11.rect (ptOf z))).set
  rw [View.set_slice_whole, Rect.mem_set_unit]
  intro a
  refine (rows_cover z (win0_11.index (ptOf z)) (win0_11.xsize (grid0.coords (ptOf z))) (index11 (ptOf z)) (size11 (ptOf z)) a).imp ?_ ?_
  · exact fun h => match a with | ⟨0, _⟩ => h | ⟨1, _⟩ => h
  · exact fun h => match a with | ⟨0, _⟩ => h | ⟨1, _⟩ => h

/-- The result array ends holding the result. -/
theorem final_out (c : Dev nD) : (dats m 0 c).arrAt 11 cfg0.N = out m c :=
  (dats m 0 c).arrAt_eq_of_cover 11 (out m c) (fun t _ => flushed_eq m c t) (fun z => ⟨ptOf z, flush0_11 _, mem_blk z⟩)

/-- The run, read: the result array at the result, the arguments unchanged. -/
theorem run : θ_run defs (onTc (τ := τ) (main (F := Ideal))) ⟨m, fun _ => 0, ρ⟩ (fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run defs _ _).mono (fun r h c => ⟨(h c).1.trans (final_out m c), (h c).2⟩) (run_blocks m ρ)

end Cert.Kernel2Ideal.Hand

end
-- ==== Proof.R2I.Value.lean ====
/- The reference's result at an index: the row of `Cert.Post.result`. -/
module

public import proofs.«01_k».proof.Proof.Gen.Reference2Ideal.Read
public import proofs.«01_k».proof.Proof.Post.Spec

@[expose] public section

set_option maxRecDepth 16384

noncomputable section

namespace Cert.Reference2Ideal.Hand

open Idealize.ShloMosaic Idealize.ShloMosaic.ValueIdx
open Cert.Reference2Ideal Cert.Reference2Ideal.Gen Cert.Reference2Ideal.Read Cert.Post
open scoped BigOperators

variable (x0 : (⟨S16384x1024, .f32⟩ : BufTy).Contents (Elt Ideal)) (x1 x2 : (⟨S16384x512, .bf16⟩ : BufTy).Contents (Elt Ideal))
  (x3 : (⟨S4x1024x1024, .bf16⟩ : BufTy).Contents (Elt Ideal)) (x4 : (⟨S4x8x6144, .f32⟩ : BufTy).Contents (Elt Ideal))
  (x5 : (⟨S1x1024, .f32⟩ : BufTy).Contents (Elt Ideal)) (x6 : (⟨S4x1024x4096, .bf16⟩ : BufTy).Contents (Elt Ideal))
  (x7 : (⟨S4x4096x1024, .bf16⟩ : BufTy).Contents (Elt Ideal))

/-! ## The arguments, brought to the shapes of the computation -/

theorem read_v0 (i : S2x8192x1024.Idx) : val_main_v0 (F := Ideal) x0 i = at2 x0 ((i 0).val * 8192 + (i 1).val) (i 2).val := by
  have h2 : (i 2).val < 1024 := (i 2).isLt
  rw [val_main_v0_apply]
  refine at2_of x0 _ ?_ ?_
  · show (((i 0).val * 8192 + (i 1).val) * 1024 + (i 2).val) / 1024 = _; omega
  · show (((i 0).val * 8192 + (i 1).val) * 1024 + (i 2).val) % 1024 = _; omega

/-- The two attention arrays side by side. -/
theorem read_v1 (z : S16384x1024.Idx) : val_main_v1 (F := Ideal) x1 x2 z = joined (at2 x1 (z 0).val) (at2 x2 (z 0).val) (z 1).val := by
  have h0 : (z 0).val < 16384 := (z 0).isLt
  have h1 : (z 1).val < 1024 := (z 1).isLt
  unfold val_main_v1 joined
  by_cases hk : (z 1).val < 512
  · rw [if_pos hk, at2_eq h0 hk]
    exact concatenate_pair_apply_left 1 x1 x2 _ z rfl _ (fun b : Fin 2 => match b with | 0 => rfl | 1 => rfl)
  · have hk' : (z 1).val - 512 < 512 := by omega
    rw [if_neg hk, at2_eq h0 hk']
    have hy : ∀ b : Fin 2, b ≠ 1 → ((ix2 (⟨(z 0).val, h0⟩ : Fin 16384) (⟨(z 1).val - 512, hk'⟩ : Fin 512)) b).val = (z b).val := by
      intro b hb
      rcases b with ⟨_ | _ | n, hn⟩
      · rfl
      · exact absurd rfl hb
      · omega
    exact concatenate_pair_apply_right 1 x1 x2 _ z rfl rfl _ (fun b hb => hy b hb) (show (z 1).val - 512 + 512 = (z 1).val by omega)

theorem read_v3 (i : S2x8192x1024.Idx) :
    val_main_v3 (F := Ideal) x1 x2 i = joined (at2 x1 ((i 0).val * 8192 + (i 1).val)) (at2 x2 ((i 0).val * 8192 + (i 1).val)) (i 2).val := by
  have h2 : (i 2).val < 1024 := (i 2).isLt
  rw [val_main_v3_apply]
  refine (read_v1 x1 x2 _).trans ?_
  show joined (at2 x1 ((((i 0).val * 8192 + (i 1).val) * 1024 + (i 2).val) / 1024)) (at2 x2 ((((i 0).val * 8192 + (i 1).val) * 1024 + (i 2).val) / 1024))
    ((((i 0).val * 8192 + (i 1).val) * 1024 + (i 2).val) % 1024) = _
  rw [show (((i 0).val * 8192 + (i 1).val) * 1024 + (i 2).val) / 1024 = (i 0).val * 8192 + (i 1).val by omega,
    show (((i 0).val * 8192 + (i 1).val) * 1024 + (i 2).val) % 1024 = (i 2).val by omega]

/-- The modulation of the last layer, of the two batch entries. -/
theorem read_v6 (i : S2x1x6144.Idx) : val_main_v6 (F := Ideal) x4 i = at3 x4 3 (i 0).val (i 2).val := by
  have h0 : (i 0).val < 2 := (i 0).isLt
  have h2 : (i 2).val < 6144 := (i 2).isLt
  rw [val_main_v6_apply, val_main_v5_apply, val_main_v4_apply]
  refine at3_of x4 _ rfl ?_ ?_
  · show ((i 0).val * 6144 + (i 2).val) / 6144 % 2 = _; omega
  · show ((i 0).val * 6144 + (i 2).val) % 6144 = _; omega

/-- The weights of the last layer. -/
theorem read_v15 (i : S1024x1024.Idx) : val_main_v15 (F := Ideal) x3 i = at3 x3 3 (i 0).val (i 1).val := by
  have h0 : (i 0).val < 1024 := (i 0).isLt
  have h1 : (i 1).val < 1024 := (i 1).isLt
  show val_main_v14 (F := Ideal) x3 i = _
  rw [val_main_v14_apply, val_main_v13_apply]
  refine at3_of x3 _ rfl ?_ ?_
  · show ((i 0).val * 1024 + (i 1).val) / 1024 % 1024 = _; omega
  · show ((i 0).val * 1024 + (i 1).val) % 1024 = _; omega

theorem read_v42 (i : S1024x4096.Idx) : val_main_v42 (F := Ideal) x6 i = at3 x6 3 (i 0).val (i 1).val := by
  have h0 : (i 0).val < 1024 := (i 0).isLt
  have h1 : (i 1).val < 4096 := (i 1).isLt
  show val_main_v41 (F := Ideal) x6 i = _
  rw [val_main_v41_apply, val_main_v40_apply]
  refine at3_of x6 _ rfl ?_ ?_
  · show ((i 0).val * 4096 + (i 1).val) / 4096 % 1024 = _; omega
  · show ((i 0).val * 4096 + (i 1).val) % 4096 = _; omega

theorem read_v48 (i : S4096x1024.Idx) : val_main_v48 (F := Ideal) x7 i = at3 x7 3 (i 0).val (i 1).val := by
  have h0 : (i 0).val < 4096 := (i 0).isLt
  have h1 : (i 1).val < 1024 := (i 1).isLt
  show val_main_v47 (F := Ideal) x7 i = _
  rw [val_main_v47_apply, val_main_v46_apply]
  refine at3_of x7 _ rfl ?_ ?_
  · show ((i 0).val * 1024 + (i 1).val) / 1024 % 4096 = _; omega
  · show ((i 0).val * 1024 + (i 1).val) % 1024 = _; omega

theorem read_v32 (i : S2x8192x1024.Idx) : val_main_v32 (F := Ideal) x5 i = at2 x5 0 (i 2).val := by
  have h2 : (i 2).val < 1024 := (i 2).isLt
  rw [val_main_v32_apply, val_main_v31_apply, val_main_v30_apply]
  refine at2_of x5 _ rfl ?_
  show (i 2).val % 1024 = _; omega

/-! ## The computation -/

/-- The residual row after the attention. -/
def midRow (r : ℕ) : ℕ → EReal :=
  mid (at2 x0 r) (joined (at2 x1 r) (at2 x2 r)) (fun j => at3 x4 3 (r / 8192) (2048 + j)) (at3 x3 3)

/-- Its modulated norm. -/
def normRow (r : ℕ) : ℕ → EReal :=
  normed (midRow x0 x1 x2 x3 x4 r) (at2 x5 0) (fun j => at3 x4 3 (r / 8192) (4096 + j)) (fun j => at3 x4 3 (r / 8192) (3072 + j))

theorem batch (i : S2x8192x1024.Idx) : ((i 0).val * 8192 + (i 1).val) / 8192 = (i 0).val := by
  have h1 : (i 1).val < 8192 := (i 1).isLt
  omega

theorem read_v16 (i : S2x8192x1024.Idx) :
    val_main_v16 (F := Ideal) x1 x2 x3 i
      = ∑ k ∈ Finset.range 1024, joined (at2 x1 ((i 0).val * 8192 + (i 1).val)) (at2 x2 ((i 0).val * 8192 + (i 1).val)) k * at3 x3 3 k (i 2).val := by
  rw [val_main_v16_apply, ← Fin.sum_univ_eq_sum_range (fun k => joined (at2 x1 ((i 0).val * 8192 + (i 1).val)) (at2 x2 ((i 0).val * 8192 + (i 1).val)) k * at3 x3 3 k (i 2).val)]
  exact Finset.sum_congr rfl fun k _ => by rw [read_v3, read_v15]

theorem read_v19 (i : S2x8192x1024.Idx) :
    val_main_v19 (F := Ideal) x0 x1 x2 x3 x4 i = midRow x0 x1 x2 x3 x4 ((i 0).val * 8192 + (i 1).val) (i 2).val := by
  unfold midRow mid
  rw [val_main_v19_apply, val_main_v18_apply, read_v0, val_main_v17_apply, val_main_v9_apply, read_v6, read_v16, batch]
  rfl

/-- The mean square's reciprocal root. -/
theorem read_v27 (i : S2x8192x1.Idx) :
    val_main_v27 (F := Ideal) x0 x1 x2 x3 x4 i = invRms (midRow x0 x1 x2 x3 x4 ((i 0).val * 8192 + (i 1).val)) := by
  unfold invRms
  rw [val_main_v27_apply, val_main_v26_apply, val_main_v24_apply, val_main_v22_apply, val_main_v21_apply, val_main_cst_apply, val_main_v23_apply,
    val_main_cst_0_apply, val_main_v25_apply, val_main_cst_1_apply,
    ← Fin.sum_univ_eq_sum_range (fun k => midRow x0 x1 x2 x3 x4 ((i 0).val * 8192 + (i 1).val) k * midRow x0 x1 x2 x3 x4 ((i 0).val * 8192 + (i 1).val) k)]
  have hs : ∑ k : Fin 1024, val_main_v20 (F := Ideal) x0 x1 x2 x3 x4 (idx_main_v21 (idx_main_v22 i) k)
      = ∑ k : Fin 1024, midRow x0 x1 x2 x3 x4 ((i 0).val * 8192 + (i 1).val) k.val * midRow x0 x1 x2 x3 x4 ((i 0).val * 8192 + (i 1).val) k.val :=
    Finset.sum_congr rfl fun k _ => by rw [val_main_v20_apply, read_v19]; rfl
  rw [hs, show (FloatOps.ofBits FTy.f32 0x00000000#32 : Ideal .f32) = 0 from Ideal.ofBits_zero_f32, zero_add]
  rfl

theorem read_v39 (i : S2x8192x1024.Idx) :
    val_main_v39 (F := Ideal) x0 x1 x2 x3 x4 x5 i = normRow x0 x1 x2 x3 x4 x5 ((i 0).val * 8192 + (i 1).val) (i 2).val := by
  unfold normRow normed
  rw [val_main_v39_apply, val_main_v37_apply, val_main_v33_apply, val_main_v29_apply, read_v19, val_main_v28_apply, read_v27, read_v32,
    val_main_v36_apply, val_main_v35_apply, val_main_v34_apply, val_main_cst_2_apply, val_main_v11_apply, read_v6,
    val_main_v38_apply, val_main_v10_apply, read_v6, batch]
  rfl

theorem read_v45 (i : S2x8192x4096.Idx) :
    val_main_v45 (F := Ideal) x0 x1 x2 x3 x4 x5 x6 i
      = activated (normRow x0 x1 x2 x3 x4 x5 ((i 0).val * 8192 + (i 1).val)) (at3 x6 3) (i 2).val := by
  have hs : val_main_v43 (F := Ideal) x0 x1 x2 x3 x4 x5 x6 i
      = ∑ k ∈ Finset.range 1024, normRow x0 x1 x2 x3 x4 x5 ((i 0).val * 8192 + (i 1).val) k * at3 x6 3 k (i 2).val := by
    rw [val_main_v43_apply, ← Fin.sum_univ_eq_sum_range (fun k => normRow x0 x1 x2 x3 x4 x5 ((i 0).val * 8192 + (i 1).val) k * at3 x6 3 k (i 2).val)]
    exact Finset.sum_congr rfl fun k _ => by rw [read_v39, read_v42]
  unfold activated
  rw [val_main_v45_apply, val_main_v44_apply, hs, val_main_call0_v0_apply, val_main_call0_cst_apply,
    show (FloatOps.ofBits FTy.f32 0x00000000#32 : Ideal .f32) = 0 from Ideal.ofBits_zero_f32]
  rfl

theorem read_v52 (i : S2x8192x1024.Idx) :
    val_main_v52 (F := Ideal) x0 x1 x2 x3 x4 x5 x6 x7 i = result x0 x1 x2 x3 x4 x5 x6 x7 ((i 0).val * 8192 + (i 1).val) (i 2).val := by
  have hs : val_main_v49 (F := Ideal) x0 x1 x2 x3 x4 x5 x6 x7 i
      = ∑ n ∈ Finset.range 4096, activated (normRow x0 x1 x2 x3 x4 x5 ((i 0).val * 8192 + (i 1).val)) (at3 x6 3) n * at3 x7 3 n (i 2).val := by
    rw [val_main_v49_apply, ← Fin.sum_univ_eq_sum_range (fun n => activated (normRow x0 x1 x2 x3 x4 x5 ((i 0).val * 8192 + (i 1).val)) (at3 x6 3) n * at3 x7 3 n (i 2).val)]
    exact Finset.sum_congr rfl fun k _ => by rw [read_v45, read_v48]
  rw [val_main_v52_apply, val_main_v51_apply, read_v19, val_main_v50_apply, val_main_v12_apply, read_v6, hs]
  unfold result layerRow row last
  rw [batch]
  unfold normRow midRow
  rw [batch]
  rfl

/-- The result at an index. -/
theorem read_v53 (z : S16384x1024.Idx) :
    val_main_v53 (F := Ideal) x0 x1 x2 x3 x4 x5 x6 x7 z = result x0 x1 x2 x3 x4 x5 x6 x7 (z 0).val (z 1).val := by
  have h0 : (z 0).val < 16384 := (z 0).isLt
  have h1 : (z 1).val < 1024 := (z 1).isLt
  rw [val_main_v53_apply, read_v52]
  show result x0 x1 x2 x3 x4 x5 x6 x7 (((z 0).val * 1024 + (z 1).val) / 8388608 * 8192 + ((z 0).val * 1024 + (z 1).val) / 1024 % 8192)
    (((z 0).val * 1024 + (z 1).val) % 1024) = _
  rw [show ((z 0).val * 1024 + (z 1).val) / 8388608 * 8192 + ((z 0).val * 1024 + (z 1).val) / 1024 % 8192 = (z 0).val by omega,
    show ((z 0).val * 1024 + (z 1).val) % 1024 = (z 1).val by omega]

end Cert.Reference2Ideal.Hand

end
-- ==== Proof.Finite.lean ====
/- The precondition, read: the entries the kernel reads of its first and third arguments are real numbers. -/
module

public import proofs.«01_k».proof.Defs
public import proofs.«01_k».proof.Proof.Gen.Pre_finite
public import proofs.«01_k».proof.Proof.RI.Value
public import Idealize.ShloMosaic.Lib.ReduceAll

@[expose] public section

set_option maxRecDepth 16384

noncomputable section

namespace Cert.Agree

open Idealize.ShloMosaic Idealize.ShloMosaic.ValueIdx
open Cert.ReferenceIdeal.Hand

/-- The pattern the precondition compares with is the positive infinity. -/
theorem ofBits_posInf : (FloatOps.ofBits FTy.f32 0x7F800000#32 : Ideal .f32) = (⊤ : EReal) := by
  show Ideal.ieee 8 23 (0x7F800000#32) = _
  unfold Ideal.ieee
  simp

/-- An extended real whose absolute value is below the positive infinity is a real number. -/
theorem real_of_abs_lt (x : EReal) (h : Ideal.cmp .olt (max x (-x)) (FloatOps.ofBits FTy.f32 0x7F800000#32 : Ideal .f32) = 1#1) :
    x = ((x.toReal : ℝ) : EReal) := by
  rw [ofBits_posInf] at h
  have hlt : max x (-x) < (⊤ : EReal) := by
    by_contra hn
    have h0 : Ideal.cmp .olt (max x (-x)) (⊤ : EReal) = 0#1 := by
      simp only [Ideal.cmp, hn]
      rfl
    rw [h0] at h
    exact absurd h (by decide)
  have h1 : x ≠ ⊤ := fun e => by rw [e] at hlt; exact absurd hlt (by simp)
  have h2 : x ≠ ⊥ := fun e => by rw [e] at hlt; exact absurd hlt (by simp)
  exact (EReal.coe_toReal h1 h2).symm

theorem and_one {a b : BitVec 1} (h : IntOp.andi a b = 1#1) : a = 1#1 ∧ b = 1#1 := by
  revert h; revert a b; decide

instance : Subsingleton Cert.Pre_finite.S_.Idx := ⟨fun a b => funext fun d => d.elim0⟩

variable (x0 : FVec Ideal Cert.Pre_finite.S16896x2560 .bf16) (x1 : IVec Cert.Pre_finite.S1 32) (x2 : FVec Ideal Cert.Pre_finite.S4x64 .f32)
  (x3 : FVec Ideal Cert.Pre_finite.S1x128 .f32)

/-- The real numbers of a matrix of extended reals; zero outside it. -/
def entries {a b : ℕ} (x : (⟨2, ![a, b]⟩ : Shape).Idx → EReal) : ℕ → ℕ → ℝ := fun i j =>
  if h : i < a ∧ j < b then (x (ix2 ⟨i, h.1⟩ ⟨j, h.2⟩)).toReal else 0

theorem entries_apply {a b : ℕ} (x : (⟨2, ![a, b]⟩ : Shape).Idx → EReal) (y : (⟨2, ![a, b]⟩ : Shape).Idx) :
    entries x (y 0).val (y 1).val = (x y).toReal := by
  unfold entries
  rw [dif_pos ⟨idx2_lt0 y, idx2_lt1 y⟩]
  exact congrArg (fun z => (x z).toReal) (eq_ix2 y).symm

theorem reads_of_finite (h : Cert.Pre_finite.fn (F := Ideal) x0 x1 x2 x3 = fun _ => 1#1) :
    Reads x0 (entries x0) ∧ LamReads x2 (entries x2) := by
  have h' := and_one (congrFun h (fun d => d.elim0))
  constructor
  · intro y hy
    have e := Host.reduce_andi_all _ _ _ _ _ h'.1 (ix2 (⟨(y 0).val, (y 0).isLt⟩ : Fin 16896) (⟨(y 1).val, hy⟩ : Fin 1536))
    have ey : x0 (fun d => ⟨(![0, 0] : Fin 2 → ℕ) d + ((ix2 (⟨(y 0).val, (y 0).isLt⟩ : Fin 16896) (⟨(y 1).val, hy⟩ : Fin 1536)) d).val, by
        rcases d with ⟨_ | _ | n, hd⟩
        · show 0 + (y 0).val < 16896; have : (y 0).val < 16896 := (y 0).isLt; omega
        · show 0 + (y 1).val < 2560; omega
        · exact absurd (show n + 2 < 2 from hd) (by omega)⟩) = x0 y := congrArg x0 (funext fun d : Fin 2 => match d with
      | 0 => Fin.ext (Nat.zero_add _)
      | 1 => Fin.ext (Nat.zero_add _))
    rw [entries_apply]
    refine real_of_abs_lt (x0 y) ?_
    rw [← ey]
    exact e
  · intro y
    have e := Host.reduce_andi_all _ _ _ _ _ h'.2 y
    rw [entries_apply]
    exact real_of_abs_lt (x2 y) e

end Cert.Agree

end
-- ==== Proof.K3I.Blocks.lean ====
/- One output block of the latent attention's heads, as a function of the blocks it is computed from: the kernel's own sequence of
   array operations, in its two forms. A block holds two heads, each with its own 128 lanes of the queries and keys; their values lie
   side by side in one block of 128 columns, and the result takes columns below 64 from the first head and the others from the second. -/
module

public import proofs.«01_k».proof.Proof.KI.Blocks
public import proofs.«01_k».proof.Proof.Gen.Kernel3Ideal.Frame
public import proofs.«01_k».proof.Proof.Gen.Kernel3Ideal.Skeleton
public import proofs.«01_k».proof.Proof.Gen.Kernel3Ideal.Loops

@[expose] public section

set_option maxRecDepth 16384

noncomputable section

namespace Cert.Kernel3Ideal.Hand

open Idealize.ShloMosaic Idealize.ShloMosaic.TcCoe Idealize.ShloMosaic.Tactic
open Idealize.ShloMosaic.VecWindow
open Cert.Kernel3Ideal.Gen
open Cert.KernelIdeal.Hand (slab chunk rows512 Carried window_all)

variable {F : FTy → Type} [FloatOps F]

/-- The branch that transposes the values: the first block of queries of a pair of heads. -/
abbrev firstQ (i : grid0.Coords) : Prop := (Scalar.cmpi .ne (Scalar.extui (Scalar.cmpi .eq (BitVec.ofNat 32 (i 2).val) 0#32)) 0#32) = 1#1

/-! ## Rows of the keys of two heads -/

/-- The 2048 rows from row `o` of an array of 8192 rows and 256 columns. -/
def wideChunk {α : Type} (x : S8192x256.Idx → α) (o : ℕ) (h : o + 2048 ≤ 8192) : S2048x256.Idx → α :=
  window x ![o, 0] S2048x256.size (fun a => by fin_cases a <;> [exact h; exact Nat.le_refl 256])

/-- The 512 rows from row `o` of an array of 8192 rows and 256 columns. -/
def wideRows {α : Type} (x : S8192x256.Idx → α) (o : ℕ) (h : o + 512 ≤ 8192) : S512x256.Idx → α :=
  window x ![o, 0] S512x256.size (fun a => by fin_cases a <;> [exact h; exact Nat.le_refl 256])

/-- The window that is all of an array of shape 1024×256 is the array. -/
theorem window_S1024x256 {α : Type} (x : S1024x256.Idx → α) (inb) : window (s := S1024x256) x ![0, 0] ![1024, 256] inb = x :=
  window_all x _ _ inb (fun a => by fin_cases a <;> rfl) rfl

/-- The window that is all of an array of shape 256×256 is the array. -/
theorem window_S256x256 {α : Type} (x : S256x256.Idx → α) (inb) : window (s := S256x256) x ![0, 0] ![256, 256] inb = x :=
  window_all x _ _ inb (fun a => by fin_cases a <;> rfl) rfl

/-- The four slabs hold the transposes of the four groups of 2048 rows of the values. -/
structure Slabs (V : Vec F S8192x128 .bf16) (d : Vec F S4x128x2048 .bf16) : Prop where
  s0 : slab d 0 (by decide) = k0_pay6 (chunk V 0 (by decide))
  s1 : slab d 1 (by decide) = k0_pay7 (chunk V 2048 (by decide))
  s2 : slab d 2 (by decide) = k0_pay8 (chunk V 4096 (by decide))
  s3 : slab d 3 (by decide) = k0_pay9 (chunk V 6144 (by decide))

/-! ## The block, scores taken as they are -/

/-- The output block from the queries, the keys and the transposed values held in the scratch. -/
def safeFrom (q : Vec F S1024x256 .bf16) (K : Vec F S8192x256 .bf16) (T0 T1 T2 T3 : Vec F S1x128x2048 .bf16) (C : Vec F S128x256 .bf16)
    (kc : Vec F S256x256 .bf16) : FVec F S1024x128 .bf16 :=
  let v4 := k0_pay2 q
  let v5 := k0_pay3 q
  let K0 : Vec F S2048x256 .bf16 := wideChunk K 0 (by decide)
  let K1 : Vec F S2048x256 .bf16 := wideChunk K 2048 (by decide)
  let K2 : Vec F S2048x256 .bf16 := wideChunk K 4096 (by decide)
  let K3 : Vec F S2048x256 .bf16 := wideChunk K 6144 (by decide)
  k0_pay4
    (k0_pay31 v4 (k0_pay25 v4 (k0_pay14 v4 K0 T0) (k0_pay20 v4 K1) T1 K2 T2) K3 T3)
    (k0_pay32 v4 (k0_pay26 v4 (k0_pay15 v4 K0) (k0_pay21 v4 K1) K2) K3)
    (k0_pay34 v5 (k0_pay29 v5 (k0_pay17 v5 K0 T0) K1 T1 K2 T2) K3 T3)
    (k0_pay35 v5 (k0_pay23 v5 (k0_pay18 v5 K0) K1) (k0_pay28 v5 K2) K3)
    C (k0_pay37 v4 kc) (k0_pay38 v4 kc) (k0_pay39 v5 kc) (k0_pay40 v5 kc)

/-- The output block from the queries, keys and values, scores taken as they are. -/
def safeBlock (q : Vec F S1024x256 .bf16) (K : Vec F S8192x256 .bf16) (V : Vec F S8192x128 .bf16) (kc : Vec F S256x256 .bf16)
    (vc : Vec F S256x128 .bf16) : FVec F S1024x128 .bf16 :=
  safeFrom q K (k0_pay6 (chunk V 0 (by decide))) (k0_pay7 (chunk V 2048 (by decide))) (k0_pay8 (chunk V 4096 (by decide)))
    (k0_pay9 (chunk V 6144 (by decide))) (k0_pay10 vc) kc

/-- Slabs that hold the transposed values give the block of the values. -/
theorem safeFrom_slabs {q : Vec F S1024x256 .bf16} {K : Vec F S8192x256 .bf16} {V : Vec F S8192x128 .bf16} {kc : Vec F S256x256 .bf16}
    {vc : Vec F S256x128 .bf16} {d : Vec F S4x128x2048 .bf16} {d1 : Vec F S128x256 .bf16} (h : Slabs V d) (h1 : d1 = k0_pay10 vc) :
    safeFrom q K (slab d 0 (by decide)) (slab d 1 (by decide)) (slab d 2 (by decide)) (slab d 3 (by decide)) d1 kc
      = safeBlock q K V kc vc := by
  rw [h.s0, h.s1, h.s2, h.s3, h1]; rfl

/-! ## The block, with a running maximum -/

/-- One step over 512 keys. -/
def onStep (v4 v5 : FVec F S1024x128 .bf16) (k : Vec F S512x256 .bf16) (v : Vec F S512x128 .bf16) (a : Carried F) : Carried F :=
  (k0_pay48 v4 a.1 k, k0_pay51 v4 a.1 a.2.1 k, k0_pay52 v4 a.1 a.2.2.1 k v,
    k0_pay54 v5 a.2.2.2.1 k, k0_pay57 v5 a.2.2.2.1 a.2.2.2.2.1 k, k0_pay58 v5 a.2.2.2.1 a.2.2.2.2.2 k v)

/-- What is carried before the first step. -/
def onStart : Carried F := (k0_pay41, k0_pay42, k0_pay43, k0_pay44, k0_pay45, k0_pay46)

/-- What is carried before step `n`. -/
def onState (v4 v5 : FVec F S1024x128 .bf16) (K : Vec F S8192x256 .bf16) (V : Vec F S8192x128 .bf16) : ℕ → Carried F
  | 0 => onStart
  | n + 1 => if h : 512 * n + 512 ≤ 8192 then onStep v4 v5 (wideRows K (512 * n) h) (rows512 V (512 * n) h) (onState v4 v5 K V n) else onState v4 v5 K V n

/-- The output block from what is carried after the last step and the context keys and values. -/
def onFinish (v4 v5 : FVec F S1024x128 .bf16) (a : Carried F) (kc : Vec F S256x256 .bf16) (vc : Vec F S256x128 .bf16) : FVec F S1024x128 .bf16 :=
  k0_pay5 a.2.2.2.2.2 vc (k0_pay63 v4 a.1 a.2.1 kc) (k0_pay64 v4 a.1 a.2.2.1 kc vc) (k0_pay67 v5 a.2.2.2.1 kc)
    (k0_pay68 v5 a.2.2.2.1 kc) (k0_pay69 v5 a.2.2.2.1 a.2.2.2.2.1 kc)

/-- The output block with a running maximum. -/
def onlineBlock (q : Vec F S1024x256 .bf16) (K : Vec F S8192x256 .bf16) (V : Vec F S8192x128 .bf16) (kc : Vec F S256x256 .bf16)
    (vc : Vec F S256x128 .bf16) : FVec F S1024x128 .bf16 :=
  onFinish (k0_pay2 q) (k0_pay3 q) (onState (k0_pay2 q) (k0_pay3 q) K V 16) kc vc

/-- The output block by the flag. -/
def attnBlock (q : Vec F S1024x256 .bf16) (K : Vec F S8192x256 .bf16) (V : Vec F S8192x128 .bf16) (kc : Vec F S256x256 .bf16)
    (vc : Vec F S256x128 .bf16) (flag : BitVec 32) : FVec F S1024x128 .bf16 :=
  if flag = 1#32 then safeBlock q K V kc vc else onlineBlock q K V kc vc

end Cert.Kernel3Ideal.Hand

end
-- ==== Proof.K3I.Runs.lean ====
/- The kernel's body at one grid point, run on blocks with known contents: what it leaves in the output block and in the two scratch
   buffers, in each of its three cases. -/
module

public import proofs.«01_k».proof.Proof.K3I.Blocks

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.VecWindow
open Cert.Kernel3Ideal.Gen
open Cert.KernelIdeal.Hand (isSafe notSafe isSafe_iff notSafe_iff slab slab_stored cov_slab load_window load_full rows512 Carried window_S1024x128 window_S256x128 window_S128x256)

variable {F : FTy → Type} [FloatOps F]

local notation "𝕄" => MT nD τ sig Unit (Elt F) ℕ (UR sig nD τ) ℕ

variable (c : Dev nD) (i : grid0.Coords) (arg3 : Memref sig .tc .vmem S1024x256 .bf16) (harg3 : arg3.IsWhole) (arg4 : Memref sig .tc .vmem S8192x256 .bf16) (harg4 : arg4.IsWhole)
  (arg5 : Memref sig .tc .vmem S8192x128 .bf16) (harg5 : arg5.IsWhole) (arg6 : Memref sig .tc .vmem S256x256 .bf16) (harg6 : arg6.IsWhole) (arg7 : Memref sig .tc .vmem S256x128 .bf16) (harg7 : arg7.IsWhole)
  (arg8 : Memref sig .tc .smem S1 .i32) (harg8 : arg8.IsWhole)
  (arg9 : Memref sig .tc .vmem S1024x128 .bf16) (harg9 : arg9.IsWhole) (arg10 : Memref sig .tc .vmem S4x128x2048 .bf16) (harg10 : arg10.IsWhole) (arg11 : Memref sig .tc .vmem S128x256 .bf16) (harg11 : arg11.IsWhole)
  (x0 : Vec F S1024x256 .bf16) (x1 : Vec F S8192x256 .bf16) (x2 : Vec F S8192x128 .bf16) (x3 : Vec F S256x256 .bf16) (x4 : Vec F S256x128 .bf16) (x5 : Vec F S1 .i32)
  (s0 : Vec F S4x128x2048 .bf16) (s1 : Vec F S128x256 .bf16)

/-- The flag, as the body reads it from a block of one word. -/
abbrev flagOf (x5 : Vec F S1 .i32) : BitVec 32 := x5 (Shape.Idx.first (numel1_S1.symm ▸ Nat.one_pos))

/-- A buffer holding the contents that read `x` is held at `x`. -/
theorem owns_unread (c : Dev nD) {sp : Space} {s : Shape} {e : EltTy} {m : Memref sig .tc sp s e} (h : m.IsWhole) (x : Vec F s e) :
    (m.view.loc (c : Thread nD τ) ↦[m.view.set]{fullShare} h.unread x : sProp 𝕄) ⊢ iprop(∃ f, ⌜m.view.read (Elt F) f = x⌝ ∗ (m.view.loc (c : Thread nD τ) ↦[m.view.set]{fullShare} f)) := by
  iintro H
  iexists _
  isplitr
  · ipureintro; exact h.read_unread x
  iexact H

/-- The six input blocks, held at known contents. -/
abbrev Inputs (c : Dev nD) (arg3 : Memref sig .tc .vmem S1024x256 .bf16) (arg4 : Memref sig .tc .vmem S8192x256 .bf16) (arg5 : Memref sig .tc .vmem S8192x128 .bf16) (arg6 : Memref sig .tc .vmem S256x256 .bf16) (arg7 : Memref sig .tc .vmem S256x128 .bf16)
    (arg8 : Memref sig .tc .smem S1 .i32)
    (x0 : Vec F S1024x256 .bf16) (x1 : Vec F S8192x256 .bf16) (x2 : Vec F S8192x128 .bf16) (x3 : Vec F S256x256 .bf16) (x4 : Vec F S256x128 .bf16) (x5 : Vec F S1 .i32) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5)

set_option maxHeartbeats 4000000 in
/-- Scores taken as they are, at a later block of queries: the scratch is read as it is and left as it is. -/
theorem run_safe_later (hc1 : ¬ firstQ i) (hc0 : flagOf x5 = 1#32) (E : Set ℕ) (K : PUnit → sProp 𝕄) :
    iprop(Inputs c arg3 arg4 arg5 arg6 arg7 arg8 x0 x1 x2 x3 x4 x5 ∗ (∃ d, owns (c : Thread nD τ) arg9 fullShare d) ∗ owns (c : Thread nD τ) arg10 fullShare s0 ∗ owns (c : Thread nD τ) arg11 fullShare s1
        ∗ (iprop(Inputs c arg3 arg4 arg5 arg6 arg7 arg8 x0 x1 x2 x3 x4 x5 ∗ owns (c : Thread nD τ) arg9 fullShare (safeFrom x0 x1 (slab s0 0 (by decide)) (slab s0 1 (by decide)) (slab s0 2 (by decide)) (slab s0 3 (by decide)) s1 x3) ∗ owns (c : Thread nD τ) arg10 fullShare s0 ∗ owns (c : Thread nD τ) arg11 fullShare s1) -∗ K ⟨⟩))
      ⊢ wp frame (wpE (defs₀ (F := F)) Variants.none c none) E (cc0_mla_attn i arg3 harg3 arg4 harg4 arg5 harg5 arg6 harg6 arg7 harg7 arg8 harg8 arg9 harg9 arg10 harg10 arg11 harg11) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := mt (notSafe_iff _).1 (not_not.2 hc0)
  replace hc0 := (isSafe_iff _).2 hc0
  simp only [cc0_mla_attn_eq_skeleton]; unfold cc0_mla_attn_skel
  simp only [k0_part1_eq_skeleton, k0_part2_eq_skeleton, k0_part3_eq_skeleton, k0_part4_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg10.eq_unread hfs0; obtain rfl := harg11.eq_unread hfs1
  sl_exec (disch := first | sl_exact hc0 | sl_exact hc1 | sl_exact hc2)
  sl_step
  iapply Hk
  isplitl [H0 H1 H2 H3 H4 H5]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    iapply (owns_unread c harg8 _); iexact H5
  isplitl [H8]
  · iexists _; isplitr
    swap; · iexact H8
    · ipureintro
      refine (View.read_writes_full arg9.view f8 _ _ []).trans ?_
      sl_unfold_words
      simp only [load_window, window_S1024x128, window_S256x128, window_S128x256, window_S1024x256, window_S256x256]
      rfl
  isplitl [HS0]
  · iapply (owns_unread c harg10 _); iexact HS0
  · iapply (owns_unread c harg11 _); iexact HS1

set_option maxHeartbeats 4000000 in
/-- Scores taken as they are, at the first block of queries of a pair of heads: the scratch receives the transposed values. -/
theorem run_safe_first (hc1 : firstQ i) (hc0 : flagOf x5 = 1#32) (E : Set ℕ) (K : PUnit → sProp 𝕄) :
    iprop(Inputs c arg3 arg4 arg5 arg6 arg7 arg8 x0 x1 x2 x3 x4 x5 ∗ (∃ d, owns (c : Thread nD τ) arg9 fullShare d) ∗ owns (c : Thread nD τ) arg10 fullShare s0 ∗ owns (c : Thread nD τ) arg11 fullShare s1
        ∗ (iprop(Inputs c arg3 arg4 arg5 arg6 arg7 arg8 x0 x1 x2 x3 x4 x5 ∗ owns (c : Thread nD τ) arg9 fullShare (safeBlock x0 x1 x2 x3 x4) ∗ (∃ d, ⌜Slabs x2 d⌝ ∗ owns (c : Thread nD τ) arg10 fullShare d) ∗ owns (c : Thread nD τ) arg11 fullShare (k0_pay10 x4)) -∗ K ⟨⟩))
      ⊢ wp frame (wpE (defs₀ (F := F)) Variants.none c none) E (cc0_mla_attn i arg3 harg3 arg4 harg4 arg5 harg5 arg6 harg6 arg7 harg7 arg8 harg8 arg9 harg9 arg10 harg10 arg11 harg11) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := mt (notSafe_iff _).1 (not_not.2 hc0)
  replace hc0 := (isSafe_iff _).2 hc0
  simp only [cc0_mla_attn_eq_skeleton]; unfold cc0_mla_attn_skel
  simp only [k0_part1_eq_skeleton, k0_part2_eq_skeleton, k0_part3_eq_skeleton, k0_part4_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg10.eq_unread hfs0; obtain rfl := harg11.eq_unread hfs1
  sl_exec (disch := first | sl_exact hc0 | sl_exact hc1 | sl_exact hc2)
  sl_step
  iapply Hk
  isplitl [H0 H1 H2 H3 H4 H5]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    iapply (owns_unread c harg8 _); iexact H5
  isplitl [H8]
  · iexists _; isplitr
    swap; · iexact H8
    · ipureintro
      refine (View.read_writes_full arg9.view f8 _ _ []).trans ?_
      sl_unfold_words
      rw [View.readCov_full, cov_slab _ 0 _ (by decide), cov_slab _ 1 _ (by decide), cov_slab _ 2 _ (by decide), cov_slab _ 3 _ (by decide),
        (slab_stored _ _ _ _ _ _).1, (slab_stored _ _ _ _ _ _).2.1, (slab_stored _ _ _ _ _ _).2.2.1, (slab_stored _ _ _ _ _ _).2.2.2]
      simp only [load_window, window_S1024x128, window_S256x128, window_S128x256, window_S1024x256, window_S256x256]
      rfl
  isplitl [HS0]
  · iexists _
    isplitr
    swap
    · iexists _
      isplitr
      swap; · iexact HS0
      ipureintro; rfl
    · ipureintro
      sl_unfold_words
      have h := slab_stored arg10.view (harg10.unread s0)
        (k0_pay6 (arg5.view.readAt (Elt F) (Rect.unit (s := S8192x128) ![0, 0] S2048x128.size inb_S8192x128_S2048x128_0_0).toLoadRect (harg5.unread x2)))
        (k0_pay7 (arg5.view.readAt (Elt F) (Rect.unit (s := S8192x128) ![2048, 0] S2048x128.size inb_S8192x128_S2048x128_2048_0).toLoadRect (harg5.unread x2)))
        (k0_pay8 (arg5.view.readAt (Elt F) (Rect.unit (s := S8192x128) ![4096, 0] S2048x128.size inb_S8192x128_S2048x128_4096_0).toLoadRect (harg5.unread x2)))
        (k0_pay9 (arg5.view.readAt (Elt F) (Rect.unit (s := S8192x128) ![6144, 0] S2048x128.size inb_S8192x128_S2048x128_6144_0).toLoadRect (harg5.unread x2)))
      exact ⟨h.1.trans (congrArg _ (load_window harg5 x2 _)), h.2.1.trans (congrArg _ (load_window harg5 x2 _)),
        h.2.2.1.trans (congrArg _ (load_window harg5 x2 _)), h.2.2.2.trans (congrArg _ (load_window harg5 x2 _))⟩
  · iexists _; isplitr
    swap; · iexact HS1
    · ipureintro
      sl_unfold_words
      refine (View.read_writes_full arg11.view _ _ _ []).trans (congrArg _ ?_)
      exact load_full harg7 x4 _

/-- The loop makes sixteen trips. -/
theorem trips_eq : k0_t1_loop.trips = 16 := by decide

/-- One trip of the loop is one step over the 512 keys and values it loads. -/
theorem trip_eq (v4 v5 : Vec F S1024x128 .bf16) (k : Fin k0_t1_loop.trips) (h : 512 * k.val + 512 ≤ 8192) (a : Carried F) :
    tripR_k0_t1 (F := F) Variants.none c none i arg3 harg3 arg4 harg4 arg5 harg5 arg6 harg6 arg7 harg7 arg8 harg8 arg9 harg9 arg10 harg10 arg11 harg11 v4 v5 (harg4.unread x1) (harg5.unread x2) k a
      = onStep v4 v5 (wideRows x1 (512 * k.val) h) (rows512 x2 (512 * k.val) h) a := by
  have e4 : arg4.view.readAt (Elt F) (Rect.unit (s := S8192x256) (k0_off1 k) S512x256.size (k0_off1_inb k)).toLoadRect (harg4.unread x1) = wideRows x1 (512 * k.val) h := by
    rw [View.readAt_unit _ _ _ (k0_off1_eq k), harg4.read_unread]; rfl
  have e5 : arg5.view.readAt (Elt F) (Rect.unit (s := S8192x128) (k0_off2 k) S512x128.size (k0_off2_inb k)).toLoadRect (harg5.unread x2) = rows512 x2 (512 * k.val) h := by
    rw [View.readAt_unit _ _ _ (k0_off2_eq k), harg5.read_unread]; rfl
  unfold tripR_k0_t1 trip_k0_t1
  sl_unfold_words
  refine Eq.trans (b := onStep v4 v5 _ _ a) (rfl : _ = onStep v4 v5 (arg4.view.readAt (Elt F) (Rect.unit (s := S8192x256) (k0_off1 k) S512x256.size (k0_off1_inb k)).toLoadRect (harg4.unread x1)) (arg5.view.readAt (Elt F) (Rect.unit (s := S8192x128) (k0_off2 k) S512x128.size (k0_off2_inb k)).toLoadRect (harg5.unread x2)) a) ?_
  rw [e4, e5]

/-- Before trip `n` the loop carries the state before step `n`. -/
theorem state_eq (v4 v5 : Vec F S1024x128 .bf16) (n : ℕ) (hn : n ≤ 16) :
    st_k0_t1 (F := F) Variants.none c none i arg3 harg3 arg4 harg4 arg5 harg5 arg6 harg6 arg7 harg7 arg8 harg8 arg9 harg9 arg10 harg10 arg11 harg11 v4 v5 (harg4.unread x1) (harg5.unread x2) onStart n
      = onState v4 v5 x1 x2 n := by
  induction n with
  | zero => rfl
  | succ n ih =>
    have hk : n < k0_t1_loop.trips := by rw [trips_eq]; omega
    refine (st_k0_t1_succ (F := F) Variants.none c none i arg3 harg3 arg4 harg4 arg5 harg5 arg6 harg6 arg7 harg7 arg8 harg8 arg9 harg9 arg10 harg10 arg11 harg11 v4 v5 (harg4.unread x1) (harg5.unread x2) _ ⟨n, hk⟩).trans ?_
    have h : 512 * n + 512 ≤ 8192 := by omega
    rw [trip_eq c i arg3 harg3 arg4 harg4 arg5 harg5 arg6 harg6 arg7 harg7 arg8 harg8 arg9 harg9 arg10 harg10 arg11 harg11 x1 x2 v4 v5 ⟨n, hk⟩ h, ih (by omega), onState, dif_pos h]

set_option maxHeartbeats 4000000 in
/-- With a running maximum: the scratch is not touched. -/
theorem run_online (hc0 : flagOf x5 ≠ 1#32) (E : Set ℕ) (K : PUnit → sProp 𝕄) :
    iprop(Inputs c arg3 arg4 arg5 arg6 arg7 arg8 x0 x1 x2 x3 x4 x5 ∗ (∃ d, owns (c : Thread nD τ) arg9 fullShare d) ∗ owns (c : Thread nD τ) arg10 fullShare s0 ∗ owns (c : Thread nD τ) arg11 fullShare s1
        ∗ (iprop(Inputs c arg3 arg4 arg5 arg6 arg7 arg8 x0 x1 x2 x3 x4 x5 ∗ owns (c : Thread nD τ) arg9 fullShare (onlineBlock x0 x1 x2 x3 x4) ∗ owns (c : Thread nD τ) arg10 fullShare s0 ∗ owns (c : Thread nD τ) arg11 fullShare s1) -∗ K ⟨⟩))
      ⊢ wp frame (wpE (defs₀ (F := F)) Variants.none c none) E (cc0_mla_attn i arg3 harg3 arg4 harg4 arg5 harg5 arg6 harg6 arg7 harg7 arg8 harg8 arg9 harg9 arg10 harg10 arg11 harg11) K := by
  have hw : arg8.view.readAt (Elt F) (Rect.unit (s := S1) ![0] S1.size inb_S1_S1_0).toLoadRect (harg8.unread x5) (Shape.Idx.first (numel1_S1.symm ▸ Nat.one_pos)) = flagOf x5 :=
    congrFun (load_full harg8 x5 inb_S1_S1_0) _
  rw [← hw] at hc0
  have hc2 := (notSafe_iff _).2 hc0
  replace hc0 := mt (isSafe_iff _).1 hc0
  simp only [cc0_mla_attn_eq_skeleton]; unfold cc0_mla_attn_skel
  simp only [k0_part1_eq_skeleton, k0_part2_eq_skeleton, k0_part3_eq_skeleton, k0_part4_eq_skeleton]
  unfold Inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d8, %f8, -, H8⟩, ⟨%fs0, %hfs0, HS0⟩, ⟨%fs1, %hfs1, HS1⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg10.eq_unread hfs0; obtain rfl := harg11.eq_unread hfs1
  sl_exec (disch := first | sl_exact hc0 | sl_exact hc2)
  sl_step
  iapply Hk
  isplitl [H0 H1 H2 H3 H4 H5]
  · isplitl [H0]; · iapply (owns_unread c harg3 _); iexact H0
    isplitl [H1]; · iapply (owns_unread c harg4 _); iexact H1
    isplitl [H2]; · iapply (owns_unread c harg5 _); iexact H2
    isplitl [H3]; · iapply (owns_unread c harg6 _); iexact H3
    isplitl [H4]; · iapply (owns_unread c harg7 _); iexact H4
    iapply (owns_unread c harg8 _); iexact H5
  isplitl [H8]
  · iexists _; isplitr
    swap; · iexact H8
    · ipureintro
      refine (View.read_writes_full arg9.view f8 _ _ []).trans ?_
      sl_unfold_words
      simp only [load_window, window_S1024x128, window_S256x128, window_S128x256, window_S1024x256, window_S256x256]
      exact congrArg (fun a => onFinish (k0_pay2 x0) (k0_pay3 x0) a x3 x4)
        ((congrArg (st_k0_t1 Variants.none c none i arg3 harg3 arg4 harg4 arg5 harg5 arg6 harg6 arg7 harg7 arg8 harg8 arg9 harg9 arg10 harg10 arg11 harg11 (k0_pay2 x0) (k0_pay3 x0) (harg4.unread x1) (harg5.unread x2) onStart) trips_eq).trans
          (state_eq c i arg3 harg3 arg4 harg4 arg5 harg5 arg6 harg6 arg7 harg7 arg8 harg8 arg9 harg9 arg10 harg10 arg11 harg11 x1 x2 (k0_pay2 x0) (k0_pay3 x0) 16 le_rfl))
  isplitl [HS0]
  · iapply (owns_unread c harg10 _); iexact HS0
  · iapply (owns_unread c harg11 _); iexact HS1
end Cert.Kernel3Ideal.Hand

end
-- ==== Proof.K3I.Launch.lean ====
/- What the kernel's windows hold at each grid point, as parts of the argument arrays, and the kernel's run: its result array holds,
   block by block, the attention block of the point. -/
module

public import proofs.«01_k».proof.Proof.K3I.Runs
public import Idealize.ShloMosaic.Lib.Pipeline
public import Idealize.ShloMosaic.Lib.Claim
public import Idealize.ShloMosaic.Lib.ValueIdx

@[expose] public section

set_option maxRecDepth 16384

noncomputable section

namespace Cert.Kernel3Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.Kernel3Ideal.Gen
open Cert.KernelIdeal.Hand (slab)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- The `n` rows from row `r`, and the `w` columns from column `c`, of the projected array. -/
def tile {α : Type} (x : S16896x4096.Idx → α) (n w r c : ℕ) (hr : r + n ≤ 16896) (hc : c + w ≤ 4096) : (⟨2, ![n, w]⟩ : Shape).Idx → α :=
  fun y => x (ix2 ⟨r + (y 0).val, lt_of_lt_of_le (Nat.add_lt_add_left (y 0).isLt r) hr⟩ ⟨c + (y 1).val, lt_of_lt_of_le (Nat.add_lt_add_left (y 1).isLt c) hc⟩)

/-- A tile depends on its offsets only. -/
theorem tile_congr {α : Type} (x : S16896x4096.Idx → α) (n w : ℕ) {r r' c c' : ℕ} (hr : r + n ≤ 16896) (hc : c + w ≤ 4096) (er : r = r') (ec : c = c') :
    tile x n w r c hr hc = tile x n w r' c' (er ▸ hr) (ec ▸ hc) := by
  subst er ec; rfl

theorem lt64 (t : Fin cfg0.N) : t.val < 64 := Nat.lt_of_lt_of_eq t.isLt N_0

theorem index0 : ∀ t : Fin cfg0.N, win0_0.index t 0 = t.val / 32 * 8 + t.val % 8 ∧ win0_0.index t 1 = t.val / 8 % 4 :=
  (by decide +kernel : ∀ t : Fin grid0.N, win0_0.index t 0 = t.val / 32 * 8 + t.val % 8 ∧ win0_0.index t 1 = t.val / 8 % 4)
theorem index1 : ∀ t : Fin cfg0.N, win0_1.index t 0 = t.val / 32 ∧ win0_1.index t 1 = 4 + t.val / 8 % 4 :=
  (by decide +kernel : ∀ t : Fin grid0.N, win0_1.index t 0 = t.val / 32 ∧ win0_1.index t 1 = 4 + t.val / 8 % 4)
theorem index2 : ∀ t : Fin cfg0.N, win0_2.index t 0 = t.val / 32 ∧ win0_2.index t 1 = 16 + t.val / 8 % 4 :=
  (by decide +kernel : ∀ t : Fin grid0.N, win0_2.index t 0 = t.val / 32 ∧ win0_2.index t 1 = 16 + t.val / 8 % 4)
theorem index3 : ∀ t : Fin cfg0.N, win0_3.index t 0 = 64 + t.val / 32 ∧ win0_3.index t 1 = 4 + t.val / 8 % 4 :=
  (by decide +kernel : ∀ t : Fin grid0.N, win0_3.index t 0 = 64 + t.val / 32 ∧ win0_3.index t 1 = 4 + t.val / 8 % 4)
theorem index4 : ∀ t : Fin cfg0.N, win0_4.index t 0 = 64 + t.val / 32 ∧ win0_4.index t 1 = 16 + t.val / 8 % 4 :=
  (by decide +kernel : ∀ t : Fin grid0.N, win0_4.index t 0 = 64 + t.val / 32 ∧ win0_4.index t 1 = 16 + t.val / 8 % 4)
theorem index6 : ∀ t : Fin cfg0.N, (win0_6.index t 0 = t.val / 32 * 8 + t.val % 8 ∧ win0_6.xsize (grid0.coords t) 0 = 1024) ∧ win0_6.index t 1 = t.val / 8 % 4 ∧ win0_6.xsize (grid0.coords t) 1 = 128 :=
  (by decide +kernel : ∀ t : Fin grid0.N, (win0_6.index t 0 = t.val / 32 * 8 + t.val % 8 ∧ win0_6.xsize (grid0.coords t) 0 = 1024) ∧ win0_6.index t 1 = t.val / 8 % 4 ∧ win0_6.xsize (grid0.coords t) 1 = 128)

/-- Window 0 holds the queries. -/
theorem block0 (c : Dev nD) (t : Fin cfg0.N) : (X0_0 m c t : Vec F S1024x256 .bf16) = tile (m ((c : Thread nD τ).loc main_arg0)) 1024 256 (1024 * (t.val / 32 * 8 + t.val % 8)) (256 * (t.val / 8 % 4)) (by have := lt64 t; omega) (by have := lt64 t; omega) := by
  have hi := index0 t
  funext y
  unfold X0_0 Pipeline.Window.fill
  rw [dif_pos (moved0_0 t y)]
  unfold iblk tile
  rw [View.read_apply]
  show V m c main_arg0 _ = m (c.tc.loc main_arg0) _
  unfold V
  congr 1
  funext a
  apply Fin.ext
  match a with
  | ⟨0, _⟩ => show win0_0.index t 0 * 1024 + 1 * (y 0).val = 1024 * (t.val / 32 * 8 + t.val % 8) + (y 0).val; rw [hi.1]; omega
  | ⟨1, _⟩ => show win0_0.index t 1 * 256 + 1 * (y 1).val = 256 * (t.val / 8 % 4) + (y 1).val; rw [hi.2]; omega

/-- Window 1 holds the keys. -/
theorem block1 (c : Dev nD) (t : Fin cfg0.N) : (X0_1 m c t : Vec F S8192x256 .bf16) = tile (m ((c : Thread nD τ).loc main_arg0)) 8192 256 (8192 * (t.val / 32)) (256 * (4 + t.val / 8 % 4)) (by have := lt64 t; omega) (by have := lt64 t; omega) := by
  have hi := index1 t
  funext y
  unfold X0_1 Pipeline.Window.fill
  rw [dif_pos (moved0_1 t y)]
  unfold iblk tile
  rw [View.read_apply]
  show V m c main_arg0 _ = m (c.tc.loc main_arg0) _
  unfold V
  congr 1
  funext a
  apply Fin.ext
  match a with
  | ⟨0, _⟩ => show win0_1.index t 0 * 8192 + 1 * (y 0).val = 8192 * (t.val / 32) + (y 0).val; rw [hi.1]; omega
  | ⟨1, _⟩ => show win0_1.index t 1 * 256 + 1 * (y 1).val = 256 * (4 + t.val / 8 % 4) + (y 1).val; rw [hi.2]; omega

/-- Window 2 holds the values. -/
theorem block2 (c : Dev nD) (t : Fin cfg0.N) : (X0_2 m c t : Vec F S8192x128 .bf16) = tile (m ((c : Thread nD τ).loc main_arg0)) 8192 128 (8192 * (t.val / 32)) (128 * (16 + t.val / 8 % 4)) (by have := lt64 t; omega) (by have := lt64 t; omega) := by
  have hi := index2 t
  funext y
  unfold X0_2 Pipeline.Window.fill
  rw [dif_pos (moved0_2 t y)]
  unfold iblk tile
  rw [View.read_apply]
  show V m c main_arg0 _ = m (c.tc.loc main_arg0) _
  unfold V
  congr 1
  funext a
  apply Fin.ext
  match a with
  | ⟨0, _⟩ => show win0_2.index t 0 * 8192 + 1 * (y 0).val = 8192 * (t.val / 32) + (y 0).val; rw [hi.1]; omega
  | ⟨1, _⟩ => show win0_2.index t 1 * 128 + 1 * (y 1).val = 128 * (16 + t.val / 8 % 4) + (y 1).val; rw [hi.2]; omega

/-- Window 3 holds the context keys. -/
theorem block3 (c : Dev nD) (t : Fin cfg0.N) : (iblk m c 3 t : Vec F S256x256 .bf16) = tile (m ((c : Thread nD τ).loc main_arg0)) 256 256 (256 * (64 + t.val / 32)) (256 * (4 + t.val / 8 % 4)) (by have := lt64 t; omega) (by have := lt64 t; omega) := by
  have hi := index3 t
  funext y
  unfold iblk tile
  rw [View.read_apply]
  show V m c main_arg0 _ = m (c.tc.loc main_arg0) _
  unfold V
  congr 1
  funext a
  apply Fin.ext
  match a with
  | ⟨0, _⟩ => show win0_3.index t 0 * 256 + 1 * (y 0).val = 256 * (64 + t.val / 32) + (y 0).val; rw [hi.1]; omega
  | ⟨1, _⟩ => show win0_3.index t 1 * 256 + 1 * (y 1).val = 256 * (4 + t.val / 8 % 4) + (y 1).val; rw [hi.2]; omega

/-- Window 4 holds the context values. -/
theorem block4 (c : Dev nD) (t : Fin cfg0.N) : (iblk m c 4 t : Vec F S256x128 .bf16) = tile (m ((c : Thread nD τ).loc main_arg0)) 256 128 (256 * (64 + t.val / 32)) (128 * (16 + t.val / 8 % 4)) (by have := lt64 t; omega) (by have := lt64 t; omega) := by
  have hi := index4 t
  funext y
  unfold iblk tile
  rw [View.read_apply]
  show V m c main_arg0 _ = m (c.tc.loc main_arg0) _
  unfold V
  congr 1
  funext a
  apply Fin.ext
  match a with
  | ⟨0, _⟩ => show win0_4.index t 0 * 256 + 1 * (y 0).val = 256 * (64 + t.val / 32) + (y 0).val; rw [hi.1]; omega
  | ⟨1, _⟩ => show win0_4.index t 1 * 128 + 1 * (y 1).val = 128 * (16 + t.val / 8 % 4) + (y 1).val; rw [hi.2]; omega

/-- Window 5 holds all of its array. -/
theorem block5 (c : Dev nD) (t : Fin cfg0.N) : (iblk m c 5 t : Vec F S1 .i32) = m ((c : Thread nD τ).loc main_arg1) := by
  funext y
  unfold iblk
  rw [View.read_apply]
  show V m c main_arg1 _ = m (c.tc.loc main_arg1) _
  unfold V
  congr 1
  funext a
  apply Fin.ext
  match a with
  | ⟨0, _⟩ => show 0 * 1 + 1 * (y 0).val = (y 0).val; omega

/-! ## The block of the point, and what the scratch holds -/

/-- The flag word. -/
abbrev flag (c : Dev nD) (t : Fin cfg0.N) : BitVec 32 := flagOf (F := F) (iblk m c 5 t)

/-- The attention block of point `t`. -/
def pointOut (c : Dev nD) (t : Fin cfg0.N) : Vec F S1024x128 .bf16 :=
  attnBlock (X0_0 m c t) (X0_1 m c t) (X0_2 m c t) (iblk m c 3 t) (iblk m c 4 t) (flag m c t)

/-- What the scratch is known to hold before point `p`: within a pair's eight blocks of queries, after the first, the transposed
    values and context values, when the flag is one. -/
def Carry (c : Dev nD) (p : ℕ) (d0 : Vec F S4x128x2048 .bf16) (d1 : Vec F S128x256 .bf16) : Prop :=
  ∀ t : Fin cfg0.N, t.val = p → t.val % 8 ≠ 0 → flag m c t = 1#32 → Slabs (X0_2 m c t) d0 ∧ d1 = k0_pay10 (iblk m c 4 t)

/-- The flag is the same word at every point. -/
theorem flag_eq (c : Dev nD) (t t' : Fin cfg0.N) : flag m c t = flag m c t' :=
  congrFun ((block5 m c t).trans (block5 m c t').symm) _

/-- Within a pair of heads the values do not change from one point to the next, -/
theorem values_step (c : Dev nD) (t t' : Fin cfg0.N) (h : t'.val = t.val + 1) (h' : t'.val % 8 ≠ 0) :
    (X0_2 m c t' : Vec F S8192x128 .bf16) = X0_2 m c t := by
  rw [block2, block2]
  exact tile_congr _ _ _ _ _ (by omega) (by omega)

/-- nor do the context values. -/
theorem ctx_step (c : Dev nD) (t t' : Fin cfg0.N) (h : t'.val = t.val + 1) (h' : t'.val % 8 ≠ 0) :
    (iblk m c 4 t' : Vec F S256x128 .bf16) = iblk m c 4 t := by
  rw [block4, block4]
  exact tile_congr _ _ _ _ _ (by omega) (by omega)

/-- What the scratch holds after a point it is known to hold before the next. -/
theorem carry_next (c : Dev nD) (t : Fin cfg0.N) (d0 : Vec F S4x128x2048 .bf16) (d1 : Vec F S128x256 .bf16)
    (h : flag m c t = 1#32 → Slabs (X0_2 m c t) d0 ∧ d1 = k0_pay10 (iblk m c 4 t)) : Carry m c (t.val + 1) d0 d1 := by
  intro t' ht' h8 hf
  rw [values_step m c t t' ht' h8, ctx_step m c t t' ht' h8]
  exact h ((flag_eq m c t t').trans hf)

/-! ## The proof data -/

abbrev scM0_0 : Memref sig .tc .vmem S4x128x2048 .bf16 := Memref.whole cc0_scratch0
abbrev scM0_1 : Memref sig .tc .vmem S128x256 .bf16 := Memref.whole cc0_scratch1
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x128 .bf16 := win0_6.stage (cfg0.slots t 6)
abbrev hs0_6 (t : Fin cfg0.N) : (ms0_6 t).IsWhole := hstage0_6 ((cfg0.slots t 6).cast nbuf0_6)

/-- The invariant of the run before point `p`. -/
def inv (c : Dev nD) (p : ℕ) : sProp 𝕄 :=
  iprop((∃ d0 d1, ⌜Carry m c p d0 d1⌝ ∗ owns (c : Thread nD τ) scM0_0 fullShare d0 ∗ owns (c : Thread nD τ) scM0_1 fullShare d1) ∗ (∃ r, prngReg c r))

/-- The kernel's scratch and generator register, spelled out. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The pipeline's proof data: each input's buffer at its block, the output's at the attention block of the point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => pointOut m c t
  Φ p := inv m c p.val
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = pointOut m c t := by dsimp only [dats]
theorem before0_0 (c : Dev nD) (t : Fin cfg0.N) (d) : (dats m 0 c).before 0 t d = X0_0 m c t := before0_0_of m (dats m 0 c) (A_eq m c 0) (after0_0 m c) t d
theorem before0_1 (c : Dev nD) (t : Fin cfg0.N) (d) : (dats m 0 c).before 1 t d = X0_1 m c t := before0_1_of m (dats m 0 c) (A_eq m c 1) (after0_1 m c) t d
theorem before0_2 (c : Dev nD) (t : Fin cfg0.N) (d) : (dats m 0 c).before 2 t d = X0_2 m c t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The first block of queries of a pair of heads is at the points divisible by eight. -/
theorem firstQ_iff (t : Fin cfg0.N) : firstQ (grid0.coords t) ↔ t.val % 8 = 0 := by
  have ht : t.val < 64 := lt64 t
  have e2 : (grid0.coords t 2).val = t.val / 1 % 8 := Pipeline.Grid.coords_val t 2 (by decide) rfl
  simp only [firstQ, e2]
  word_cmp

set_option maxHeartbeats 4800000 in
/-- The body at any point leaves the attention block in the output's buffer and keeps the invariant: by the three runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.castSucc = inv m c t.val from rfl, show (dats m 0 c).Φ t.succ = inv m c (t.val + 1) from rfl]
  unfold inv
  iintro ⟨⟨⟨%e0, %e1, %hC, HS0, HS1⟩, Hg⟩, Ho, ⟨%d0, H0⟩, ⟨%d1, H1⟩, ⟨%d2, H2⟩, ⟨%d3, H3⟩, ⟨%d4, H4⟩, ⟨%d5, H5⟩, ⟨%d8, H8⟩⟩
  by_cases hf : flag m c t = 1#32
  · by_cases h8 : t.val % 8 = 0
    · have ho : pointOut m c t = safeBlock (X0_0 m c t) (X0_1 m c t) (X0_2 m c t) (iblk m c 3 t) (iblk m c 4 t) := if_pos hf
      rw [ho]
      iapply (run_safe_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (iblk m c 3 t) (iblk m c 4 t) (iblk m c 5 t) e0 e1 ((firstQ_iff t).2 h8) hf Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H8]; · iexists _; iexact H8
      isplitl [HS0]; · iexact HS0
      isplitl [HS1]; · iexact HS1
      iintro ⟨⟨H0, H1, H2, H3, H4, H5⟩, H8, ⟨%e2, %he0, HS0⟩, HS1⟩
      isplitl [HS0 HS1 Hg]
      · isplitl [HS0 HS1]
        · iexists _; iexists _
          isplitr; swap
          · isplitl [HS0]; · iexact HS0
            iexact HS1
          ipureintro
          exact carry_next m c t _ _ (fun _ => ⟨he0, rfl⟩)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H8
    · obtain ⟨hS, h1⟩ := hC t rfl h8 hf
      have ho : pointOut m c t = safeFrom (X0_0 m c t) (X0_1 m c t) (slab e0 0 (by decide)) (slab e0 1 (by decide)) (slab e0 2 (by decide)) (slab e0 3 (by decide)) e1 (iblk m c 3 t) :=
        (if_pos hf).trans (safeFrom_slabs hS h1).symm
      rw [ho]
      iapply (run_safe_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (iblk m c 3 t) (iblk m c 4 t) (iblk m c 5 t) e0 e1 (fun h => h8 ((firstQ_iff t).1 h)) hf Set.univ _)
      isplitl [H0 H1 H2 H3 H4 H5]
      · isplitl [H0]; · iexact H0
        isplitl [H1]; · iexact H1
        isplitl [H2]; · iexact H2
        isplitl [H3]; · iexact H3
        isplitl [H4]; · iexact H4
        iexact H5
      isplitl [H8]; · iexists _; iexact H8
      isplitl [HS0]; · iexact HS0
      isplitl [HS1]; · iexact HS1
      iintro ⟨⟨H0, H1, H2, H3, H4, H5⟩, H8, HS0, HS1⟩
      isplitl [HS0 HS1 Hg]
      · isplitl [HS0 HS1]
        · iexists _; iexists _
          isplitr; swap
          · isplitl [HS0]; · iexact HS0
            iexact HS1
          ipureintro
          exact carry_next m c t _ _ (fun _ => ⟨hS, h1⟩)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H8
  · have ho : pointOut m c t = onlineBlock (X0_0 m c t) (X0_1 m c t) (X0_2 m c t) (iblk m c 3 t) (iblk m c 4 t) := if_neg hf
    rw [ho]
    iapply (run_online c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (X0_0 m c t) (X0_1 m c t) (X0_2 m c t) (iblk m c 3 t) (iblk m c 4 t) (iblk m c 5 t) e0 e1 hf Set.univ _)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H8]; · iexists _; iexact H8
    isplitl [HS0]; · iexact HS0
    isplitl [HS1]; · iexact HS1
    iintro ⟨⟨H0, H1, H2, H3, H4, H5⟩, H8, HS0, HS1⟩
    isplitl [HS0 HS1 Hg]
    · isplitl [HS0 HS1]
      · iexists _; iexists _
        isplitr; swap
        · isplitl [HS0]; · iexact HS0
          iexact HS1
        ipureintro
        exact carry_next m c t _ _ (fun h => absurd h hf)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H8

/-- The call of the body at a point is the body on the point's buffers. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is known of the scratch. -/
theorem inv_start (c : Dev nD) : (Pipeline.ΦA spec0 c : sProp 𝕄) ⊢ inv m c 0 := by
  rw [PhiA0_eq]
  unfold inv
  iintro ⟨⟨⟨%d0, H0⟩, ⟨%d1, H1⟩⟩, Hg⟩
  isplitl [H0 H1]
  · iexists _; iexists _
    isplitr; swap
    · isplitl [H0]; · iexact H0
      iexact H1
    ipureintro
    intro t ht h8
    exact absurd (by rw [ht]) h8
  iexact Hg

/-- After the last point the scratch is given back. -/
theorem inv_end (c : Dev nD) (p : ℕ) : inv m c p ⊢ (Pipeline.ΦA spec0 c : sProp 𝕄) := by
  rw [PhiA0_eq]
  unfold inv
  iintro ⟨⟨%d0, %d1, -, H0, H1⟩, Hg⟩
  isplitl [H0 H1]
  · isplitl [H0]
    · iexists _; iexact H0
    iexists _; iexact H1
  iexact Hg

set_option backward.isDefEq.respectTransparency.types false in
/-- Every execution ends with the arrays as the proof data say and every semaphore counter at zero. -/
theorem run_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => inv_start m c) (hout := fun c => inv_end m c _)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-! ## The result array -/

/-- The grid point that writes an index of the result. -/
def ptOf (i : S16384x512.Idx) : Fin cfg0.N :=
  ⟨(i 0).val / 8192 * 32 + (i 1).val / 128 * 8 + (i 0).val % 8192 / 1024, by
    have h0 : (i 0).val < 16384 := (i 0).isLt
    have h1 : (i 1).val < 512 := (i 1).isLt
    have hN : cfg0.N = 64 := N_0
    omega⟩

/-- The index within its block. -/
def inBlk (i : S16384x512.Idx) : S1024x128.Idx :=
  ix2 (⟨(i 0).val % 1024, Nat.mod_lt _ (by decide)⟩ : Fin 1024) (⟨(i 1).val % 128, Nat.mod_lt _ (by decide)⟩ : Fin 128)

/-- The result: at each index the attention block of its point. -/
def result (c : Dev nD) : Vec F S16384x512 .bf16 := fun i => pointOut m c (ptOf i) (inBlk i)

/-- What a point writes back is its block of the result. -/
theorem flushed_eq (c : Dev nD) (t : Fin cfg0.N) :
    (dats m 0 c).flushed 6 t = (win0_6.blk t).view.read (Elt F) (result m c) := by
  show (cfg0.win 6).cut (grid0.coords t) ((dats m 0 c).after 6 t) = _
  rw [after0_6]
  funext y
  rw [View.read_apply]
  have hi := index6 t
  have ht := lt64 t
  have y0 : (y 0).val < 1024 := lt_of_lt_of_eq (y 0).isLt hi.1.2
  have y1 : (y 1).val < 128 := lt_of_lt_of_eq (y 1).isLt hi.2.2
  obtain ⟨z, hz, z0, z1⟩ : ∃ z : S16384x512.Idx, (win0_6.blk t).view.emb y = z ∧ (z 0).val = 1024 * (t.val / 32 * 8 + t.val % 8) + (y 0).val ∧ (z 1).val = 128 * (t.val / 8 % 4) + (y 1).val := by
    refine ⟨_, rfl, ?_, ?_⟩
    · show win0_6.index t 0 * 1024 + 1 * (y 0).val = _; rw [hi.1.1]; omega
    · show win0_6.index t 1 * 128 + 1 * (y 1).val = _; rw [hi.2.1]; omega
  rw [hz]
  have hp : ptOf z = t := by
    apply Fin.ext
    show (z 0).val / 8192 * 32 + (z 1).val / 128 * 8 + (z 0).val % 8192 / 1024 = t.val
    omega
  show pointOut m c t _ = pointOut m c (ptOf z) (inBlk z)
  rw [hp]
  congr 1
  funext a
  apply Fin.ext
  match a with
  | ⟨0, _⟩ => show (y 0).val = (z 0).val % 1024; omega
  | ⟨1, _⟩ => show (y 1).val = (z 1).val % 128; omega

/-- An index of the result lies in its point's block. -/
theorem mem_blk (i : S16384x512.Idx) : i ∈ (win0_6.blk (ptOf i)).view.set := by
  show i ∈ ((View.whole main_v0).slice (win0_6.rect (ptOf i))).set
  rw [View.set_slice_whole, Rect.mem_set_unit]
  have hi := index6 (ptOf i)
  have h0 : (i 0).val < 16384 := (i 0).isLt
  have h1 : (i 1).val < 512 := (i 1).isLt
  have hp : (ptOf i).val = (i 0).val / 8192 * 32 + (i 1).val / 128 * 8 + (i 0).val % 8192 / 1024 := rfl
  intro a
  match a with
  | ⟨0, _⟩ =>
    show win0_6.index (ptOf i) 0 * 1024 ≤ (i 0 : ℕ) ∧ (i 0 : ℕ) < win0_6.index (ptOf i) 0 * 1024 + win0_6.xsize (grid0.coords (ptOf i)) 0
    rw [hi.1.1, hi.1.2, hp]; omega
  | ⟨1, _⟩ =>
    show win0_6.index (ptOf i) 1 * 128 ≤ (i 1 : ℕ) ∧ (i 1 : ℕ) < win0_6.index (ptOf i) 1 * 128 + win0_6.xsize (grid0.coords (ptOf i)) 1
    rw [hi.2.1, hi.2.2, hp]; omega

/-- The result array ends holding the result. -/
theorem final_out (c : Dev nD) : (dats m 0 c).arrAt 6 cfg0.N = result m c :=
  (dats m 0 c).arrAt_eq_of_cover 6 (result m c) (fun t _ => flushed_eq m c t) (fun i => ⟨ptOf i, flush0_6 _, mem_blk i⟩)

/-- The run, read: the result array at the result, the arguments unchanged. -/
theorem run : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1.1 c).1 6).trans (final_out m c), h.2.1 c⟩)
    (θ_run_and (run_quiescent m ρ) (frame m ρ))

end Cert.Kernel3Ideal.Hand

end
-- ==== Proof.K3.Frame.lean ====
/- The frame of the latent attention's kernel at its own formats, from the frame of the same program printed for the algebraic claim. -/
module

public import proofs.«01_k».proof.Defs
public import proofs.«01_k».proof.Proof.Gen.Kernel3
public import proofs.«01_k».proof.Proof.K3I.Launch

@[expose] public section

set_option maxRecDepth 16384

noncomputable section

namespace Cert.Kernel3.Hand

open Idealize.ShloMosaic
open Cert.Kernel3.Gen Cert.Kernel3Ideal.Gen

/-- The two programs' body tables are equal. -/
theorem bodies_same : Cert.Kernel3.defs₀ (F := Bits) = Cert.Kernel3Ideal.defs₀ (F := Bits) := by
  unfold Cert.Kernel3.defs₀ Cert.Kernel3Ideal.defs₀
  refine congrArg (Defs.onTc (sig := Cert.Kernel3Ideal.sig)) (funext fun l => funext fun a => ?_)
  rcases l with ⟨_ | n, hl⟩
  · rcases a with ⟨t, s⟩
    show Cert.Kernel3.cc0_mla_attn (F := Bits) _ _ _ _ _ _ _ _ _ _ _ _ _ _ _ _ _ _ _ = Cert.Kernel3Ideal.cc0_mla_attn (F := Bits) _ _ _ _ _ _ _ _ _ _ _ _ _ _ _ _ _ _ _
    rfl
  · exact absurd hl (Nat.not_lt.2 (Nat.le_add_left _ _))

theorem tables_same : Cert.Kernel3.defs (F := Bits) = Cert.Kernel3Ideal.defs (F := Bits) :=
  congrArg (Pipeline.defs (Cert.Kernel3Ideal.pcfgs (F := Bits))) bodies_same

theorem mains_same : Cert.Kernel3.main (F := Bits) = Cert.Kernel3Ideal.main (F := Bits) := rfl

/-- The kernel's frame. -/
theorem frame : Cert.quiescent_Kernel3 := fun m g _ => by
  rw [tables_same]
  exact Cert.Kernel3Ideal.Hand.frame (F := Bits) m g

end Cert.Kernel3.Hand

end
-- ==== Proof.K3I.Maps.lean ====
/- What one output block of the latent attention's heads is, from real queries and keys and any values: below column 64 the attention map of the first head
   of the pair, from there on that of the second. Both forms of the kernel give that. One head's map is computed by the operations that
   compute one of the two maps of the differential attention, so what is proved of those is used. -/
module

public import proofs.«01_k».proof.Proof.KI.Online
public import proofs.«01_k».proof.Proof.K3I.Blocks

@[expose] public section

set_option maxRecDepth 16384

noncomputable section

namespace Cert.Kernel3Ideal.Hand

open Idealize.ShloMosaic Idealize.ShloMosaic.ValueIdx
open Idealize.ShloMosaic.VecWindow
open Cert.Kernel3Ideal.Gen
open Cert.KernelIdeal.Hand hiding onStep onState onFinish onlineBlock attnBlock safeBlock safeFrom Slabs
open scoped BigOperators

/-! ## The two heads of a pair -/

/-- The columns from column `o`. -/
def lanes (o : ℕ) (Q : ℕ → ℕ → ℝ) : ℕ → ℕ → ℝ := fun r d => Q r (o + d)

theorem cv_lanes {φ : FTy} {n w : ℕ} (o : ℕ) (f : ℕ → ℕ → ℝ) (h : (⟨2, ![n, w]⟩ : Shape).Slices ![0, o] ⟨2, ![n, 128]⟩) :
    extractStridedSlice (⟨2, ![n, 128]⟩ : Shape) ![0, o] (cv φ f : FVec Ideal (⟨2, ![n, w]⟩ : Shape) φ) h
      = (cv φ (lanes o f) : FVec Ideal (⟨2, ![n, 128]⟩ : Shape) φ) := by
  funext y
  show ((f (0 + (y 0).val) (o + (y 1).val) : ℝ) : EReal) = ((f (y 0).val (o + (y 1).val) : ℝ) : EReal)
  rw [zero_add]

theorem cv_wideChunk {φ : FTy} (f : ℕ → ℕ → ℝ) (o : ℕ) (h : o + 2048 ≤ 8192) :
    wideChunk (cv φ f : FVec Ideal S8192x256 φ) o h = (cv φ fun k d => f (o + k) d : FVec Ideal S2048x256 φ) := by
  funext y
  show ((f (o + 1 * (y 0).val) (0 + 1 * (y 1).val) : ℝ) : EReal) = ((f (o + (y 0).val) (y 1).val : ℝ) : EReal)
  rw [one_mul, one_mul, zero_add]

theorem cv_wideRows {φ : FTy} (f : ℕ → ℕ → ℝ) (o : ℕ) (h : o + 512 ≤ 8192) :
    wideRows (cv φ f : FVec Ideal S8192x256 φ) o h = (cv φ fun k d => f (o + k) d : FVec Ideal S512x256 φ) := by
  funext y
  show ((f (o + 1 * (y 0).val) (0 + 1 * (y 1).val) : ℝ) : EReal) = ((f (o + (y 0).val) (y 1).val : ℝ) : EReal)
  rw [one_mul, one_mul, zero_add]

theorem cv_pay2 (Q : ℕ → ℕ → ℝ) : k0_pay2 (F := Ideal) (cv .bf16 Q) = cv .bf16 (lanes 0 Q) := cv_lanes 0 Q slices_S1024x256_o0_0_S1024x128

theorem cv_pay3 (Q : ℕ → ℕ → ℝ) : k0_pay3 (F := Ideal) (cv .bf16 Q) = cv .bf16 (lanes 128 Q) := cv_lanes 128 Q slices_S1024x256_o0_128_S1024x128

/-- Columns below 64 from one array, the others from another. -/
def sideBySide (x y : FVec Ideal S1024x128 .f32) : FVec Ideal S1024x128 .bf16 :=
  truncf .bf16 (select (broadcastTo S1024x128 (shapeCast S1x128 k0_pay1 shapeCasts_S1x128_S1x128) broadcasts_S1x128_S1024x128) x y) bitsLt_bf16_f32

/-- The columns of the block: the first head's below 64, the second's from there on. -/
def joined (f g : ℕ → ℕ → EReal) (r e : ℕ) : EReal := if e < 64 then f r e else g r e

theorem ev_sideBySide (f g : ℕ → ℕ → EReal) : sideBySide (ev .f32 f) (ev .f32 g) = ev .bf16 (joined f g) := by
  funext y
  show Scalar.select (broadcastTo S1024x128 (shapeCast S1x128 Cert.KernelIdeal.Gen.k0_pay1 shapeCasts_S1x128_S1x128) broadcasts_S1x128_S1024x128 y)
    (ev .f32 f y) (ev .f32 g y) = joined f g (y 0).val (y 1).val
  rw [laneMask, joined]
  by_cases h : (y 1).val < 64
  · rw [if_pos h, if_pos h, select_one]; rfl
  · rw [if_neg h, if_neg h, select_zero]; rfl

theorem ev_chunk {φ : FTy} (f : ℕ → ℕ → EReal) (o : ℕ) (h : o + 2048 ≤ 8192) :
    chunk (ev φ f : FVec Ideal S8192x128 φ) o h = (ev φ fun k d => f (o + k) d : FVec Ideal S2048x128 φ) := by
  funext y
  show f (o + 1 * (y 0).val) (0 + 1 * (y 1).val) = f (o + (y 0).val) (y 1).val
  rw [one_mul, one_mul, zero_add]

/-- The block, from real queries and keys and from values that may be infinite. -/
def pairOut (Q K : ℕ → ℕ → ℝ) (V : ℕ → ℕ → EReal) (Kc : ℕ → ℕ → ℝ) (Vc : ℕ → ℕ → EReal) : ℕ → ℕ → EReal :=
  joined (attendE (lanes 0 Q) (lanes 0 K) V (lanes 0 Kc) Vc) (attendE (lanes 128 Q) (lanes 128 K) V (lanes 128 Kc) Vc)

/-! ## The form without a running maximum -/

theorem dotVP3 : dot_S128x2048_S2048x1024_S128x1024_1_0_0_1_n_n = DotDims.plain 128 2048 1024 := rfl
theorem dotVPc3 : dot_S128x256_S256x1024_S128x1024_1_0_0_1_n_n = DotDims.plain 128 256 1024 := rfl

theorem pay4_eq (a b : FVec Ideal S128x1024 .f32) (k l : FVec Ideal S1x1024 .f32) (C : Vec Ideal S128x256 .bf16) (p q : FVec Ideal S256x1024 .bf16)
    (s : FVec Ideal S1x1024 .f32) (w : FVec Ideal S256x1024 .f32) :
    k0_pay4 a k b l C p s w q = sideBySide
      (transpose S1024x128 [1, 0] (divf
        (addf (matmul (φ₁ := .bf16) (φ₂ := .bf16) dot_S128x256_S256x1024_S128x1024_1_0_0_1_n_n none C p (constant S128x1024 .f32 0x00000000#32) : FVec Ideal S128x1024 .f32) a)
        (broadcastTo S128x1024 (addf s k) broadcasts_S1x1024_S128x1024)) transposes_S128x1024_p1_0_S1024x128)
      (transpose S1024x128 [1, 0] (divf
        (addf (matmul (φ₁ := .bf16) (φ₂ := .bf16) dot_S128x256_S256x1024_S128x1024_1_0_0_1_n_n none C q (constant S128x1024 .f32 0x00000000#32) : FVec Ideal S128x1024 .f32) b)
        (broadcastTo S128x1024 (addf (shapeCast S1x1024 (multiReduction .add [0] S1024 w 0x00000000#32 reduces_S256x1024_S1024 (.inl rfl) rfl) shapeCasts_S1024_S1x1024) l)
          broadcasts_S1x1024_S128x1024)) transposes_S128x1024_p1_0_S1024x128) := rfl

section Parts
variable (q K0 K1 K2 K3 : ℕ → ℕ → ℝ) (T0 T1 T2 T3 : ℕ → ℕ → EReal)

/-- The weights of a part of the keys, for one head. -/
theorem cv_headWeights {n : ℕ} (K : ℕ → ℕ → ℝ) (o : ℕ) (h : (⟨2, ![n, 256]⟩ : Shape).Slices ![0, o] ⟨2, ![n, 128]⟩) :
    exp2 (matmul (φ₁ := .bf16) (φ₂ := .bf16) (DotDims.transposedRhs n 128 1024) none
      (extractStridedSlice (⟨2, ![n, 128]⟩ : Shape) ![0, o] (cv .bf16 K : FVec Ideal (⟨2, ![n, 256]⟩ : Shape) .bf16) h : FVec Ideal (⟨2, ![n, 128]⟩ : Shape) .bf16)
      (cv .bf16 q : FVec Ideal (⟨2, ![1024, 128]⟩ : Shape) .bf16) (constant (⟨2, ![n, 1024]⟩ : Shape) .f32 0x00000000#32))
      = cv .f32 fun i j => weight q (lanes o K) j i := by
  rw [cv_lanes, cv_matmulT, cv_exp2]
  exact cv_weights _ _

theorem cv_pay13 : k0_pay13 (F := Ideal) (cv .bf16 q) (cv .bf16 K0) = cv .f32 fun i j => weight q (lanes 0 K0) j i := cv_headWeights q K0 0 _
theorem cv_pay19 : k0_pay19 (F := Ideal) (cv .bf16 q) (cv .bf16 K0) = cv .f32 fun i j => weight q (lanes 0 K0) j i := cv_headWeights q K0 0 _
theorem cv_pay24 : k0_pay24 (F := Ideal) (cv .bf16 q) (cv .bf16 K0) = cv .f32 fun i j => weight q (lanes 0 K0) j i := cv_headWeights q K0 0 _
theorem cv_pay30 : k0_pay30 (F := Ideal) (cv .bf16 q) (cv .bf16 K0) = cv .f32 fun i j => weight q (lanes 0 K0) j i := cv_headWeights q K0 0 _
theorem cv_pay36 : k0_pay36 (F := Ideal) (cv .bf16 q) (cv .bf16 K0) = cv .f32 fun i j => weight q (lanes 0 K0) j i := cv_headWeights q K0 0 _
theorem cv_pay16 : k0_pay16 (F := Ideal) (cv .bf16 q) (cv .bf16 K0) = cv .f32 fun i j => weight q (lanes 128 K0) j i := cv_headWeights q K0 128 _
theorem cv_pay22 : k0_pay22 (F := Ideal) (cv .bf16 q) (cv .bf16 K0) = cv .f32 fun i j => weight q (lanes 128 K0) j i := cv_headWeights q K0 128 _
theorem cv_pay27 : k0_pay27 (F := Ideal) (cv .bf16 q) (cv .bf16 K0) = cv .f32 fun i j => weight q (lanes 128 K0) j i := cv_headWeights q K0 128 _
theorem cv_pay33 : k0_pay33 (F := Ideal) (cv .bf16 q) (cv .bf16 K0) = cv .f32 fun i j => weight q (lanes 128 K0) j i := cv_headWeights q K0 128 _
theorem cv_pay39 : k0_pay39 (F := Ideal) (cv .bf16 q) (cv .bf16 K0) = cv .f32 fun i j => weight q (lanes 128 K0) j i := cv_headWeights q K0 128 _

/-- The values weighted by the four parts of the keys, without the context, one row per column of the values. -/
def partsOf (w0 w1 w2 w3 : ℕ → ℕ → ℝ) (T0 T1 T2 T3 : ℕ → ℕ → EReal) : ℕ → ℕ → EReal := fun e r =>
  0 + ∑ k ∈ Finset.range 2048, T0 k e * ((w0 r k : ℝ) : EReal) + ∑ k ∈ Finset.range 2048, T1 k e * ((w1 r k : ℝ) : EReal) + ∑ k ∈ Finset.range 2048, T2 k e * ((w2 r k : ℝ) : EReal)
    + ∑ k ∈ Finset.range 2048, T3 k e * ((w3 r k : ℝ) : EReal)

/-- The sums of the weights of the four parts of the keys. -/
def sumsOf (w0 w1 w2 w3 : ℕ → ℕ → ℝ) : ℕ → ℕ → ℝ := fun _ r =>
  0 + ∑ k ∈ Finset.range 2048, w0 r k + ∑ k ∈ Finset.range 2048, w1 r k + ∑ k ∈ Finset.range 2048, w2 r k + ∑ k ∈ Finset.range 2048, w3 r k

theorem cv_firstParts :
    k0_pay31 (F := Ideal) (cv .bf16 q) (k0_pay25 (cv .bf16 q) (k0_pay14 (cv .bf16 q) (cv .bf16 K0) (k0_pay6 (F := Ideal) (ev .bf16 T0))) (k0_pay20 (cv .bf16 q) (cv .bf16 K1))
        (k0_pay7 (F := Ideal) (ev .bf16 T1)) (cv .bf16 K2) (k0_pay8 (F := Ideal) (ev .bf16 T2))) (cv .bf16 K3) (k0_pay9 (F := Ideal) (ev .bf16 T3))
      = ev .f32 (partsOf (weight q (lanes 0 K0)) (weight q (lanes 0 K1)) (weight q (lanes 0 K2)) (weight q (lanes 0 K3)) T0 T1 T2 T3) := by
  simp only [k0_pay31, k0_pay25, k0_pay14, k0_pay20, k0_pay6, k0_pay7, k0_pay8, k0_pay9, k0_pay11, cv_pay13, cv_pay19, cv_pay24, cv_pay30, shapeCast_shapeCast,
    shapeCast_self, dotVP3, ev_transpose, ev_zeros, cv_truncf, ev_matmul_left, ev_addf]
  rfl

theorem cv_firstSums :
    k0_pay32 (F := Ideal) (cv .bf16 q) (k0_pay26 (cv .bf16 q) (k0_pay15 (cv .bf16 q) (cv .bf16 K0)) (k0_pay21 (cv .bf16 q) (cv .bf16 K1)) (cv .bf16 K2)) (cv .bf16 K3)
      = cv .f32 (sumsOf (weight q (lanes 0 K0)) (weight q (lanes 0 K1)) (weight q (lanes 0 K2)) (weight q (lanes 0 K3))) := by
  simp only [k0_pay32, k0_pay26, k0_pay15, k0_pay21, k0_pay12, cv_pay13, cv_pay19, cv_pay24, cv_pay30, cv_zeros, cv_sumCols, cv_addf]
  rfl

theorem cv_secondParts :
    k0_pay34 (F := Ideal) (cv .bf16 q) (k0_pay29 (cv .bf16 q) (k0_pay17 (cv .bf16 q) (cv .bf16 K0) (k0_pay6 (F := Ideal) (ev .bf16 T0))) (cv .bf16 K1)
        (k0_pay7 (F := Ideal) (ev .bf16 T1)) (cv .bf16 K2) (k0_pay8 (F := Ideal) (ev .bf16 T2))) (cv .bf16 K3) (k0_pay9 (F := Ideal) (ev .bf16 T3))
      = ev .f32 (partsOf (weight q (lanes 128 K0)) (weight q (lanes 128 K1)) (weight q (lanes 128 K2)) (weight q (lanes 128 K3)) T0 T1 T2 T3) := by
  simp only [k0_pay34, k0_pay29, k0_pay17, k0_pay6, k0_pay7, k0_pay8, k0_pay9, k0_pay11, cv_pay16, cv_pay22, cv_pay27, cv_pay33, shapeCast_shapeCast,
    shapeCast_self, dotVP3, ev_transpose, ev_zeros, cv_truncf, ev_matmul_left, ev_addf]
  rfl

theorem cv_secondSums :
    k0_pay35 (F := Ideal) (cv .bf16 q) (k0_pay23 (cv .bf16 q) (k0_pay18 (cv .bf16 q) (cv .bf16 K0)) (cv .bf16 K1)) (k0_pay28 (cv .bf16 q) (cv .bf16 K2)) (cv .bf16 K3)
      = cv .f32 (sumsOf (weight q (lanes 128 K0)) (weight q (lanes 128 K1)) (weight q (lanes 128 K2)) (weight q (lanes 128 K3))) := by
  simp only [k0_pay35, k0_pay23, k0_pay18, k0_pay28, k0_pay12, cv_pay16, cv_pay22, cv_pay27, cv_pay33, cv_zeros, cv_sumCols, cv_addf]
  rfl

end Parts

/-- The quotient of the two sums, after the context's part, turned to one row per query. -/
theorem ev_quotient (q K : ℕ → ℕ → ℝ) (V : ℕ → ℕ → EReal) (Kc : ℕ → ℕ → ℝ) (Vc : ℕ → ℕ → EReal) (o : ℕ) :
    transpose S1024x128 [1, 0] (divf
        (addf (ev .f32 fun e r => ∑ k ∈ Finset.range 256, Vc k e * ((weight q (lanes o Kc) r k : ℝ) : EReal))
          (ev .f32 (partsOf (weight q (lanes o fun i d => K (0 + i) d)) (weight q (lanes o fun i d => K (2048 + i) d)) (weight q (lanes o fun i d => K (4096 + i) d))
            (weight q (lanes o fun i d => K (6144 + i) d)) (fun i d => V (0 + i) d) (fun i d => V (2048 + i) d) (fun i d => V (4096 + i) d) (fun i d => V (6144 + i) d))))
        (broadcastTo S128x1024 (addf (cv .f32 fun _ r => ∑ k ∈ Finset.range 256, weight q (lanes o Kc) r k)
          (cv .f32 (sumsOf (weight q (lanes o fun i d => K (0 + i) d)) (weight q (lanes o fun i d => K (2048 + i) d)) (weight q (lanes o fun i d => K (4096 + i) d))
            (weight q (lanes o fun i d => K (6144 + i) d))))) broadcasts_S1x1024_S128x1024)) transposes_S128x1024_p1_0_S1024x128
      = (ev .f32 (attendE q (lanes o K) V (lanes o Kc) Vc) : FVec Ideal S1024x128 .f32) := by
  have hm : ∀ e r, ∑ k ∈ Finset.range 256, Vc k e * ((weight q (lanes o Kc) r k : ℝ) : EReal)
      + partsOf (weight q (lanes o fun i d => K (0 + i) d)) (weight q (lanes o fun i d => K (2048 + i) d)) (weight q (lanes o fun i d => K (4096 + i) d))
            (weight q (lanes o fun i d => K (6144 + i) d)) (fun i d => V (0 + i) d) (fun i d => V (2048 + i) d) (fun i d => V (4096 + i) d) (fun i d => V (6144 + i) d) e r
      = mixedE q (lanes o K) V (lanes o Kc) Vc r e := fun e r => partsMixedE q (lanes o K) V (lanes o Kc) Vc r e
  have ht : ∀ e r, ∑ k ∈ Finset.range 256, weight q (lanes o Kc) r k
      + sumsOf (weight q (lanes o fun i d => K (0 + i) d)) (weight q (lanes o fun i d => K (2048 + i) d)) (weight q (lanes o fun i d => K (4096 + i) d))
            (weight q (lanes o fun i d => K (6144 + i) d)) e r
      = total q (lanes o K) (lanes o Kc) r := fun e r => partsTotal q (lanes o K) (lanes o Kc) r
  rw [ev_addf, cv_addf, cv_broadcastRow]
  simp only [hm, ht]
  rw [ev_divf _ _ fun i j _ _ => (total_pos q (lanes o K) (lanes o Kc) j).ne', ev_transpose _ _ _ rfl]
  rfl

/-- The block computed without a running maximum is the two heads' maps. -/
theorem safeBlock3_eq (Q K : ℕ → ℕ → ℝ) (V : ℕ → ℕ → EReal) (Kc : ℕ → ℕ → ℝ) (Vc : ℕ → ℕ → EReal) :
    safeBlock (F := Ideal) (cv .bf16 Q) (cv .bf16 K) (ev .bf16 V) (cv .bf16 Kc) (ev .bf16 Vc) = ev .bf16 (pairOut Q K V Kc Vc) := by
  unfold safeBlock safeFrom
  simp only [pay4_eq, ev_chunk, cv_wideChunk, cv_pay2, cv_pay3]
  rw [cv_firstParts, cv_firstSums, cv_secondParts, cv_secondSums]
  simp only [k0_pay10, k0_pay37, k0_pay38, k0_pay40, cv_pay36, cv_pay39, shapeCast_self, dotVPc3, ev_transpose, cv_truncf, ev_matmul_left, cv_sumCols]
  rw [ev_quotient, ev_quotient, ev_sideBySide]
  rfl

/-! ## The form with a running maximum -/

section Step
variable (v : FVec Ideal S1024x128 .bf16) (m l : FVec Ideal S1024x1 .f32) (a : FVec Ideal S1024x128 .f32) (k : Vec Ideal S512x256 .bf16) (w : Vec Ideal S512x128 .bf16)

/-! A step carries for each head what a step of the differential attention carries for a map with that head's keys. -/

theorem firstMax_eq : k0_pay48 v m k = Cert.KernelIdeal.Gen.k0_pay45 v m (extractStridedSlice S512x128 ![0, 0] k slices_S512x256_o0_0_S512x128) := rfl
theorem firstSum_eq : k0_pay51 v m l k = Cert.KernelIdeal.Gen.k0_pay48 v m l (extractStridedSlice S512x128 ![0, 0] k slices_S512x256_o0_0_S512x128) := rfl
theorem firstMix_eq : k0_pay52 v m a k w = Cert.KernelIdeal.Gen.k0_pay49 v m a (extractStridedSlice S512x128 ![0, 0] k slices_S512x256_o0_0_S512x128) w := rfl
theorem secondMax_eq : k0_pay54 v m k = Cert.KernelIdeal.Gen.k0_pay45 v m (extractStridedSlice S512x128 ![0, 128] k slices_S512x256_o0_128_S512x128) := rfl
theorem secondSum_eq : k0_pay57 v m l k = Cert.KernelIdeal.Gen.k0_pay48 v m l (extractStridedSlice S512x128 ![0, 128] k slices_S512x256_o0_128_S512x128) := rfl
theorem secondMix_eq : k0_pay58 v m a k w = Cert.KernelIdeal.Gen.k0_pay49 v m a (extractStridedSlice S512x128 ![0, 128] k slices_S512x256_o0_128_S512x128) w := rfl

end Step

/-- Both heads' sums in what is carried. -/
def HeldBoth (W1 : ℕ → ℝ) (U1 : ℕ → ℕ → EReal) (W2 : ℕ → ℝ) (U2 : ℕ → ℕ → EReal) (a : Carried Ideal) : Prop :=
  Held W1 U1 a.1 a.2.1 a.2.2.1 ∧ Held W2 U2 a.2.2.2.1 a.2.2.2.2.1 a.2.2.2.2.2

theorem heldBoth_start : HeldBoth (fun _ => 0) (fun _ _ => 0) (fun _ => 0) (fun _ _ => 0) onStart := ⟨held_start, held_start⟩

/-- One step over 512 keys, for both heads. -/
theorem heldBoth_step {W1 : ℕ → ℝ} {U1 : ℕ → ℕ → EReal} {W2 : ℕ → ℝ} {U2 : ℕ → ℕ → EReal} {a : Carried Ideal} (h : HeldBoth W1 U1 W2 U2 a) (q1 q2 K : ℕ → ℕ → ℝ) (V : ℕ → ℕ → EReal) :
    HeldBoth (fun i => W1 i + ∑ k ∈ Finset.range 512, weight q1 (lanes 0 K) i k) (fun i e => U1 i e + ∑ k ∈ Finset.range 512, ((weight q1 (lanes 0 K) i k : ℝ) : EReal) * V k e)
      (fun i => W2 i + ∑ k ∈ Finset.range 512, weight q2 (lanes 128 K) i k) (fun i e => U2 i e + ∑ k ∈ Finset.range 512, ((weight q2 (lanes 128 K) i k : ℝ) : EReal) * V k e)
      (onStep (cv .bf16 q1) (cv .bf16 q2) (cv .bf16 K) (ev .bf16 V) a) := by
  obtain ⟨M1, L1, A1, M2, L2, A2⟩ := a
  have h1 := held_step h.1 q1 (lanes 0 K) V
  have h2 := held_step h.2 q2 (lanes 128 K) V
  unfold HeldBoth onStep
  dsimp only at h1 h2 ⊢
  rw [firstMax_eq, firstSum_eq, firstMix_eq, secondMax_eq, secondSum_eq, secondMix_eq, cv_lanes, cv_lanes]
  exact ⟨h1, h2⟩

/-- What is carried before step `n`: the first `512 n` keys. -/
theorem held_state3 (q1 q2 K : ℕ → ℕ → ℝ) (V : ℕ → ℕ → EReal) (n : ℕ) (hn : n ≤ 16) :
    HeldBoth (fun i => ∑ k ∈ Finset.range (512 * n), weight q1 (lanes 0 K) i k) (fun i e => ∑ k ∈ Finset.range (512 * n), ((weight q1 (lanes 0 K) i k : ℝ) : EReal) * V k e)
      (fun i => ∑ k ∈ Finset.range (512 * n), weight q2 (lanes 128 K) i k) (fun i e => ∑ k ∈ Finset.range (512 * n), ((weight q2 (lanes 128 K) i k : ℝ) : EReal) * V k e)
      (onState (cv .bf16 q1) (cv .bf16 q2) (cv .bf16 K) (ev .bf16 V) n) := by
  induction n with
  | zero =>
    rw [onState]
    simp only [Nat.mul_zero, Finset.sum_range_zero]
    exact heldBoth_start
  | succ n ih =>
    have hb : 512 * n + 512 ≤ 8192 := by omega
    have h := heldBoth_step (ih (by omega)) q1 q2 (fun k d => K (512 * n + k) d) fun k d => V (512 * n + k) d
    rw [onState, dif_pos hb, cv_wideRows, ev_rows512]
    simp only [show 512 * (n + 1) = 512 * n + 512 by ring, Finset.sum_range_add]
    exact h

/-- The last part takes the context and divides, as each map of the differential attention does. -/
theorem onFinish3_eq (v4 v5 : FVec Ideal S1024x128 .bf16) (a : Carried Ideal) (kc : Vec Ideal S256x256 .bf16) (vc : Vec Ideal S256x128 .bf16) :
    onFinish v4 v5 a kc vc
      = sideBySide
        (divf (Cert.KernelIdeal.Gen.k0_pay61 v4 a.1 a.2.2.1 (extractStridedSlice S256x128 ![0, 0] kc slices_S256x256_o0_0_S256x128) vc)
          (broadcastTo S1024x128 (Cert.KernelIdeal.Gen.k0_pay60 v4 a.1 a.2.1 (extractStridedSlice S256x128 ![0, 0] kc slices_S256x256_o0_0_S256x128)) broadcasts_S1024x1_S1024x128))
        (divf (Cert.KernelIdeal.Gen.k0_pay61 v5 a.2.2.2.1 a.2.2.2.2.2 (extractStridedSlice S256x128 ![0, 128] kc slices_S256x256_o0_128_S256x128) vc)
          (broadcastTo S1024x128 (Cert.KernelIdeal.Gen.k0_pay60 v5 a.2.2.2.1 a.2.2.2.2.1 (extractStridedSlice S256x128 ![0, 128] kc slices_S256x256_o0_128_S256x128)) broadcasts_S1024x1_S1024x128)) := rfl

/-- The block computed with a running maximum is the two heads' maps. -/
theorem onlineBlock3_eq (Q K : ℕ → ℕ → ℝ) (V : ℕ → ℕ → EReal) (Kc : ℕ → ℕ → ℝ) (Vc : ℕ → ℕ → EReal) :
    onlineBlock (F := Ideal) (cv .bf16 Q) (cv .bf16 K) (ev .bf16 V) (cv .bf16 Kc) (ev .bf16 Vc) = ev .bf16 (pairOut Q K V Kc Vc) := by
  unfold onlineBlock
  rw [cv_pay2, cv_pay3, onFinish3_eq, cv_lanes, cv_lanes]
  obtain ⟨h1, h2⟩ := held_state3 (lanes 0 Q) (lanes 128 Q) K V 16 le_rfl
  rw [held_quotient (held_context h1 (lanes 0 Q) (lanes 0 Kc) Vc) fun i => total_pos (lanes 0 Q) (lanes 0 K) (lanes 0 Kc) i,
    held_quotient (held_context h2 (lanes 128 Q) (lanes 128 Kc) Vc) fun i => total_pos (lanes 128 Q) (lanes 128 K) (lanes 128 Kc) i]
  exact ev_sideBySide _ _

/-- Either form, whatever the flag. -/
theorem attnBlock3_eq (Q K : ℕ → ℕ → ℝ) (V : ℕ → ℕ → EReal) (Kc : ℕ → ℕ → ℝ) (Vc : ℕ → ℕ → EReal) (flag : BitVec 32) :
    attnBlock (F := Ideal) (cv .bf16 Q) (cv .bf16 K) (ev .bf16 V) (cv .bf16 Kc) (ev .bf16 Vc) flag = ev .bf16 (pairOut Q K V Kc Vc) := by
  unfold attnBlock
  split
  · exact safeBlock3_eq Q K V Kc Vc
  · exact onlineBlock3_eq Q K V Kc Vc

end Cert.Kernel3Ideal.Hand

end
-- ==== Proof.R3I.Value.lean ====
/- The reference of the latent attention's heads, from real queries and keys and any values: the values weighted by two to the power of each score over the
   sum of these powers, for each query, head and column. -/
module

public import proofs.«01_k».proof.Proof.Gen.Reference3Ideal.Read
public import proofs.«01_k».proof.Proof.RI.Maps

@[expose] public section

set_option maxRecDepth 16384

noncomputable section

namespace Cert.Reference3Ideal.Hand

open Cert.Reference3Ideal Cert.Reference3Ideal.Gen Cert.Reference3Ideal.Read Idealize.ShloMosaic Idealize.ShloMosaic.ValueIdx
open Cert.KernelIdeal.Hand (coe_sum_fin fold_max_real ofBits_negInf)
open Cert.ReferenceIdeal.Hand (keyRow)
open scoped BigOperators

variable (x0 : (⟨S16896x4096, .bf16⟩ : BufTy).Contents (Elt Ideal)) (E : ℕ → ℕ → EReal) (X : ℕ → ℕ → ℝ)

/-- The entries of the first argument are `E`. -/
def Reads : Prop := ∀ y : S16896x4096.Idx, x0 y = E (y 0).val (y 1).val

/-- The queries and keys are the real numbers `X`: the first 2048 columns. -/
def RealScores : Prop := ∀ i j, j < 2048 → E i j = ((X i j : ℝ) : EReal)

variable {x0 E X} (hE : Reads x0 E)
include hE

theorem read_v2 (i : S2x8192x4096.Idx) :
    val_main_v2 (F := Ideal) x0 i = E ((i 0).val * 8192 + (i 1).val) (i 2).val := by
  have h : (i 2).val < 4096 := (i 2).isLt
  rw [val_main_v2_apply, val_main_v1_apply, val_main_v0_apply]
  generalize hn : ((i 0).val * 8192 + (i 1).val) * 4096 + (i 2).val = n
  refine (hE _).trans ?_
  show E ((((i 0).val * 8192 + (i 1).val) * 4096 + (i 2).val) / 4096) ((((i 0).val * 8192 + (i 1).val) * 4096 + (i 2).val) % 4096) = _
  rw [hn, show n / 4096 = (i 0).val * 8192 + (i 1).val by omega, show n % 4096 = (i 2).val by omega]

theorem read_v4 (i : S2x256x4096.Idx) :
    val_main_v4 (F := Ideal) x0 i = E (16384 + ((i 0).val * 256 + (i 1).val)) (i 2).val := by
  have h : (i 2).val < 4096 := (i 2).isLt
  rw [val_main_v4_apply, val_main_v3_apply, val_main_v0_apply]
  generalize hn : ((i 0).val * 256 + (i 1).val) * 4096 + (i 2).val = n
  refine (hE _).trans ?_
  show E (16384 + (((i 0).val * 256 + (i 1).val) * 4096 + (i 2).val) / 4096) ((((i 0).val * 256 + (i 1).val) * 4096 + (i 2).val) % 4096) = _
  rw [hn, show n / 4096 = (i 0).val * 256 + (i 1).val by omega, show n % 4096 = (i 2).val by omega]

/-- Latent tokens, then context tokens. -/
theorem read_v5 (i : S2x8448x4096.Idx) :
    val_main_v5 (F := Ideal) x0 i = E (keyRow (i 0).val (i 1).val) (i 2).val := by
  have h0 : (i 0).val < 2 := (i 0).isLt
  have h1 : (i 1).val < 8448 := (i 1).isLt
  have h2 : (i 2).val < 4096 := (i 2).isLt
  unfold val_main_v5 keyRow
  by_cases hk : (i 1).val < 8192
  · rw [if_pos hk]
    exact (concatenate_pair_apply_left 1 (val_main_v2 (F := Ideal) x0) (val_main_v4 (F := Ideal) x0) _ i rfl
      (ix3 (⟨(i 0).val, h0⟩ : Fin 2) (⟨(i 1).val, hk⟩ : Fin 8192) (⟨(i 2).val, h2⟩ : Fin 4096))
      (fun b : Fin 3 => match b with | 0 => rfl | 1 => rfl | 2 => rfl)).trans (read_v2 hE _)
  · rw [if_neg hk]
    have hk' : (i 1).val - 8192 < 256 := by omega
    let y : S2x256x4096.Idx := ix3 (⟨(i 0).val, h0⟩ : Fin 2) (⟨(i 1).val - 8192, hk'⟩ : Fin 256) (⟨(i 2).val, h2⟩ : Fin 4096)
    have hy : ∀ b : Fin 3, b ≠ 1 → (y b).val = (i b).val := by
      intro b hb
      rcases b with ⟨_ | _ | _ | n, hn⟩
      · rfl
      · exact absurd rfl hb
      · rfl
      · omega
    exact (concatenate_pair_apply_right 1 (val_main_v2 (F := Ideal) x0) (val_main_v4 (F := Ideal) x0) _ i rfl rfl y
      (fun b hb => hy b hb) (show (i 1).val - 8192 + 8192 = (i 1).val by omega)).trans (read_v4 hE _)

/-- The queries. -/
theorem read_v7 (i : S2x8192x8x128.Idx) :
    val_main_v7 (F := Ideal) x0 i = E ((i 0).val * 8192 + (i 1).val) ((i 2).val * 128 + (i 3).val) := by
  have h1 : (i 1).val < 8192 := (i 1).isLt
  have h2 : (i 2).val < 8 := (i 2).isLt
  have h3 : (i 3).val < 128 := (i 3).isLt
  rw [val_main_v7_apply, val_main_v6_apply]
  generalize hn : (((i 0).val * 8192 + (i 1).val) * 8 + (i 2).val) * 128 + (i 3).val = n
  refine (read_v2 hE _).trans ?_
  show E (((((i 0).val * 8192 + (i 1).val) * 8 + (i 2).val) * 128 + (i 3).val) / 8388608 * 8192
    + ((((i 0).val * 8192 + (i 1).val) * 8 + (i 2).val) * 128 + (i 3).val) / 1024 % 8192)
    (((((i 0).val * 8192 + (i 1).val) * 8 + (i 2).val) * 128 + (i 3).val) % 1024) = _
  rw [hn, show n / 8388608 * 8192 + n / 1024 % 8192 = (i 0).val * 8192 + (i 1).val by omega,
    show n % 1024 = (i 2).val * 128 + (i 3).val by omega]

/-- The keys. -/
theorem read_v9 (i : S2x8448x8x128.Idx) :
    val_main_v9 (F := Ideal) x0 i = E (keyRow (i 0).val (i 1).val) (1024 + ((i 2).val * 128 + (i 3).val)) := by
  have h1 : (i 1).val < 8448 := (i 1).isLt
  have h2 : (i 2).val < 8 := (i 2).isLt
  have h3 : (i 3).val < 128 := (i 3).isLt
  rw [val_main_v9_apply, val_main_v8_apply]
  generalize hn : (((i 0).val * 8448 + (i 1).val) * 8 + (i 2).val) * 128 + (i 3).val = n
  refine (read_v5 hE _).trans ?_
  show E (keyRow (((((i 0).val * 8448 + (i 1).val) * 8 + (i 2).val) * 128 + (i 3).val) / 8650752)
    (((((i 0).val * 8448 + (i 1).val) * 8 + (i 2).val) * 128 + (i 3).val) / 1024 % 8448))
    (1024 + ((((i 0).val * 8448 + (i 1).val) * 8 + (i 2).val) * 128 + (i 3).val) % 1024) = _
  rw [hn, show n / 8650752 = (i 0).val by omega, show n / 1024 % 8448 = (i 1).val by omega,
    show n % 1024 = (i 2).val * 128 + (i 3).val by omega]

/-- The values. -/
theorem read_v11 (i : S2x8448x8x64.Idx) :
    val_main_v11 (F := Ideal) x0 i = E (keyRow (i 0).val (i 1).val) (2048 + ((i 2).val * 64 + (i 3).val)) := by
  have h1 : (i 1).val < 8448 := (i 1).isLt
  have h2 : (i 2).val < 8 := (i 2).isLt
  have h3 : (i 3).val < 64 := (i 3).isLt
  rw [val_main_v11_apply, val_main_v10_apply]
  generalize hn : (((i 0).val * 8448 + (i 1).val) * 8 + (i 2).val) * 64 + (i 3).val = n
  refine (read_v5 hE _).trans ?_
  show E (keyRow (((((i 0).val * 8448 + (i 1).val) * 8 + (i 2).val) * 64 + (i 3).val) / 4325376)
    (((((i 0).val * 8448 + (i 1).val) * 8 + (i 2).val) * 64 + (i 3).val) / 512 % 8448))
    (2048 + ((((i 0).val * 8448 + (i 1).val) * 8 + (i 2).val) * 64 + (i 3).val) % 512) = _
  rw [hn, show n / 4325376 = (i 0).val by omega, show n / 512 % 8448 = (i 1).val by omega,
    show n % 512 = (i 2).val * 64 + (i 3).val by omega]

omit hE

/-- The score of key `k` for query `q`: image `b`, head `h`. -/
def headScore (X : ℕ → ℕ → ℝ) (b h q k : ℕ) : ℝ :=
  ∑ d ∈ Finset.range 128, X (b * 8192 + q) (h * 128 + d) * X (keyRow b k) (1024 + (h * 128 + d))

/-- The sum of the weights over all 8448 keys. -/
def headTotal (X : ℕ → ℕ → ℝ) (b h q : ℕ) : ℝ := ∑ k ∈ Finset.range 8448, (2 : ℝ) ^ headScore X b h q k

theorem headTotal_pos (X : ℕ → ℕ → ℝ) (b h q : ℕ) : 0 < headTotal X b h q :=
  Finset.sum_pos (fun _ _ => Real.rpow_pos_of_pos (by norm_num) _) ⟨0, by simp⟩

/-- Column `e` of head `h` for query `q`. -/
def headMixed (E : ℕ → ℕ → EReal) (X : ℕ → ℕ → ℝ) (b h q e : ℕ) : EReal :=
  ∑ k ∈ Finset.range 8448, E (keyRow b k) (2048 + (h * 64 + e)) * (((2 : ℝ) ^ headScore X b h q k / headTotal X b h q : ℝ) : EReal)

/-- The logarithm of two is the one the differential attention's reference computes. -/
theorem read_v15 (i : S2x8x8192x8448.Idx) : val_main_v15 (F := Ideal) i = ((Real.log 2 : ℝ) : EReal) := by
  have e := Cert.ReferenceIdeal.Hand.read_v31 fun a => ⟨0, match a with | 0 => by decide | 1 => by decide | 2 => by decide | 3 => by decide | 4 => by decide⟩
  rw [Cert.ReferenceIdeal.Read.val_main_v31_apply, Cert.ReferenceIdeal.Read.val_main_v30_apply, Cert.ReferenceIdeal.Read.val_main_v29_apply,
    Cert.ReferenceIdeal.Read.val_main_cst_2_apply] at e
  rw [val_main_v15_apply, val_main_v14_apply, val_main_v13_apply, val_main_cst_apply]
  exact e

variable (hX : RealScores E X)
include hE hX

theorem real_v7 (i : S2x8192x8x128.Idx) :
    val_main_v7 (F := Ideal) x0 i = ((X ((i 0).val * 8192 + (i 1).val) ((i 2).val * 128 + (i 3).val) : ℝ) : EReal) := by
  have h2 : (i 2).val < 8 := (i 2).isLt
  have h3 : (i 3).val < 128 := (i 3).isLt
  rw [read_v7 hE, hX _ _ (by omega)]

theorem real_v9 (i : S2x8448x8x128.Idx) :
    val_main_v9 (F := Ideal) x0 i = ((X (keyRow (i 0).val (i 1).val) (1024 + ((i 2).val * 128 + (i 3).val)) : ℝ) : EReal) := by
  have h2 : (i 2).val < 8 := (i 2).isLt
  have h3 : (i 3).val < 128 := (i 3).isLt
  rw [read_v9 hE, hX _ _ (by omega)]

theorem read_v16 (i : S2x8x8192x8448.Idx) :
    val_main_v16 (F := Ideal) x0 i = ((headScore X (i 0).val (i 1).val (i 2).val (i 3).val * Real.log 2 : ℝ) : EReal) := by
  have h12 : val_main_v12 (F := Ideal) x0 i = ((headScore X (i 0).val (i 1).val (i 2).val (i 3).val : ℝ) : EReal) := by
    rw [val_main_v12_apply]
    refine (Finset.sum_congr rfl fun k _ => ?_).trans (coe_sum_fin 128 fun d =>
      X ((i 0).val * 8192 + (i 2).val) ((i 1).val * 128 + d) * X (keyRow (i 0).val (i 3).val) (1024 + ((i 1).val * 128 + d)))
    rw [real_v7 hE hX, real_v9 hE hX, ← EReal.coe_mul]
  rw [val_main_v16_apply, h12, read_v15]
  exact (EReal.coe_mul _ _).symm

/-- The largest score of a query is a real number. -/
theorem read_v19 (i : S2x8x8192.Idx) : ∃ r : ℝ, val_main_v19 (F := Ideal) x0 i = (r : EReal) := by
  haveI : Nonempty (Fin 8448) := ⟨0⟩
  have hred : S2x8x8192x8448.Reduces [3] S2x8x8192 := by decide
  obtain ⟨r, hr⟩ := fold_max_real (Finset.univ : Finset (Fin 8448)) Finset.univ_nonempty fun k =>
    headScore X (hred.lift i k 0).val (hred.lift i k 1).val (hred.lift i k 2).val (hred.lift i k 3).val * Real.log 2
  refine ⟨r, ?_⟩
  have h17 : val_main_v17 (F := Ideal) x0 i = (r : EReal) := by
    unfold val_main_v17 val_main_cst_0
    refine (congrFun (hostReduce_maximumf_eq_multiReduction (F := Ideal) (φ := .f32) (val_main_v16 (F := Ideal) x0) 0xFF800000#32 reducesTo_S2x8x8192x8448_S2x8x8192_d3 h_S_
      hred (.inl rfl) rfl) i).trans ((Ideal.multiReduction_maximumf_single _ _ hred _ _ i).trans ?_)
    rw [show (FloatOps.ofBits FTy.f32 0xFF800000#32 : Ideal .f32) = (⊥ : EReal) from ofBits_negInf]
    exact (congrArg (Finset.fold max ⊥ · Finset.univ) (funext fun k => read_v16 hE hX _)).trans hr
  rw [val_main_v19_apply, val_main_v18_apply, val_main_cst_1_apply, h17,
    show (FloatOps.ofBits FTy.f32 0xFF800000#32 : Ideal .f32) = (⊥ : EReal) from ofBits_negInf]
  exact max_eq_right bot_le

/-- A weight after division. -/
theorem read_v27 (i : S2x8x8192x8448.Idx) :
    val_main_v27 (F := Ideal) x0 i
      = (((2 : ℝ) ^ headScore X (i 0).val (i 1).val (i 2).val (i 3).val / headTotal X (i 0).val (i 1).val (i 2).val : ℝ) : EReal) := by
  choose g hg using read_v19 hE hX
  have h23 : ∀ j : S2x8x8192x8448.Idx, val_main_v23 (F := Ideal) x0 j
      = (((2 : ℝ) ^ headScore X (j 0).val (j 1).val (j 2).val (j 3).val * Real.exp (-g (idx_main_v20 (idx_main_v21 j))) : ℝ) : EReal) := by
    intro j
    rw [val_main_v23_apply, val_main_v22_apply, read_v16 hE hX, val_main_v21_apply, val_main_v20_apply, hg, Ideal.hostUnary_exp_def]
    refine (Ideal.exp_coe _).trans (congrArg _ ?_)
    show Real.exp (_ + -g _) = _
    rw [Real.exp_add, Real.rpow_def_of_pos (by norm_num), mul_comm (Real.log 2)]
  have h26 : val_main_v26 (F := Ideal) x0 i
      = ((headTotal X (i 0).val (i 1).val (i 2).val * Real.exp (-g (idx_main_v20 (idx_main_v21 i))) : ℝ) : EReal) := by
    rw [val_main_v26_apply, val_main_v25_apply, val_main_v24_apply, val_main_cst_2_apply,
      show (FloatOps.ofBits FTy.f32 0x00000000#32 : Ideal .f32) = (0 : EReal) from Ideal.ofBits_zero_f32, zero_add]
    refine (Finset.sum_congr rfl fun k _ => h23 _).trans ?_
    refine (coe_sum_fin 8448 fun k => (2 : ℝ) ^ headScore X (i 0).val (i 1).val (i 2).val k
      * Real.exp (-g (idx_main_v20 (idx_main_v21 i)))).trans (congrArg _ ?_)
    rw [← Finset.sum_mul, headTotal]
  have hne : headTotal X (i 0).val (i 1).val (i 2).val * Real.exp (-g (idx_main_v20 (idx_main_v21 i))) ≠ 0 :=
    (mul_pos (headTotal_pos X _ _ _) (Real.exp_pos _)).ne'
  rw [val_main_v27_apply, h23, h26, Ideal.hostDivf_def, Ideal.div_coe hne, ← EReal.coe_mul, mul_one_div]
  exact congrArg _ (mul_div_mul_right _ _ (Real.exp_pos _).ne')

/-- The reference's result at an index: eight heads of 64 columns. -/
theorem value (i : S16384x512.Idx) :
    val_main_v31 (F := Ideal) x0 i = headMixed E X ((i 0).val / 8192) ((i 1).val / 64) ((i 0).val % 8192) ((i 1).val % 64) := by
  have h0 : (i 0).val < 16384 := (i 0).isLt
  have h1 : (i 1).val < 512 := (i 1).isLt
  rw [val_main_v31_apply, val_main_v30_apply, val_main_v29_apply, val_main_v28_apply]
  refine (Ideal.truncf_def (φ := .f32) _ .bf16 bitsLt_bf16_f32).trans ?_
  refine (Finset.sum_congr rfl fun k _ => ?_).trans (Fin.sum_univ_eq_sum_range (fun k =>
    E (keyRow ((i 0).val / 8192) k) (2048 + ((i 1).val / 64 * 64 + (i 1).val % 64))
      * (((2 : ℝ) ^ headScore X ((i 0).val / 8192) ((i 1).val / 64) ((i 0).val % 8192) k / headTotal X ((i 0).val / 8192) ((i 1).val / 64) ((i 0).val % 8192) : ℝ) : EReal))
    8448)
  rw [read_v11 hE, read_v27 hE hX]
  show E (keyRow (((i 0).val * 512 + (i 1).val) / 4194304) k.val) (2048 + (((i 0).val * 512 + (i 1).val) / 64 % 8 * 64 + ((i 0).val * 512 + (i 1).val) % 64))
    * (((2 : ℝ) ^ headScore X (((i 0).val * 512 + (i 1).val) / 4194304) (((i 0).val * 512 + (i 1).val) / 64 % 8) (((i 0).val * 512 + (i 1).val) / 512 % 8192) k.val
      / headTotal X (((i 0).val * 512 + (i 1).val) / 4194304) (((i 0).val * 512 + (i 1).val) / 64 % 8) (((i 0).val * 512 + (i 1).val) / 512 % 8192) : ℝ) : EReal) = _
  rw [show ((i 0).val * 512 + (i 1).val) / 4194304 = (i 0).val / 8192 by omega, show ((i 0).val * 512 + (i 1).val) / 64 % 8 = (i 1).val / 64 by omega,
    show ((i 0).val * 512 + (i 1).val) % 64 = (i 1).val % 64 by omega, show ((i 0).val * 512 + (i 1).val) / 512 % 8192 = (i 0).val % 8192 by omega]

end Cert.Reference3Ideal.Hand

end
-- ==== Proof.K3I.Result.lean ====
/- The latent attention's result at an index, from the entries of its first argument: the reference's value. -/
module

public import proofs.«01_k».proof.Proof.K3I.Launch
public import proofs.«01_k».proof.Proof.K3I.Maps
public import proofs.«01_k».proof.Proof.Agree
public import proofs.«01_k».proof.Proof.R3I.Value

@[expose] public section

set_option maxRecDepth 16384

noncomputable section

namespace Cert.Kernel3Ideal.Hand

open Idealize.ShloMosaic Idealize.ShloMosaic.ValueIdx
open Cert.Kernel3Ideal Cert.Kernel3Ideal.Gen
open Cert.KernelIdeal.Hand (cv ev weight score attendE)
open Cert.ReferenceIdeal.Hand (keyRow)
open Cert.Reference3Ideal.Hand (Reads RealScores headScore headTotal headMixed)
open Cert.Agree (attendE_allKeys keyRow_latent keyRow_context)
open scoped BigOperators

section Agree
variable (E : ℕ → ℕ → EReal) (X : ℕ → ℕ → ℝ) (b j p : ℕ)

/-- The queries of block `p` of image `b`, pair `j` of heads. -/
def queries : ℕ → ℕ → ℝ := fun r d => X (1024 * (b * 8 + p) + r) (256 * j + d)
/-- The keys of image `b`, pair `j` of heads. -/
def keys : ℕ → ℕ → ℝ := fun k d => X (8192 * b + k) (256 * (4 + j) + d)
/-- The values of image `b`, pair `j` of heads. -/
def values : ℕ → ℕ → EReal := fun k e => E (8192 * b + k) (128 * (16 + j) + e)
/-- The keys of the context of image `b`, pair `j` of heads. -/
def ctxKeys : ℕ → ℕ → ℝ := fun k d => X (256 * (64 + b) + k) (256 * (4 + j) + d)
/-- The values of the context of image `b`, pair `j` of heads. -/
def ctxValues : ℕ → ℕ → EReal := fun k e => E (256 * (64 + b) + k) (128 * (16 + j) + e)

/-- The weight of a key for a query, head `s` of the pair. -/
theorem weight_head (s r : ℕ) {k : ℕ} (hk : k < 8192) :
    weight (lanes (128 * s) (queries X b j p)) (lanes (128 * s) (keys X b j)) r k = (2 : ℝ) ^ headScore X b (2 * j + s) (1024 * p + r) k := by
  rw [weight, score, headScore, keyRow_latent b hk]
  refine congrArg _ (Finset.sum_congr rfl fun d _ => ?_)
  rw [lanes, lanes, queries, keys, show 1024 * (b * 8 + p) + r = b * 8192 + (1024 * p + r) by omega,
    show 256 * j + (128 * s + d) = (2 * j + s) * 128 + d by omega, show 256 * (4 + j) + (128 * s + d) = 1024 + ((2 * j + s) * 128 + d) by omega]

theorem weight_head_context (s r k : ℕ) :
    weight (lanes (128 * s) (queries X b j p)) (lanes (128 * s) (ctxKeys X b j)) r k = (2 : ℝ) ^ headScore X b (2 * j + s) (1024 * p + r) (8192 + k) := by
  rw [weight, score, headScore, keyRow_context b k]
  refine congrArg _ (Finset.sum_congr rfl fun d _ => ?_)
  rw [lanes, lanes, queries, ctxKeys, show 1024 * (b * 8 + p) + r = b * 8192 + (1024 * p + r) by omega,
    show 256 * j + (128 * s + d) = (2 * j + s) * 128 + d by omega, show 256 * (4 + j) + (128 * s + d) = 1024 + ((2 * j + s) * 128 + d) by omega]

/-- Head `s` of the pair, at its column `e`. -/
theorem head_agrees (s r e : ℕ) :
    attendE (lanes (128 * s) (queries X b j p)) (lanes (128 * s) (keys X b j)) (values E b j) (lanes (128 * s) (ctxKeys X b j)) (ctxValues E b j) r (64 * s + e)
      = headMixed E X b (2 * j + s) (1024 * p + r) e :=
  attendE_allKeys _ _ _ _ _ r (64 * s + e) (fun k => (2 : ℝ) ^ headScore X b (2 * j + s) (1024 * p + r) k)
    (fun k => E (keyRow b k) (2048 + ((2 * j + s) * 64 + e)))
    (fun k hk => weight_head X b j p s r hk) (fun k _ => weight_head_context X b j p s r k)
    (fun k hk => by rw [values, keyRow_latent b hk, show 128 * (16 + j) + (64 * s + e) = 2048 + ((2 * j + s) * 64 + e) by omega])
    (fun k _ => by rw [ctxValues, keyRow_context b k, show 128 * (16 + j) + (64 * s + e) = 2048 + ((2 * j + s) * 64 + e) by omega])

/-- The block of the pair is the reference's two heads side by side. -/
theorem pair_agrees (r e : ℕ) (he : e < 128) :
    pairOut (queries X b j p) (keys X b j) (values E b j) (ctxKeys X b j) (ctxValues E b j) r e
      = headMixed E X b (2 * j + e / 64) (1024 * p + r) (e % 64) := by
  rw [pairOut, joined]
  by_cases h : e < 64
  · rw [if_pos h, show e / 64 = 0 by omega, ← head_agrees, show 64 * 0 + e % 64 = e by omega]
  · rw [if_neg h, show e / 64 = 1 by omega, ← head_agrees, show 64 * 1 + e % 64 = e by omega]

end Agree

variable {E : ℕ → ℕ → EReal} {X : ℕ → ℕ → ℝ}

/-- A tile of the first argument is a matrix of its entries, -/
theorem tile_entries {x : FVec Ideal S16896x4096 .bf16} (hE : Reads x E) (n w r c : ℕ) (hr : r + n ≤ 16896) (hc : c + w ≤ 4096) :
    tile x n w r c hr hc = (ev .bf16 fun i j => E (r + i) (c + j) : FVec Ideal (⟨2, ![n, w]⟩ : Shape) .bf16) :=
  funext fun y => hE _

/-- and one of the queries or keys a matrix of real numbers. -/
theorem tile_reals {x : FVec Ideal S16896x4096 .bf16} (hE : Reads x E) (hX : RealScores E X) (n w r c : ℕ) (hr : r + n ≤ 16896) (hc : c + w ≤ 4096)
    (h : c + w ≤ 2048) : tile x n w r c hr hc = (cv .bf16 fun i j => X (r + i) (c + j) : FVec Ideal (⟨2, ![n, w]⟩ : Shape) .bf16) :=
  funext fun y => (hE _).trans (hX _ _ (show c + (y 1).val < 2048 by have := idx2_lt1 y; omega))

variable (m : (ℓ : Loc nD τ sig) → Buf (Elt Ideal) ℓ) (c : Dev nD)

/-- The attention block of a point, at an index. -/
theorem pointOut_apply (hE : Reads (m ((c.tc : Thread nD τ).loc main_arg0)) E) (hX : RealScores E X) (t : Fin cfg0.N) (y : S1024x128.Idx) :
    pointOut m c t y = headMixed E X (t.val / 32) (2 * (t.val / 8 % 4) + (y 1).val / 64) (1024 * (t.val % 8) + (y 0).val) ((y 1).val % 64) := by
  have ht := lt64 t
  have b0 : (X0_0 m c t : FVec Ideal S1024x256 .bf16) = cv .bf16 (queries X (t.val / 32) (t.val / 8 % 4) (t.val % 8)) :=
    (block0 m c t).trans (tile_reals hE hX _ _ _ _ _ _ (show 256 * (t.val / 8 % 4) + 256 ≤ 2048 by omega))
  have b1 : (X0_1 m c t : FVec Ideal S8192x256 .bf16) = cv .bf16 (keys X (t.val / 32) (t.val / 8 % 4)) :=
    (block1 m c t).trans (tile_reals hE hX _ _ _ _ _ _ (show 256 * (4 + t.val / 8 % 4) + 256 ≤ 2048 by omega))
  have b2 : (X0_2 m c t : FVec Ideal S8192x128 .bf16) = ev .bf16 (values E (t.val / 32) (t.val / 8 % 4)) :=
    (block2 m c t).trans (tile_entries hE _ _ _ _ _ _)
  have b3 : (iblk m c 3 t : FVec Ideal S256x256 .bf16) = cv .bf16 (ctxKeys X (t.val / 32) (t.val / 8 % 4)) :=
    (block3 m c t).trans (tile_reals hE hX _ _ _ _ _ _ (show 256 * (4 + t.val / 8 % 4) + 256 ≤ 2048 by omega))
  have b4 : (iblk m c 4 t : FVec Ideal S256x128 .bf16) = ev .bf16 (ctxValues E (t.val / 32) (t.val / 8 % 4)) :=
    (block4 m c t).trans (tile_entries hE _ _ _ _ _ _)
  have e := congrFun (attnBlock3_eq (queries X (t.val / 32) (t.val / 8 % 4) (t.val % 8)) (keys X (t.val / 32) (t.val / 8 % 4))
    (values E (t.val / 32) (t.val / 8 % 4)) (ctxKeys X (t.val / 32) (t.val / 8 % 4)) (ctxValues E (t.val / 32) (t.val / 8 % 4)) (flag m c t)) y
  rw [← pair_agrees E X _ _ _ _ _ (idx2_lt1 y)]
  refine Eq.trans ?_ e
  unfold pointOut
  exact congrFun (congrFun (congr (congr (congr (congr (congrArg _ b0) b1) b2) b3) b4) (flag m c t)) y

/-- The kernel's result at an index. -/
theorem result_apply (hE : Reads (m ((c.tc : Thread nD τ).loc main_arg0)) E) (hX : RealScores E X) (i : S16384x512.Idx) :
    result m c i = headMixed E X ((i 0).val / 8192) ((i 1).val / 64) ((i 0).val % 8192) ((i 1).val % 64) := by
  have h0 : (i 0).val < 16384 := (i 0).isLt
  have h1 : (i 1).val < 512 := (i 1).isLt
  refine (pointOut_apply m c hE hX (ptOf i) (inBlk i)).trans ?_
  have ev : (ptOf i).val = (i 0).val / 8192 * 32 + (i 1).val / 128 * 8 + (i 0).val % 8192 / 1024 := rfl
  have e0 : ((inBlk i) 0).val = (i 0).val % 1024 := rfl
  have e1 : ((inBlk i) 1).val = (i 1).val % 128 := rfl
  rw [show (ptOf i).val / 32 = (i 0).val / 8192 by omega, show 2 * ((ptOf i).val / 8 % 4) + ((inBlk i) 1).val / 64 = (i 1).val / 64 by omega,
    show 1024 * ((ptOf i).val % 8) + ((inBlk i) 0).val = (i 0).val % 8192 by omega, show ((inBlk i) 1).val % 64 = (i 1).val % 64 by omega]

end Cert.Kernel3Ideal.Hand

end
-- ==== Proof.R3I.Finite.lean ====
/- The precondition of the latent attention, read: the queries and keys are real numbers. -/
module

public import proofs.«01_k».proof.Proof.Gen.Pre_finite3
public import proofs.«01_k».proof.Proof.Finite
public import proofs.«01_k».proof.Proof.R3I.Value

@[expose] public section

set_option maxRecDepth 16384

noncomputable section

namespace Cert.Reference3Ideal.Hand

open Idealize.ShloMosaic Idealize.ShloMosaic.ValueIdx
open Cert.Agree (real_of_abs_lt entries entries_apply)

/-- The entries of a matrix of extended reals; zero outside it. -/
def allEntries {a b : ℕ} (x : (⟨2, ![a, b]⟩ : Shape).Idx → EReal) : ℕ → ℕ → EReal := fun i j =>
  if h : i < a ∧ j < b then x (ix2 ⟨i, h.1⟩ ⟨j, h.2⟩) else 0

theorem reads_allEntries (x0 : FVec Ideal Cert.Pre_finite3.S16896x4096 .bf16) : Reads x0 (allEntries x0) := by
  intro y
  unfold allEntries
  rw [dif_pos ⟨idx2_lt0 y, idx2_lt1 y⟩]
  exact congrArg x0 (eq_ix2 y)

theorem real_of_finite (x0 : FVec Ideal Cert.Pre_finite3.S16896x4096 .bf16) (x1 : IVec Cert.Pre_finite3.S1 32)
    (h : Cert.Pre_finite3.fn (F := Ideal) x0 x1 = fun _ => 1#1) : RealScores (allEntries x0) (entries x0) := by
  intro i j hj
  unfold allEntries entries
  by_cases hi : i < 16896
  · rw [dif_pos ⟨hi, by omega⟩, dif_pos ⟨hi, by omega⟩]
    have e := Host.reduce_andi_all _ _ _ _ _ (congrFun h fun d => d.elim0) (ix2 (⟨i, hi⟩ : Fin 16896) (⟨j, hj⟩ : Fin 2048))
    have ey : x0 (fun d => ⟨(![0, 0] : Fin 2 → ℕ) d + ((ix2 (⟨i, hi⟩ : Fin 16896) (⟨j, hj⟩ : Fin 2048)) d).val, by
        rcases d with ⟨_ | _ | n, hd⟩
        · show 0 + i < 16896; omega
        · show 0 + j < 4096; omega
        · exact absurd (show n + 2 < 2 from hd) (by omega)⟩) = x0 (ix2 ⟨i, hi⟩ ⟨j, by omega⟩) := congrArg x0 (funext fun d : Fin 2 => match d with
      | 0 => Fin.ext (Nat.zero_add _)
      | 1 => Fin.ext (Nat.zero_add _))
    refine real_of_abs_lt _ ?_
    rw [← ey]
    exact e
  · rw [dif_neg fun e => hi e.1, dif_neg fun e => hi e.1]
    rfl

end Cert.Reference3Ideal.Hand

end
-- ==== Proof.Post.Pick.lean ====
/- The choice of a block by the grid index: the latent rows' block at the first 32 points, the context's at the last. -/
module

public import proofs.«01_k».proof.Proof.Post.Spec

@[expose] public section

noncomputable section

namespace Cert.Post

open Idealize.ShloMosaic Idealize.ShloMosaic.ValueIdx

/-- The latent rows at the first 32 points, the context's at the last. -/
def pick {α : Type} (n : ℕ) (x y : α) : α := Scalar.select (Scalar.cmpi .slt (BitVec.ofNat 32 n) 32#32) x y

theorem pick_eq {α : Type} {n : ℕ} (hn : n < 33) (x y : α) : pick n x y = if n < 32 then x else y := by
  have h : ∀ n : Fin 33, Scalar.cmpi .slt (BitVec.ofNat 32 n.val) 32#32 = if n.val < 32 then 1#1 else 0#1 := by decide
  unfold pick
  rw [h ⟨n, hn⟩]
  show Scalar.select (if n < 32 then 1#1 else 0#1) x y = _
  split
  · exact select_one x y
  · exact select_zero x y

/-- The chosen block is a block of the two arrays stacked. -/
theorem pick_stacked {b n : ℕ} (hn : n < 33) (x : (⟨2, ![16384, b]⟩ : Shape).Idx → EReal) (y u v : (⟨2, ![512, b]⟩ : Shape).Idx → EReal)
    (hu : Part2 u x (min n 31) 0) (hv : Part2 v y 0 0)
    (i j : ℕ) (hi : i < 512) (hj : j < b) : at2 (pick n u v) i j = stacked x y (512 * n + i) j := by
  rw [pick_eq hn]
  unfold stacked
  by_cases h : n < 32
  · rw [if_pos h, if_pos (by omega), hu i j hi hj, show min n 31 * 512 + i = 512 * n + i by omega, Nat.zero_mul, Nat.zero_add]
  · rw [if_neg h, if_neg (by omega), hv i j hi hj, show 0 * 512 + i = 512 * n + i - 16384 by omega, Nat.zero_mul, Nat.zero_add]

end Cert.Post

end
-- ==== Proof.K4I.Launch.lean ====
/- The result array of `post` between the first and the last layer, read at an index: the row of `Cert.Post.resultOn`. The body
   is the last layer's, after the choice between the latent rows and the context's. -/
module

public import proofs.«01_k».proof.Proof.Gen.Kernel4Ideal.Value
public import proofs.«01_k».proof.Proof.K2I.Block
public import proofs.«01_k».proof.Proof.Post.Pick

@[expose] public section

set_option maxRecDepth 16384

noncomputable section

namespace Cert.Kernel4Ideal.Hand

open Idealize.ShloMosaic Idealize.ShloMosaic.TcCoe Idealize.ShloMosaic.ValueIdx Idealize.ShloMosaic.VecWindow Idealize.SL.Sem
open Idealize.ShloMosaic.Pipeline (Dat)
open Cert.Kernel4Ideal Cert.Kernel4Ideal.Gen Cert.Kernel4Ideal.Value Cert.Post
open Cert.Kernel2Ideal.Hand (block block_layer load_part window_whole pays_eq)
open scoped BigOperators

/-! ## The block a point leaves -/

/-- The attention's projection of the picked rows, the gate and the sum with the stream, as in the last layer. -/
theorem mid_eq (i : grid0.Coords) (oa oa' ob ob' : Vec Ideal S512x512 .bf16) (wa wb : Vec Ideal S1x512x1024 .bf16) (x : Vec Ideal S512x1024 .f32) (g : Vec Ideal S1x1x1024 .f32) :
    k0_pay3 (k0_pay2 i oa oa' ob ob' wa wb) x g = Cert.Kernel2Ideal.Gen.k0_pay2 (pick (i 0).val oa oa') (pick (i 0).val ob ob') wa wb x g := rfl

theorem hidden_eq (f : FVec Ideal S512x1024 .f32) (sh sc : Vec Ideal S1x1x1024 .f32) (gain : Vec Ideal S1x1024 .f32) (w1 : Vec Ideal S1x1024x4096 .bf16) :
    k0_pay5 f (k0_pay4 sh) sc gain w1 = Cert.Kernel2Ideal.Gen.k0_pay4 f (Cert.Kernel2Ideal.Gen.k0_pay3 sh) sc gain w1 := rfl

theorem last_eq (f : FVec Ideal S512x1024 .f32) (h : FVec Ideal S512x4096 .bf16) (g : Vec Ideal S1x1x1024 .f32) (w2 : Vec Ideal S1x4096x1024 .bf16) :
    k0_pay1 f h g w2 = Cert.Kernel2Ideal.Gen.k0_pay1 f h g w2 := rfl

/-- The grid has one axis. -/
theorem coord_eq : ∀ t : Fin cfg0.N, (grid0.coords t 0).val = t.val :=
  (by decide +kernel : ∀ t : Fin grid0.N, (grid0.coords t 0).val = t.val)

/-- The row of the modulation a point takes: its batch entry, or the context's. -/
theorem off_eq : ∀ t : Fin cfg0.N, k0_off1 (grid0.coords t) 0 = 0 ∧ k0_off1 (grid0.coords t) 1 = t.val / 16 ∧ k0_off1 (grid0.coords t) 2 = 0 :=
  (by decide +kernel : ∀ t : Fin grid0.N, k0_off1 (grid0.coords t) 0 = 0 ∧ k0_off1 (grid0.coords t) 1 = t.val / 16 ∧ k0_off1 (grid0.coords t) 2 = 0)

theorem lt33 (t : Fin cfg0.N) : t.val < 33 := Nat.lt_of_lt_of_eq t.isLt N_0

set_option backward.isDefEq.respectTransparency.types false in
/-- What the body leaves in the output's buffer. -/
theorem out_eq (c : Dev nD) (t : Fin cfg0.N) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S1x1024x1024 .bf16) (harg6 : arg6.IsWhole) (arg7 : Memref sig .tc .vmem S1x8x1024 .f32) (harg7 : arg7.IsWhole) (arg8 : Memref sig .tc .vmem S1x1024 .f32) (harg8 : arg8.IsWhole) (arg9 : Memref sig .tc .vmem S1x8x1024 .f32) (harg9 : arg9.IsWhole) (arg10 : Memref sig .tc .vmem S1x8x1024 .f32) (harg10 : arg10.IsWhole) (arg11 : Memref sig .tc .vmem S1x8x1024 .f32) (harg11 : arg11.IsWhole) (arg12 : Memref sig .tc .vmem S1x1024x4096 .bf16) (harg12 : arg12.IsWhole) (arg13 : Memref sig .tc .vmem S1x4096x1024 .bf16) (harg13 : arg13.IsWhole) (arg14 : Memref sig .tc .vmem S512x1024 .f32) (harg14 : arg14.IsWhole)
    (x0 : Vec Ideal S512x1024 .f32) (x1 x2 x3 x4 : Vec Ideal S512x512 .bf16) (x5 : Vec Ideal S1x1024x1024 .bf16) (x6 : Vec Ideal S1x8x1024 .f32) (x7 : Vec Ideal S1x1024 .f32)
    (x8 x9 x10 : Vec Ideal S1x8x1024 .f32) (x11 : Vec Ideal S1x1024x4096 .bf16) (x12 : Vec Ideal S1x4096x1024 .bf16) :
    out0_A_13 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12
      = (ev .f32 (block (t.val / 16) x0 (pick t.val x1 x2) (pick t.val x3 x4) x5 x6 x7 x8 x9 x10 x11 x12)) := by
  unfold out0_A_13 kernelRun0_A
  refine (View.read_writes_full _ _ _ _ _).trans ?_
  simp only [load_part]
  unfold kernelRun0_A.sl.r_4 kernelRun0_A.sl.r_2 kernelRun0_A.sl.r kernelRun0_A.sl.r_1 kernelRun0_A.sl.r_3
  simp only [load_part]
  rw [show window x1 ![0, 0] ![512, 512] inb_S512x512_S512x512_0_0 = x1 from window_whole x1 _ _,
    show window x2 ![0, 0] ![512, 512] inb_S512x512_S512x512_0_0 = x2 from window_whole x2 _ _,
    show window x3 ![0, 0] ![512, 512] inb_S512x512_S512x512_0_0 = x3 from window_whole x3 _ _,
    show window x4 ![0, 0] ![512, 512] inb_S512x512_S512x512_0_0 = x4 from window_whole x4 _ _,
    show window x0 ![0, 0] ![512, 1024] inb_S512x1024_S512x1024_0_0 = x0 from window_whole x0 _ _,
    show window x7 ![0, 0] ![1, 1024] inb_S1x1024_S1x1024_0_0 = x7 from window_whole x7 _ _,
    show window x11 ![0, 0, 0] ![1, 1024, 4096] inb_S1x1024x4096_S1x1024x4096_0_0_0 = x11 from window_whole x11 _ _,
    show window x12 ![0, 0, 0] ![1, 4096, 1024] inb_S1x4096x1024_S1x4096x1024_0_0_0 = x12 from window_whole x12 _ _]
  rw [mid_eq, hidden_eq, last_eq, coord_eq t]
  exact pays_eq (off_eq t) x0 _ _ x5 x6 x7 x8 x9 x10 x11 x12 _ _ _ _ _ _

/-! ## The windows' blocks -/

variable (m : (ℓ : Loc nD τ sig) → Buf (Elt Ideal) ℓ) (ρ : Dev nD → PrngReg)

/-- The arguments. -/
abbrev arr0 (c : Dev nD) : Vec Ideal S16896x1024 .f32 := m ((c : Thread nD τ).loc main_arg0)
abbrev arr1 (c : Dev nD) : Vec Ideal S16384x512 .bf16 := m ((c : Thread nD τ).loc main_arg1)
abbrev arr2 (c : Dev nD) : Vec Ideal S512x512 .bf16 := m ((c : Thread nD τ).loc main_arg2)
abbrev arr3 (c : Dev nD) : Vec Ideal S16384x512 .bf16 := m ((c : Thread nD τ).loc main_arg3)
abbrev arr4 (c : Dev nD) : Vec Ideal S512x512 .bf16 := m ((c : Thread nD τ).loc main_arg4)
abbrev arr5 (c : Dev nD) : Vec Ideal S4x1024x1024 .bf16 := m ((c : Thread nD τ).loc main_arg5)
abbrev arr6 (c : Dev nD) : Vec Ideal S4x8x6144 .f32 := m ((c : Thread nD τ).loc main_arg6)
abbrev arr7 (c : Dev nD) : Vec Ideal S1x1024 .f32 := m ((c : Thread nD τ).loc main_arg7)
abbrev arr8 (c : Dev nD) : Vec Ideal S4x1024x4096 .bf16 := m ((c : Thread nD τ).loc main_arg8)
abbrev arr9 (c : Dev nD) : Vec Ideal S4x4096x1024 .bf16 := m ((c : Thread nD τ).loc main_arg9)

/-- The windows' index maps. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = min t.val 31 ∧ win0_1.index t 1 = 0 :=
  (by decide +kernel : ∀ t : Fin grid0.N, win0_1.index t 0 = min t.val 31 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = min t.val 31 ∧ win0_3.index t 1 = 0 :=
  (by decide +kernel : ∀ t : Fin grid0.N, win0_3.index t 0 = min t.val 31 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 1 ∧ win0_5.index t 1 = 0 ∧ win0_5.index t 2 = 0 :=
  (by decide +kernel : ∀ t : Fin grid0.N, win0_5.index t 0 = 1 ∧ win0_5.index t 1 = 0 ∧ win0_5.index t 2 = 0)
theorem index6 : ∀ t : Fin cfg0.N, win0_6.index t 0 = 1 ∧ win0_6.index t 1 = 0 ∧ win0_6.index t 2 = 2 :=
  (by decide +kernel : ∀ t : Fin grid0.N, win0_6.index t 0 = 1 ∧ win0_6.index t 1 = 0 ∧ win0_6.index t 2 = 2)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 1 ∧ win0_8.index t 1 = 0 ∧ win0_8.index t 2 = 3 :=
  (by decide +kernel : ∀ t : Fin grid0.N, win0_8.index t 0 = 1 ∧ win0_8.index t 1 = 0 ∧ win0_8.index t 2 = 3)
theorem index9 : ∀ t : Fin cfg0.N, win0_9.index t 0 = 1 ∧ win0_9.index t 1 = 0 ∧ win0_9.index t 2 = 4 :=
  (by decide +kernel : ∀ t : Fin grid0.N, win0_9.index t 0 = 1 ∧ win0_9.index t 1 = 0 ∧ win0_9.index t 2 = 4)
theorem index10 : ∀ t : Fin cfg0.N, win0_10.index t 0 = 1 ∧ win0_10.index t 1 = 0 ∧ win0_10.index t 2 = 5 :=
  (by decide +kernel : ∀ t : Fin grid0.N, win0_10.index t 0 = 1 ∧ win0_10.index t 1 = 0 ∧ win0_10.index t 2 = 5)
theorem index11 : ∀ t : Fin cfg0.N, win0_11.index t 0 = 1 ∧ win0_11.index t 1 = 0 ∧ win0_11.index t 2 = 0 :=
  (by decide +kernel : ∀ t : Fin grid0.N, win0_11.index t 0 = 1 ∧ win0_11.index t 1 = 0 ∧ win0_11.index t 2 = 0)
theorem index12 : ∀ t : Fin cfg0.N, win0_12.index t 0 = 1 ∧ win0_12.index t 1 = 0 ∧ win0_12.index t 2 = 0 :=
  (by decide +kernel : ∀ t : Fin grid0.N, win0_12.index t 0 = 1 ∧ win0_12.index t 1 = 0 ∧ win0_12.index t 2 = 0)
theorem index13 : ∀ t : Fin cfg0.N, win0_13.index t 0 = t.val ∧ win0_13.index t 1 = 0 :=
  (by decide +kernel : ∀ t : Fin grid0.N, win0_13.index t 0 = t.val ∧ win0_13.index t 1 = 0)
theorem size13 : ∀ t : Fin cfg0.N, win0_13.xsize (grid0.coords t) 0 = 512 ∧ win0_13.xsize (grid0.coords t) 1 = 1024 :=
  (by decide +kernel : ∀ t : Fin grid0.N, win0_13.xsize (grid0.coords t) 0 = 512 ∧ win0_13.xsize (grid0.coords t) 1 = 1024)

/-! ## The result array -/

/-- The result at an index. -/
def out (c : Dev nD) : Vec Ideal S16896x1024 .f32 :=
  fun z => resultOn 1 (at2 (arr0 m c)) (stacked (arr1 m c) (arr2 m c)) (stacked (arr3 m c) (arr4 m c)) (arr5 m c) (arr6 m c) (arr7 m c) (arr8 m c) (arr9 m c) (z 0).val (z 1).val

/-- What a point leaves, at an index of its block. -/
theorem outsAt_eq (c : Dev nD) (t : Fin cfg0.N) (i j : ℕ) (hi : i < 512) (hj : j < 1024) :
    block (t.val / 16) (iblk m c 0 t) (pick t.val (iblk m c 1 t : Vec Ideal S512x512 .bf16) (iblk m c 2 t)) (pick t.val (iblk m c 3 t : Vec Ideal S512x512 .bf16) (iblk m c 4 t))
        (iblk m c 5 t) (iblk m c 6 t) (iblk m c 7 t) (iblk m c 8 t) (iblk m c 9 t) (iblk m c 10 t) (iblk m c 11 t) (iblk m c 12 t) i j
      = resultOn 1 (at2 (arr0 m c)) (stacked (arr1 m c) (arr2 m c)) (stacked (arr3 m c) (arr4 m c)) (arr5 m c) (arr6 m c) (arr7 m c) (arr8 m c) (arr9 m c) (512 * t.val + i) j :=
  block_layer (lt33 t) (at2 (arr0 m c)) (stacked (arr1 m c) (arr2 m c)) (stacked (arr3 m c) (arr4 m c)) (arr5 m c) (arr6 m c) (arr7 m c) (arr8 m c) (arr9 m c)
    (part2 (arr0 m c) _ _ (fun _ => rfl) (win0_0.index t) (index0 t) (fun _ => rfl) (fun _ => rfl)).rows
    (pick_stacked (lt33 t) _ _ _ _
      (part2 (arr1 m c) _ _ (fun _ => rfl) (win0_1.index t) (index1 t) (fun _ => rfl) (fun _ => rfl))
      (part2 (arr2 m c) _ _ (fun _ => rfl) (win0_2.index t) (index2 t) (fun _ => rfl) (fun _ => rfl)))
    (pick_stacked (lt33 t) _ _ _ _
      (part2 (arr3 m c) _ _ (fun _ => rfl) (win0_3.index t) (index3 t) (fun _ => rfl) (fun _ => rfl))
      (part2 (arr4 m c) _ _ (fun _ => rfl) (win0_4.index t) (index4 t) (fun _ => rfl) (fun _ => rfl)))
    (part3 (arr5 m c) _ _ (fun _ => rfl) (win0_5.index t) (index5 t) (fun _ => rfl) (fun _ => rfl) (fun _ => rfl))
    (part3 (arr6 m c) _ _ (fun _ => rfl) (win0_6.index t) (index6 t) (fun _ => rfl) (fun _ => rfl) (fun _ => rfl))
    (part2 (arr7 m c) _ _ (fun _ => rfl) (win0_7.index t) (index7 t) (fun _ => rfl) (fun _ => rfl))
    (part3 (arr6 m c) _ _ (fun _ => rfl) (win0_8.index t) (index8 t) (fun _ => rfl) (fun _ => rfl) (fun _ => rfl))
    (part3 (arr6 m c) _ _ (fun _ => rfl) (win0_9.index t) (index9 t) (fun _ => rfl) (fun _ => rfl) (fun _ => rfl))
    (part3 (arr6 m c) _ _ (fun _ => rfl) (win0_10.index t) (index10 t) (fun _ => rfl) (fun _ => rfl) (fun _ => rfl))
    (part3 (arr8 m c) _ _ (fun _ => rfl) (win0_11.index t) (index11 t) (fun _ => rfl) (fun _ => rfl) (fun _ => rfl))
    (part3 (arr9 m c) _ _ (fun _ => rfl) (win0_12.index t) (index12 t) (fun _ => rfl) (fun _ => rfl) (fun _ => rfl)) i j hi hj

/-- What a point writes back is its block of the result. -/
theorem flushed_eq (c : Dev nD) (t : Fin cfg0.N) : (dats m 0 c).flushed 13 t = (win0_13.blk t).view.read (Elt Ideal) (out m c) := by
  rw [flushed13]
  unfold outsAt0
  rw [out_eq]
  funext y
  rw [View.read_apply]
  have hi := index13 t
  have hx := size13 t
  have y0 : (y 0).val < 512 := lt_of_lt_of_eq (y 0).isLt hx.1
  have y1 : (y 1).val < 1024 := lt_of_lt_of_eq (y 1).isLt hx.2
  refine (outsAt_eq m c t (y 0).val (y 1).val y0 y1).trans ?_
  show resultOn _ _ _ _ _ _ _ _ _ _ _ = resultOn _ _ _ _ _ _ _ _ _ (win0_13.index t 0 * 512 + 1 * (y 0).val) (win0_13.index t 1 * 1024 + 1 * (y 1).val)
  rw [hi.1, hi.2, show t.val * 512 + 1 * (y 0).val = 512 * t.val + (y 0).val by omega, show 0 * 1024 + 1 * (y 1).val = (y 1).val by omega]

/-- The point that writes an index of the result. -/
def ptOf (z : S16896x1024.Idx) : Fin cfg0.N := ⟨(z 0).val / 512, by
  have h0 : (z 0).val < 16896 := (z 0).isLt
  have hN : cfg0.N = 33 := N_0
  omega⟩

/-- An index of the result lies in its point's block. -/
theorem mem_blk (z : S16896x1024.Idx) : z ∈ (win0_13.blk (ptOf z)).view.set := by
  show z ∈ ((View.whole main_v0).slice (win0_13.rect (ptOf z))).set
  rw [View.set_slice_whole, Rect.mem_set_unit]
  intro a
  refine (rows_cover z (win0_13.index (ptOf z)) (win0_13.xsize (grid0.coords (ptOf z))) (index13 (ptOf z)) (size13 (ptOf z)) a).imp ?_ ?_
  · exact fun h => match a with | ⟨0, _⟩ => h | ⟨1, _⟩ => h
  · exact fun h => match a with | ⟨0, _⟩ => h | ⟨1, _⟩ => h

/-- The result array ends holding the result. -/
theorem final_out (c : Dev nD) : (dats m 0 c).arrAt 13 cfg0.N = out m c :=
  (dats m 0 c).arrAt_eq_of_cover 13 (out m c) (fun t _ => flushed_eq m c t) (fun z => ⟨ptOf z, flush0_13 _, mem_blk z⟩)

/-- The run, read: the result array at the result, the arguments unchanged. -/
theorem run : θ_run defs (onTc (τ := τ) (main (F := Ideal))) ⟨m, fun _ => 0, ρ⟩ (fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)) :=
  (θ_run defs _ _).mono (fun r h c => ⟨(h c).1.trans (final_out m c), (h c).2⟩) (run_blocks m ρ)

end Cert.Kernel4Ideal.Hand

end
-- ==== Proof.Post.Stack.lean ====
/- Two arrays joined, read at an index: the rows of the latent tokens and of the context below each other, and the columns of two
   attention arrays side by side. -/
module

public import Idealize.ShloMosaic.Lib.Pipeline.Value
public import proofs.«01_k».proof.Proof.Post.Spec

@[expose] public section

noncomputable section

namespace Cert.Post

open Idealize.ShloMosaic Idealize.ShloMosaic.ValueIdx

/-- Arrays below each other that hold the rows of one function hold it together. -/
theorem stack_apply {n k b t : ℕ} (f : ℕ → ℕ → EReal) (x : (⟨2, ![n, b]⟩ : Shape).Idx → EReal) (y : (⟨2, ![k, b]⟩ : Shape).Idx → EReal)
    (h : Shape.Concatenates [(⟨2, ![n, b]⟩ : Shape), (⟨2, ![k, b]⟩ : Shape)] (⟨2, ![t, b]⟩ : Shape) 0) (ht : t = n + k)
    (hx : ∀ z, x z = f (z 0).val (z 1).val) (hy : ∀ z, y z = f (n + (z 0).val) (z 1).val) (z : (⟨2, ![t, b]⟩ : Shape).Idx) :
    concatenate (⟨2, ![t, b]⟩ : Shape) 0 [⟨(⟨2, ![n, b]⟩ : Shape), x⟩, ⟨(⟨2, ![k, b]⟩ : Shape), y⟩] h z = f (z 0).val (z 1).val := by
  have h0 := idx2_lt0 z
  have h1 := idx2_lt1 z
  by_cases hk : (z 0).val < n
  · refine (concatenate_pair_apply_left 0 x y h z rfl (ix2 ⟨(z 0).val, hk⟩ ⟨(z 1).val, h1⟩) (fun c : Fin 2 => match c with | 0 => rfl | 1 => rfl)).trans ?_
    exact hx _
  · have hk' : (z 0).val - n < k := by omega
    refine (concatenate_pair_apply_right 0 x y h z rfl rfl (ix2 ⟨(z 0).val - n, hk'⟩ ⟨(z 1).val, h1⟩) ?_ (show (z 0).val - n + n = (z 0).val by omega)).trans ?_
    · intro c hc
      rcases c with ⟨_ | _ | c, hlt⟩
      · exact absurd rfl hc
      · rfl
      · exact absurd hlt (by show ¬ _ < 2; omega)
    · exact (hy _).trans (congrArg (fun r => f r (z 1).val) (show n + ((z 0).val - n) = (z 0).val by omega))

/-- Two arrays of 512 columns side by side. -/
theorem beside_apply {n : ℕ} (f g : ℕ → ℕ → EReal) (x y : (⟨2, ![n, 512]⟩ : Shape).Idx → EReal)
    (h : Shape.Concatenates [(⟨2, ![n, 512]⟩ : Shape), (⟨2, ![n, 512]⟩ : Shape)] (⟨2, ![n, 1024]⟩ : Shape) 1)
    (hx : ∀ z, x z = f (z 0).val (z 1).val) (hy : ∀ z, y z = g (z 0).val (z 1).val) (z : (⟨2, ![n, 1024]⟩ : Shape).Idx) :
    concatenate (⟨2, ![n, 1024]⟩ : Shape) 1 [⟨(⟨2, ![n, 512]⟩ : Shape), x⟩, ⟨(⟨2, ![n, 512]⟩ : Shape), y⟩] h z
      = joined (f (z 0).val) (g (z 0).val) (z 1).val := by
  have h0 := idx2_lt0 z
  have h1 := idx2_lt1 z
  unfold joined
  by_cases hk : (z 1).val < 512
  · rw [if_pos hk]
    refine (concatenate_pair_apply_left 1 x y h z rfl (ix2 ⟨(z 0).val, h0⟩ ⟨(z 1).val, hk⟩) (fun c : Fin 2 => match c with | 0 => rfl | 1 => rfl)).trans ?_
    exact hx _
  · rw [if_neg hk]
    have hk' : (z 1).val - 512 < 512 := by omega
    refine (concatenate_pair_apply_right 1 x y h z rfl rfl (ix2 ⟨(z 0).val, h0⟩ ⟨(z 1).val - 512, hk'⟩) ?_ (show (z 1).val - 512 + 512 = (z 1).val by omega)).trans ?_
    · intro c hc
      rcases c with ⟨_ | _ | c, hlt⟩
      · rfl
      · exact absurd rfl hc
      · exact absurd hlt (by show ¬ _ < 2; omega)
    · exact hy _

/-- The latent rows and the context's below each other. -/
theorem stacked_apply {b t : ℕ} (x : (⟨2, ![16384, b]⟩ : Shape).Idx → EReal) (y : (⟨2, ![512, b]⟩ : Shape).Idx → EReal)
    (h : Shape.Concatenates [(⟨2, ![16384, b]⟩ : Shape), (⟨2, ![512, b]⟩ : Shape)] (⟨2, ![t, b]⟩ : Shape) 0) (ht : t = 16384 + 512) (z : (⟨2, ![t, b]⟩ : Shape).Idx) :
    concatenate (⟨2, ![t, b]⟩ : Shape) 0 [⟨(⟨2, ![16384, b]⟩ : Shape), x⟩, ⟨(⟨2, ![512, b]⟩ : Shape), y⟩] h z = stacked x y (z 0).val (z 1).val :=
  stack_apply (stacked x y) x y h ht
    (fun w => by unfold stacked; rw [if_pos (idx2_lt0 w)]; exact at2_of x w rfl rfl)
    (fun w => by unfold stacked; rw [if_neg (by omega)]; exact at2_of y w (by omega) rfl) z

end Cert.Post

end
-- ==== Proof.R4I.Value.lean ====
/- The reference of `post` between the first and the last layer at an index: the row of `Cert.Post.resultOn`. -/
module

public import proofs.«01_k».proof.Proof.Gen.Reference4Ideal.Read
public import proofs.«01_k».proof.Proof.Post.Stack

@[expose] public section

set_option maxRecDepth 16384

noncomputable section

namespace Cert.Reference4Ideal.Hand

open Idealize.ShloMosaic Idealize.ShloMosaic.ValueIdx
open Cert.Reference4Ideal Cert.Reference4Ideal.Gen Cert.Reference4Ideal.Read Cert.Post
open scoped BigOperators

variable (x0 : (⟨S16896x1024, .f32⟩ : BufTy).Contents (Elt Ideal))
  (x1 : (⟨S16384x512, .bf16⟩ : BufTy).Contents (Elt Ideal)) (x2 : (⟨S512x512, .bf16⟩ : BufTy).Contents (Elt Ideal))
  (x3 : (⟨S16384x512, .bf16⟩ : BufTy).Contents (Elt Ideal)) (x4 : (⟨S512x512, .bf16⟩ : BufTy).Contents (Elt Ideal))
  (x5 : (⟨S4x1024x1024, .bf16⟩ : BufTy).Contents (Elt Ideal)) (x6 : (⟨S4x8x6144, .f32⟩ : BufTy).Contents (Elt Ideal))
  (x7 : (⟨S1x1024, .f32⟩ : BufTy).Contents (Elt Ideal)) (x8 : (⟨S4x1024x4096, .bf16⟩ : BufTy).Contents (Elt Ideal))
  (x9 : (⟨S4x4096x1024, .bf16⟩ : BufTy).Contents (Elt Ideal))

/-! ## The arguments, brought to the shapes of the computation -/

/-- The two attention arrays side by side. -/
theorem read_v3 (z : S16896x1024.Idx) : val_main_v3 (F := Ideal) x1 x2 x3 x4 z = joined (stacked x1 x2 (z 0).val) (stacked x3 x4 (z 0).val) (z 1).val :=
  beside_apply (stacked x1 x2) (stacked x3 x4) _ _ concatenates_S16896x512_S16896x512_S16896x1024_d1 (stacked_apply x1 x2 _ rfl) (stacked_apply x3 x4 _ rfl) z

/-- The modulation of the layer, for the rows of the two batch entries, -/
theorem read_v8 (z : S16384x6144.Idx) : val_main_v8 (F := Ideal) x6 z = at3 x6 1 ((z 0).val / 8192) (z 1).val := by
  have h0 : (z 0).val < 16384 := (z 0).isLt
  have h1 : (z 1).val < 6144 := (z 1).isLt
  rw [val_main_v8_apply, val_main_v7_apply, val_main_v6_apply, val_main_v5_apply, val_main_v4_apply]
  have e0 : ((z 0).val * 6144 + (z 1).val) / 50331648 = (z 0).val / 8192 := by omega
  have e1 : ((z 0).val * 6144 + (z 1).val) % 6144 = (z 1).val := by omega
  refine at3_of x6 _ rfl ?_ ?_
  · show (((z 0).val * 6144 + (z 1).val) / 50331648 * 6144 + ((z 0).val * 6144 + (z 1).val) % 6144) / 6144 % 2 = _
    rw [e0, e1]; omega
  · show (((z 0).val * 6144 + (z 1).val) / 50331648 * 6144 + ((z 0).val * 6144 + (z 1).val) % 6144) % 6144 = _
    rw [e0, e1]; omega

/-- and for the context's. -/
theorem read_v11 (z : S512x6144.Idx) : val_main_v11 (F := Ideal) x6 z = at3 x6 1 ((16384 + (z 0).val) / 8192) (z 1).val := by
  have h0 : (z 0).val < 512 := (z 0).isLt
  have h1 : (z 1).val < 6144 := (z 1).isLt
  rw [val_main_v11_apply, val_main_v10_apply, val_main_v9_apply]
  refine at3_of x6 _ rfl ?_ ?_
  · show 2 = _; omega
  · show (z 1).val % 6144 = _; omega

theorem read_v12 (z : S16896x6144.Idx) : val_main_v12 (F := Ideal) x6 z = at3 x6 1 ((z 0).val / 8192) (z 1).val :=
  stack_apply (fun r => at3 x6 1 (r / 8192)) _ _ _ rfl (read_v8 x6) (read_v11 x6) z

/-- The weights of the layer. -/
theorem read_v21 (i : S1024x1024.Idx) : val_main_v21 (F := Ideal) x5 i = at3 x5 1 (i 0).val (i 1).val := by
  have h0 : (i 0).val < 1024 := (i 0).isLt
  have h1 : (i 1).val < 1024 := (i 1).isLt
  show val_main_v20 (F := Ideal) x5 i = _
  rw [val_main_v20_apply, val_main_v19_apply]
  refine at3_of x5 _ rfl ?_ ?_
  · show ((i 0).val * 1024 + (i 1).val) / 1024 % 1024 = _; omega
  · show ((i 0).val * 1024 + (i 1).val) % 1024 = _; omega

theorem read_v45 (i : S1024x4096.Idx) : val_main_v45 (F := Ideal) x8 i = at3 x8 1 (i 0).val (i 1).val := by
  have h0 : (i 0).val < 1024 := (i 0).isLt
  have h1 : (i 1).val < 4096 := (i 1).isLt
  show val_main_v44 (F := Ideal) x8 i = _
  rw [val_main_v44_apply, val_main_v43_apply]
  refine at3_of x8 _ rfl ?_ ?_
  · show ((i 0).val * 4096 + (i 1).val) / 4096 % 1024 = _; omega
  · show ((i 0).val * 4096 + (i 1).val) % 4096 = _; omega

theorem read_v51 (i : S4096x1024.Idx) : val_main_v51 (F := Ideal) x9 i = at3 x9 1 (i 0).val (i 1).val := by
  have h0 : (i 0).val < 4096 := (i 0).isLt
  have h1 : (i 1).val < 1024 := (i 1).isLt
  show val_main_v50 (F := Ideal) x9 i = _
  rw [val_main_v50_apply, val_main_v49_apply]
  refine at3_of x9 _ rfl ?_ ?_
  · show ((i 0).val * 1024 + (i 1).val) / 1024 % 4096 = _; omega
  · show ((i 0).val * 1024 + (i 1).val) % 1024 = _; omega

theorem read_v37 (i : S16896x1024.Idx) : val_main_v37 (F := Ideal) x7 i = at2 x7 0 (i 1).val := by
  have h1 : (i 1).val < 1024 := (i 1).isLt
  rw [val_main_v37_apply, val_main_v36_apply, val_main_v35_apply]
  refine at2_of x7 _ rfl ?_
  show (i 1).val % 1024 = _; omega

/-! ## The computation -/

/-- The residual row after the attention. -/
def midRow (r : ℕ) : ℕ → EReal :=
  mid (at2 x0 r) (joined (stacked x1 x2 r) (stacked x3 x4 r)) (fun j => at3 x6 1 (r / 8192) (2048 + j)) (at3 x5 1)

/-- Its modulated norm. -/
def normRow (r : ℕ) : ℕ → EReal :=
  normed (midRow x0 x1 x2 x3 x4 x5 x6 r) (at2 x7 0) (fun j => at3 x6 1 (r / 8192) (4096 + j)) (fun j => at3 x6 1 (r / 8192) (3072 + j))

theorem read_v22 (i : S16896x1024.Idx) :
    val_main_v22 (F := Ideal) x1 x2 x3 x4 x5 i = ∑ k ∈ Finset.range 1024, joined (stacked x1 x2 (i 0).val) (stacked x3 x4 (i 0).val) k * at3 x5 1 k (i 1).val := by
  rw [val_main_v22_apply, ← Fin.sum_univ_eq_sum_range (fun k => joined (stacked x1 x2 (i 0).val) (stacked x3 x4 (i 0).val) k * at3 x5 1 k (i 1).val)]
  exact Finset.sum_congr rfl fun k _ => by rw [read_v3, read_v21]

theorem read_v24 (i : S16896x1024.Idx) : val_main_v24 (F := Ideal) x0 x1 x2 x3 x4 x5 x6 i = midRow x0 x1 x2 x3 x4 x5 x6 (i 0).val (i 1).val := by
  unfold midRow mid
  rw [val_main_v24_apply, val_main_v23_apply, show x0 i = at2 x0 (i 0).val (i 1).val from at2_of x0 i rfl rfl, val_main_v15_apply, read_v12, read_v22]
  rfl

/-- The mean square's reciprocal root. -/
theorem read_v32 (i : S16896x1.Idx) : val_main_v32 (F := Ideal) x0 x1 x2 x3 x4 x5 x6 i = invRms (midRow x0 x1 x2 x3 x4 x5 x6 (i 0).val) := by
  unfold invRms
  rw [val_main_v32_apply, val_main_v31_apply, val_main_v29_apply, val_main_v27_apply, val_main_v26_apply, val_main_cst_apply, val_main_v28_apply,
    val_main_cst_0_apply, val_main_v30_apply, val_main_cst_1_apply,
    ← Fin.sum_univ_eq_sum_range (fun k => midRow x0 x1 x2 x3 x4 x5 x6 (i 0).val k * midRow x0 x1 x2 x3 x4 x5 x6 (i 0).val k)]
  have hs : ∑ k : Fin 1024, val_main_v25 (F := Ideal) x0 x1 x2 x3 x4 x5 x6 (idx_main_v26 (idx_main_v27 i) k)
      = ∑ k : Fin 1024, midRow x0 x1 x2 x3 x4 x5 x6 (i 0).val k.val * midRow x0 x1 x2 x3 x4 x5 x6 (i 0).val k.val :=
    Finset.sum_congr rfl fun k _ => by rw [val_main_v25_apply, read_v24]; rfl
  rw [hs, show (FloatOps.ofBits FTy.f32 0x00000000#32 : Ideal .f32) = 0 from Ideal.ofBits_zero_f32, zero_add]
  rfl

theorem read_v42 (i : S16896x1024.Idx) : val_main_v42 (F := Ideal) x0 x1 x2 x3 x4 x5 x6 x7 i = normRow x0 x1 x2 x3 x4 x5 x6 x7 (i 0).val (i 1).val := by
  unfold normRow normed
  rw [val_main_v42_apply, val_main_v41_apply, val_main_v38_apply, val_main_v34_apply, read_v24, val_main_v33_apply, read_v32, read_v37,
    val_main_v40_apply, val_main_v39_apply, val_main_cst_2_apply, val_main_v17_apply, read_v12, val_main_v16_apply, read_v12]
  rfl

theorem read_v48 (i : S16896x4096.Idx) :
    val_main_v48 (F := Ideal) x0 x1 x2 x3 x4 x5 x6 x7 x8 i = activated (normRow x0 x1 x2 x3 x4 x5 x6 x7 (i 0).val) (at3 x8 1) (i 1).val := by
  have hs : val_main_v46 (F := Ideal) x0 x1 x2 x3 x4 x5 x6 x7 x8 i = ∑ k ∈ Finset.range 1024, normRow x0 x1 x2 x3 x4 x5 x6 x7 (i 0).val k * at3 x8 1 k (i 1).val := by
    rw [val_main_v46_apply, ← Fin.sum_univ_eq_sum_range (fun k => normRow x0 x1 x2 x3 x4 x5 x6 x7 (i 0).val k * at3 x8 1 k (i 1).val)]
    exact Finset.sum_congr rfl fun k _ => by rw [read_v42, read_v45]
  unfold activated
  rw [val_main_v48_apply, val_main_v47_apply, hs, val_main_call0_v0_apply, val_main_call0_cst_apply,
    show (FloatOps.ofBits FTy.f32 0x00000000#32 : Ideal .f32) = 0 from Ideal.ofBits_zero_f32]
  rfl

/-- The result at an index. -/
theorem read_v54 (i : S16896x1024.Idx) :
    val_main_v54 (F := Ideal) x0 x1 x2 x3 x4 x5 x6 x7 x8 x9 i = resultOn 1 (at2 x0) (stacked x1 x2) (stacked x3 x4) x5 x6 x7 x8 x9 (i 0).val (i 1).val := by
  have hs : val_main_v52 (F := Ideal) x0 x1 x2 x3 x4 x5 x6 x7 x8 x9 i
      = ∑ n ∈ Finset.range 4096, activated (normRow x0 x1 x2 x3 x4 x5 x6 x7 (i 0).val) (at3 x8 1) n * at3 x9 1 n (i 1).val := by
    rw [val_main_v52_apply, ← Fin.sum_univ_eq_sum_range (fun n => activated (normRow x0 x1 x2 x3 x4 x5 x6 x7 (i 0).val) (at3 x8 1) n * at3 x9 1 n (i 1).val)]
    exact Finset.sum_congr rfl fun k _ => by rw [read_v48, read_v51]
  rw [val_main_v54_apply, val_main_v53_apply, read_v24, val_main_v18_apply, read_v12, hs]
  rfl

end Cert.Reference4Ideal.Hand

end
-- ==== Proof.K5I.Launch.lean ====
/- The result array of `post` in the first layer, read at an index: the row of `Cert.Post.resultOn`. The body
   is the last layer's, after the choice between the latent rows and the context's. -/
module

public import proofs.«01_k».proof.Proof.Gen.Kernel5Ideal.Value
public import proofs.«01_k».proof.Proof.K2I.Block
public import proofs.«01_k».proof.Proof.Post.Pick

@[expose] public section

set_option maxRecDepth 16384

noncomputable section

namespace Cert.Kernel5Ideal.Hand

open Idealize.ShloMosaic Idealize.ShloMosaic.TcCoe Idealize.ShloMosaic.ValueIdx Idealize.ShloMosaic.VecWindow Idealize.SL.Sem
open Idealize.ShloMosaic.Pipeline (Dat)
open Cert.Kernel5Ideal Cert.Kernel5Ideal.Gen Cert.Kernel5Ideal.Value Cert.Post
open Cert.Kernel2Ideal.Hand (block block_layer load_part window_whole pays_eq)
open scoped BigOperators

/-! ## The block a point leaves -/

/-- The attention's projection of the picked rows, the gate and the sum with the stream, as in the last layer. -/
theorem mid_eq (i : grid0.Coords) (oa oa' ob ob' : Vec Ideal S512x512 .bf16) (wa wb : Vec Ideal S1x512x1024 .bf16) (x x' : Vec Ideal S512x1024 .f32) (g : Vec Ideal S1x1x1024 .f32) :
    k0_pay4 (k0_pay2 i oa oa' ob ob' wa wb) (k0_pay3 i x x') g = Cert.Kernel2Ideal.Gen.k0_pay2 (pick (i 0).val oa oa') (pick (i 0).val ob ob') wa wb (pick (i 0).val x x') g := rfl

theorem hidden_eq (f : FVec Ideal S512x1024 .f32) (sh sc : Vec Ideal S1x1x1024 .f32) (gain : Vec Ideal S1x1024 .f32) (w1 : Vec Ideal S1x1024x4096 .bf16) :
    k0_pay6 f (k0_pay5 sh) sc gain w1 = Cert.Kernel2Ideal.Gen.k0_pay4 f (Cert.Kernel2Ideal.Gen.k0_pay3 sh) sc gain w1 := rfl

theorem last_eq (f : FVec Ideal S512x1024 .f32) (h : FVec Ideal S512x4096 .bf16) (g : Vec Ideal S1x1x1024 .f32) (w2 : Vec Ideal S1x4096x1024 .bf16) :
    k0_pay1 f h g w2 = Cert.Kernel2Ideal.Gen.k0_pay1 f h g w2 := rfl

/-- The grid has one axis. -/
theorem coord_eq : ∀ t : Fin cfg0.N, (grid0.coords t 0).val = t.val :=
  (by decide +kernel : ∀ t : Fin grid0.N, (grid0.coords t 0).val = t.val)

/-- The row of the modulation a point takes: its batch entry, or the context's. -/
theorem off_eq : ∀ t : Fin cfg0.N, k0_off1 (grid0.coords t) 0 = 0 ∧ k0_off1 (grid0.coords t) 1 = t.val / 16 ∧ k0_off1 (grid0.coords t) 2 = 0 :=
  (by decide +kernel : ∀ t : Fin grid0.N, k0_off1 (grid0.coords t) 0 = 0 ∧ k0_off1 (grid0.coords t) 1 = t.val / 16 ∧ k0_off1 (grid0.coords t) 2 = 0)

theorem lt33 (t : Fin cfg0.N) : t.val < 33 := Nat.lt_of_lt_of_eq t.isLt N_0

set_option backward.isDefEq.respectTransparency.types false in
/-- What the body leaves in the output's buffer. -/
theorem out_eq (c : Dev nD) (t : Fin cfg0.N) (arg1 : Memref sig .tc .vmem S512x1024 .f32) (harg1 : arg1.IsWhole) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S1x1024x1024 .bf16) (harg7 : arg7.IsWhole) (arg8 : Memref sig .tc .vmem S1x8x1024 .f32) (harg8 : arg8.IsWhole) (arg9 : Memref sig .tc .vmem S1x1024 .f32) (harg9 : arg9.IsWhole) (arg10 : Memref sig .tc .vmem S1x8x1024 .f32) (harg10 : arg10.IsWhole) (arg11 : Memref sig .tc .vmem S1x8x1024 .f32) (harg11 : arg11.IsWhole) (arg12 : Memref sig .tc .vmem S1x8x1024 .f32) (harg12 : arg12.IsWhole) (arg13 : Memref sig .tc .vmem S1x1024x4096 .bf16) (harg13 : arg13.IsWhole) (arg14 : Memref sig .tc .vmem S1x4096x1024 .bf16) (harg14 : arg14.IsWhole) (arg15 : Memref sig .tc .vmem S512x1024 .f32) (harg15 : arg15.IsWhole)
    (x0 x1 : Vec Ideal S512x1024 .f32) (x2 x3 x4 x5 : Vec Ideal S512x512 .bf16) (x6 : Vec Ideal S1x1024x1024 .bf16) (x7 : Vec Ideal S1x8x1024 .f32) (x8 : Vec Ideal S1x1024 .f32)
    (x9 x10 x11 : Vec Ideal S1x8x1024 .f32) (x12 : Vec Ideal S1x1024x4096 .bf16) (x13 : Vec Ideal S1x4096x1024 .bf16) :
    out0_A_14 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13
      = (ev .f32 (block (t.val / 16) (pick t.val x0 x1) (pick t.val x2 x3) (pick t.val x4 x5) x6 x7 x8 x9 x10 x11 x12 x13)) := by
  unfold out0_A_14 kernelRun0_A
  refine (View.read_writes_full _ _ _ _ _).trans ?_
  simp only [load_part]
  unfold kernelRun0_A.sl.r_4 kernelRun0_A.sl.r_2 kernelRun0_A.sl.r kernelRun0_A.sl.r_1 kernelRun0_A.sl.r_3
  simp only [load_part]
  rw [show window x2 ![0, 0] ![512, 512] inb_S512x512_S512x512_0_0 = x2 from window_whole x2 _ _,
    show window x3 ![0, 0] ![512, 512] inb_S512x512_S512x512_0_0 = x3 from window_whole x3 _ _,
    show window x4 ![0, 0] ![512, 512] inb_S512x512_S512x512_0_0 = x4 from window_whole x4 _ _,
    show window x5 ![0, 0] ![512, 512] inb_S512x512_S512x512_0_0 = x5 from window_whole x5 _ _,
    show window x0 ![0, 0] ![512, 1024] inb_S512x1024_S512x1024_0_0 = x0 from window_whole x0 _ _,
    show window x1 ![0, 0] ![512, 1024] inb_S512x1024_S512x1024_0_0 = x1 from window_whole x1 _ _,
    show window x8 ![0, 0] ![1, 1024] inb_S1x1024_S1x1024_0_0 = x8 from window_whole x8 _ _,
    show window x12 ![0, 0, 0] ![1, 1024, 4096] inb_S1x1024x4096_S1x1024x4096_0_0_0 = x12 from window_whole x12 _ _,
    show window x13 ![0, 0, 0] ![1, 4096, 1024] inb_S1x4096x1024_S1x4096x1024_0_0_0 = x13 from window_whole x13 _ _]
  rw [mid_eq, hidden_eq, last_eq, coord_eq t]
  exact pays_eq (off_eq t) _ _ _ x6 x7 x8 x9 x10 x11 x12 x13 _ _ _ _ _ _

/-! ## The windows' blocks -/

variable (m : (ℓ : Loc nD τ sig) → Buf (Elt Ideal) ℓ) (ρ : Dev nD → PrngReg)

/-- The arguments. -/
abbrev arr0 (c : Dev nD) : Vec Ideal S16384x1024 .f32 := m ((c : Thread nD τ).loc main_arg0)
abbrev arr1 (c : Dev nD) : Vec Ideal S512x1024 .f32 := m ((c : Thread nD τ).loc main_arg1)
abbrev arr2 (c : Dev nD) : Vec Ideal S16384x512 .bf16 := m ((c : Thread nD τ).loc main_arg2)
abbrev arr3 (c : Dev nD) : Vec Ideal S512x512 .bf16 := m ((c : Thread nD τ).loc main_arg3)
abbrev arr4 (c : Dev nD) : Vec Ideal S16384x512 .bf16 := m ((c : Thread nD τ).loc main_arg4)
abbrev arr5 (c : Dev nD) : Vec Ideal S512x512 .bf16 := m ((c : Thread nD τ).loc main_arg5)
abbrev arr6 (c : Dev nD) : Vec Ideal S4x1024x1024 .bf16 := m ((c : Thread nD τ).loc main_arg6)
abbrev arr7 (c : Dev nD) : Vec Ideal S4x8x6144 .f32 := m ((c : Thread nD τ).loc main_arg7)
abbrev arr8 (c : Dev nD) : Vec Ideal S1x1024 .f32 := m ((c : Thread nD τ).loc main_arg8)
abbrev arr9 (c : Dev nD) : Vec Ideal S4x1024x4096 .bf16 := m ((c : Thread nD τ).loc main_arg9)
abbrev arr10 (c : Dev nD) : Vec Ideal S4x4096x1024 .bf16 := m ((c : Thread nD τ).loc main_arg10)

/-- The windows' index maps. -/
theorem index0 : ∀ t : Fin cfg0.N, win0_0.index t 0 = min t.val 31 ∧ win0_0.index t 1 = 0 :=
  (by decide +kernel : ∀ t : Fin grid0.N, win0_0.index t 0 = min t.val 31 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = min t.val 31 ∧ win0_2.index t 1 = 0 :=
  (by decide +kernel : ∀ t : Fin grid0.N, win0_2.index t 0 = min t.val 31 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = min t.val 31 ∧ win0_4.index t 1 = 0 :=
  (by decide +kernel : ∀ t : Fin grid0.N, win0_4.index t 0 = min t.val 31 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem index7 : ∀ t : Fin cfg0.N, win0_7.index t 0 = 0 ∧ win0_7.index t 1 = 0 ∧ win0_7.index t 2 = 2 :=
  (by decide +kernel : ∀ t : Fin grid0.N, win0_7.index t 0 = 0 ∧ win0_7.index t 1 = 0 ∧ win0_7.index t 2 = 2)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 ∧ win0_9.index t 2 = 3 :=
  (by decide +kernel : ∀ t : Fin grid0.N, win0_9.index t 0 = 0 ∧ win0_9.index t 1 = 0 ∧ win0_9.index t 2 = 3)
theorem index10 : ∀ t : Fin cfg0.N, win0_10.index t 0 = 0 ∧ win0_10.index t 1 = 0 ∧ win0_10.index t 2 = 4 :=
  (by decide +kernel : ∀ t : Fin grid0.N, win0_10.index t 0 = 0 ∧ win0_10.index t 1 = 0 ∧ win0_10.index t 2 = 4)
theorem index11 : ∀ t : Fin cfg0.N, win0_11.index t 0 = 0 ∧ win0_11.index t 1 = 0 ∧ win0_11.index t 2 = 5 :=
  (by decide +kernel : ∀ t : Fin grid0.N, win0_11.index t 0 = 0 ∧ win0_11.index t 1 = 0 ∧ win0_11.index t 2 = 5)
theorem index12 : ∀ t : Fin cfg0.N, win0_12.index t 0 = 0 ∧ win0_12.index t 1 = 0 ∧ win0_12.index t 2 = 0 :=
  (by decide +kernel : ∀ t : Fin grid0.N, win0_12.index t 0 = 0 ∧ win0_12.index t 1 = 0 ∧ win0_12.index t 2 = 0)
theorem index13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)
theorem index14 : ∀ t : Fin cfg0.N, win0_14.index t 0 = t.val ∧ win0_14.index t 1 = 0 :=
  (by decide +kernel : ∀ t : Fin grid0.N, win0_14.index t 0 = t.val ∧ win0_14.index t 1 = 0)
theorem size14 : ∀ t : Fin cfg0.N, win0_14.xsize (grid0.coords t) 0 = 512 ∧ win0_14.xsize (grid0.coords t) 1 = 1024 :=
  (by decide +kernel : ∀ t : Fin grid0.N, win0_14.xsize (grid0.coords t) 0 = 512 ∧ win0_14.xsize (grid0.coords t) 1 = 1024)

/-! ## The result array -/

/-- The result at an index. -/
def out (c : Dev nD) : Vec Ideal S16896x1024 .f32 :=
  fun z => resultOn 0 (stacked (arr0 m c) (arr1 m c)) (stacked (arr2 m c) (arr3 m c)) (stacked (arr4 m c) (arr5 m c)) (arr6 m c) (arr7 m c) (arr8 m c) (arr9 m c) (arr10 m c) (z 0).val (z 1).val

/-- What a point leaves, at an index of its block. -/
theorem outsAt_eq (c : Dev nD) (t : Fin cfg0.N) (i j : ℕ) (hi : i < 512) (hj : j < 1024) :
    block (t.val / 16) (pick t.val (iblk m c 0 t : Vec Ideal S512x1024 .f32) (iblk m c 1 t)) (pick t.val (iblk m c 2 t : Vec Ideal S512x512 .bf16) (iblk m c 3 t)) (pick t.val (iblk m c 4 t : Vec Ideal S512x512 .bf16) (iblk m c 5 t))
        (iblk m c 6 t) (iblk m c 7 t) (iblk m c 8 t) (iblk m c 9 t) (iblk m c 10 t) (iblk m c 11 t) (iblk m c 12 t) (iblk m c 13 t) i j
      = resultOn 0 (stacked (arr0 m c) (arr1 m c)) (stacked (arr2 m c) (arr3 m c)) (stacked (arr4 m c) (arr5 m c)) (arr6 m c) (arr7 m c) (arr8 m c) (arr9 m c) (arr10 m c) (512 * t.val + i) j :=
  block_layer (lt33 t) (stacked (arr0 m c) (arr1 m c)) (stacked (arr2 m c) (arr3 m c)) (stacked (arr4 m c) (arr5 m c)) (arr6 m c) (arr7 m c) (arr8 m c) (arr9 m c) (arr10 m c)
    (pick_stacked (lt33 t) _ _ _ _
      (part2 (arr0 m c) _ _ (fun _ => rfl) (win0_0.index t) (index0 t) (fun _ => rfl) (fun _ => rfl))
      (part2 (arr1 m c) _ _ (fun _ => rfl) (win0_1.index t) (index1 t) (fun _ => rfl) (fun _ => rfl)))
    (pick_stacked (lt33 t) _ _ _ _
      (part2 (arr2 m c) _ _ (fun _ => rfl) (win0_2.index t) (index2 t) (fun _ => rfl) (fun _ => rfl))
      (part2 (arr3 m c) _ _ (fun _ => rfl) (win0_3.index t) (index3 t) (fun _ => rfl) (fun _ => rfl)))
    (pick_stacked (lt33 t) _ _ _ _
      (part2 (arr4 m c) _ _ (fun _ => rfl) (win0_4.index t) (index4 t) (fun _ => rfl) (fun _ => rfl))
      (part2 (arr5 m c) _ _ (fun _ => rfl) (win0_5.index t) (index5 t) (fun _ => rfl) (fun _ => rfl)))
    (part3 (arr6 m c) _ _ (fun _ => rfl) (win0_6.index t) (index6 t) (fun _ => rfl) (fun _ => rfl) (fun _ => rfl))
    (part3 (arr7 m c) _ _ (fun _ => rfl) (win0_7.index t) (index7 t) (fun _ => rfl) (fun _ => rfl) (fun _ => rfl))
    (part2 (arr8 m c) _ _ (fun _ => rfl) (win0_8.index t) (index8 t) (fun _ => rfl) (fun _ => rfl))
    (part3 (arr7 m c) _ _ (fun _ => rfl) (win0_9.index t) (index9 t) (fun _ => rfl) (fun _ => rfl) (fun _ => rfl))
    (part3 (arr7 m c) _ _ (fun _ => rfl) (win0_10.index t) (index10 t) (fun _ => rfl) (fun _ => rfl) (fun _ => rfl))
    (part3 (arr7 m c) _ _ (fun _ => rfl) (win0_11.index t) (index11 t) (fun _ => rfl) (fun _ => rfl) (fun _ => rfl))
    (part3 (arr9 m c) _ _ (fun _ => rfl) (win0_12.index t) (index12 t) (fun _ => rfl) (fun _ => rfl) (fun _ => rfl))
    (part3 (arr10 m c) _ _ (fun _ => rfl) (win0_13.index t) (index13 t) (fun _ => rfl) (fun _ => rfl) (fun _ => rfl)) i j hi hj

/-- What a point writes back is its block of the result. -/
theorem flushed_eq (c : Dev nD) (t : Fin cfg0.N) : (dats m 0 c).flushed 14 t = (win0_14.blk t).view.read (Elt Ideal) (out m c) := by
  rw [flushed14]
  unfold outsAt0
  rw [out_eq]
  funext y
  rw [View.read_apply]
  have hi := index14 t
  have hx := size14 t
  have y0 : (y 0).val < 512 := lt_of_lt_of_eq (y 0).isLt hx.1
  have y1 : (y 1).val < 1024 := lt_of_lt_of_eq (y 1).isLt hx.2
  refine (outsAt_eq m c t (y 0).val (y 1).val y0 y1).trans ?_
  show resultOn _ _ _ _ _ _ _ _ _ _ _ = resultOn _ _ _ _ _ _ _ _ _ (win0_14.index t 0 * 512 + 1 * (y 0).val) (win0_14.index t 1 * 1024 + 1 * (y 1).val)
  rw [hi.1, hi.2, show t.val * 512 + 1 * (y 0).val = 512 * t.val + (y 0).val by omega, show 0 * 1024 + 1 * (y 1).val = (y 1).val by omega]

/-- The point that writes an index of the result. -/
def ptOf (z : S16896x1024.Idx) : Fin cfg0.N := ⟨(z 0).val / 512, by
  have h0 : (z 0).val < 16896 := (z 0).isLt
  have hN : cfg0.N = 33 := N_0
  omega⟩

/-- An index of the result lies in its point's block. -/
theorem mem_blk (z : S16896x1024.Idx) : z ∈ (win0_14.blk (ptOf z)).view.set := by
  show z ∈ ((View.whole main_v0).slice (win0_14.rect (ptOf z))).set
  rw [View.set_slice_whole, Rect.mem_set_unit]
  intro a
  refine (rows_cover z (win0_14.index (ptOf z)) (win0_14.xsize (grid0.coords (ptOf z))) (index14 (ptOf z)) (size14 (ptOf z)) a).imp ?_ ?_
  · exact fun h => match a with | ⟨0, _⟩ => h | ⟨1, _⟩ => h
  · exact fun h => match a with | ⟨0, _⟩ => h | ⟨1, _⟩ => h

/-- The result array ends holding the result. -/
theorem final_out (c : Dev nD) : (dats m 0 c).arrAt 14 cfg0.N = out m c :=
  (dats m 0 c).arrAt_eq_of_cover 14 (out m c) (fun t _ => flushed_eq m c t) (fun z => ⟨ptOf z, flush0_14 _, mem_blk z⟩)

/-- The run, read: the result array at the result, the arguments unchanged. -/
theorem run : θ_run defs (onTc (τ := τ) (main (F := Ideal))) ⟨m, fun _ => 0, ρ⟩ (fun r => ∀ c : Dev nD,
      r.2.mem ((c : Thread nD τ).loc main_v0) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c).1.trans (final_out m c), (h c).2⟩) (run_blocks m ρ)

end Cert.Kernel5Ideal.Hand

end
-- ==== Proof.R5I.Value.lean ====
/- The reference of `post` in the first layer at an index. It is the reference between the first and the last layer, at the stream's
   two arrays below each other and at the weights and the modulation moved up by one layer. -/
module

public import proofs.«01_k».proof.Proof.Gen.Reference5Ideal.Read
public import proofs.«01_k».proof.Proof.R4I.Value

@[expose] public section

set_option maxRecDepth 16384

noncomputable section

namespace Cert.Reference5Ideal.Hand

open Idealize.ShloMosaic Idealize.ShloMosaic.ValueIdx
open Cert.Reference5Ideal Cert.Reference5Ideal.Gen Cert.Reference5Ideal.Read Cert.Post

/-- Layer `n` in the place of layer `n + 1`. -/
def movedUp {a b c : ℕ} (x : (⟨3, ![a, b, c]⟩ : Shape).Idx → EReal) : (⟨3, ![a, b, c]⟩ : Shape).Idx → EReal :=
  fun z => at3 x ((z 0).val - 1) (z 1).val (z 2).val

theorem at3_movedUp {a b c : ℕ} (ha : 1 < a) (x : (⟨3, ![a, b, c]⟩ : Shape).Idx → EReal) : at3 (movedUp x) 1 = at3 x 0 := by
  funext j k
  by_cases h : j < b ∧ k < c
  · rw [at3_eq ha h.1 h.2]; rfl
  · unfold at3
    rw [dif_neg (fun p => h p.2), dif_neg (fun p => h p.2)]

/-- An entry of layer 0 is one of layer 1, moved up. -/
theorem movedUp_of {a b c : ℕ} (x : (⟨3, ![a, b, c]⟩ : Shape).Idx → EReal) (y z : (⟨3, ![a, b, c]⟩ : Shape).Idx) (h0 : (z 0).val = 1 + (y 0).val)
    (h1 : (z 1).val = (y 1).val) (h2 : (z 2).val = (y 2).val) : x y = movedUp x z :=
  at3_of x y (by omega) h1.symm h2.symm

variable (x0 : (⟨S16384x1024, .f32⟩ : BufTy).Contents (Elt Ideal)) (x1 : (⟨S512x1024, .f32⟩ : BufTy).Contents (Elt Ideal))
  (x2 : (⟨S16384x512, .bf16⟩ : BufTy).Contents (Elt Ideal)) (x3 : (⟨S512x512, .bf16⟩ : BufTy).Contents (Elt Ideal))
  (x4 : (⟨S16384x512, .bf16⟩ : BufTy).Contents (Elt Ideal)) (x5 : (⟨S512x512, .bf16⟩ : BufTy).Contents (Elt Ideal))
  (x6 : (⟨S4x1024x1024, .bf16⟩ : BufTy).Contents (Elt Ideal)) (x7 : (⟨S4x8x6144, .f32⟩ : BufTy).Contents (Elt Ideal))
  (x8 : (⟨S1x1024, .f32⟩ : BufTy).Contents (Elt Ideal)) (x9 : (⟨S4x1024x4096, .bf16⟩ : BufTy).Contents (Elt Ideal))
  (x10 : (⟨S4x4096x1024, .bf16⟩ : BufTy).Contents (Elt Ideal))

/-! ## The parts of the arguments that belong to the layer -/

theorem same_v5 : val_main_v5 (F := Ideal) x7 = Cert.Reference4Ideal.Read.val_main_v4 (F := Ideal) (movedUp x7) :=
  funext fun i => (val_main_v5_apply x7 i).trans
    ((movedUp_of x7 (idx_main_v5 i) (Cert.Reference4Ideal.Read.idx_main_v4 i) rfl rfl rfl).trans (Cert.Reference4Ideal.Read.val_main_v4_apply (F := Ideal) (movedUp x7) i).symm)

theorem same_v10 : val_main_v10 (F := Ideal) x7 = Cert.Reference4Ideal.Read.val_main_v9 (F := Ideal) (movedUp x7) :=
  funext fun i => (val_main_v10_apply x7 i).trans
    ((movedUp_of x7 (idx_main_v10 i) (Cert.Reference4Ideal.Read.idx_main_v9 i) rfl rfl rfl).trans (Cert.Reference4Ideal.Read.val_main_v9_apply (F := Ideal) (movedUp x7) i).symm)

theorem same_v20 : val_main_v20 (F := Ideal) x6 = Cert.Reference4Ideal.Read.val_main_v19 (F := Ideal) (movedUp x6) :=
  funext fun i => (val_main_v20_apply x6 i).trans
    ((movedUp_of x6 (idx_main_v20 i) (Cert.Reference4Ideal.Read.idx_main_v19 i) rfl rfl rfl).trans (Cert.Reference4Ideal.Read.val_main_v19_apply (F := Ideal) (movedUp x6) i).symm)

theorem same_v44 : val_main_v44 (F := Ideal) x9 = Cert.Reference4Ideal.Read.val_main_v43 (F := Ideal) (movedUp x9) :=
  funext fun i => (val_main_v44_apply x9 i).trans
    ((movedUp_of x9 (idx_main_v44 i) (Cert.Reference4Ideal.Read.idx_main_v43 i) rfl rfl rfl).trans (Cert.Reference4Ideal.Read.val_main_v43_apply (F := Ideal) (movedUp x9) i).symm)

theorem same_v50 : val_main_v50 (F := Ideal) x10 = Cert.Reference4Ideal.Read.val_main_v49 (F := Ideal) (movedUp x10) :=
  funext fun i => (val_main_v50_apply x10 i).trans
    ((movedUp_of x10 (idx_main_v50 i) (Cert.Reference4Ideal.Read.idx_main_v49 i) rfl rfl rfl).trans (Cert.Reference4Ideal.Read.val_main_v49_apply (F := Ideal) (movedUp x10) i).symm)

/-! ## The computation is the same -/

theorem same_v13 : val_main_v13 (F := Ideal) x7 = Cert.Reference4Ideal.Read.val_main_v12 (F := Ideal) (movedUp x7) := by
  unfold val_main_v13 val_main_v9 val_main_v8 val_main_v7 val_main_v6 val_main_v12 val_main_v11
  rw [same_v5, same_v10]
  rfl

theorem same_v25 : val_main_v25 (F := Ideal) x0 x1 x2 x3 x4 x5 x6 x7
    = Cert.Reference4Ideal.Read.val_main_v24 (F := Ideal) (val_main_v0 (F := Ideal) x0 x1) x2 x3 x4 x5 (movedUp x6) (movedUp x7) := by
  unfold val_main_v25 val_main_v24 val_main_v16 val_main_v23 val_main_v22 val_main_v21
  rw [same_v13, same_v20]
  rfl

theorem same_v43 : val_main_v43 (F := Ideal) x0 x1 x2 x3 x4 x5 x6 x7 x8
    = Cert.Reference4Ideal.Read.val_main_v42 (F := Ideal) (val_main_v0 (F := Ideal) x0 x1) x2 x3 x4 x5 (movedUp x6) (movedUp x7) x8 := by
  unfold val_main_v43 val_main_v42 val_main_v41 val_main_v39 val_main_v35 val_main_v34 val_main_v33 val_main_v32 val_main_v30 val_main_v28
    val_main_v27 val_main_v26 val_main_v18 val_main_v17
  rw [same_v25, same_v13]
  rfl

theorem same_v55 : val_main_v55 (F := Ideal) x0 x1 x2 x3 x4 x5 x6 x7 x8 x9 x10
    = Cert.Reference4Ideal.Read.val_main_v54 (F := Ideal) (val_main_v0 (F := Ideal) x0 x1) x2 x3 x4 x5 (movedUp x6) (movedUp x7) x8 (movedUp x9) (movedUp x10) := by
  unfold val_main_v55 val_main_v54 val_main_v53 val_main_v52 val_main_v51 val_main_v49 val_main_v48 val_main_v47 val_main_v46 val_main_v45 val_main_v19
  rw [same_v25, same_v43, same_v13, same_v44, same_v50]
  rfl

/-- The result at an index. -/
theorem read_v55 (i : S16896x1024.Idx) :
    val_main_v55 (F := Ideal) x0 x1 x2 x3 x4 x5 x6 x7 x8 x9 x10 i = resultOn 0 (stacked x0 x1) (stacked x2 x3) (stacked x4 x5) x6 x7 x8 x9 x10 (i 0).val (i 1).val := by
  have h1 : (i 1).val < 1024 := (i 1).isLt
  rw [same_v55, Cert.Reference4Ideal.Hand.read_v54]
  unfold resultOn layerRow
  simp only [at3_movedUp (show 1 < 4 by decide)]
  refine row_congr (fun k hk => ?_) (fun _ _ => rfl) (fun _ _ => rfl) (fun _ _ => rfl) (fun _ _ => rfl) (fun _ _ => rfl) (fun _ _ => rfl)
    (fun _ _ _ _ => rfl) (fun _ _ _ _ => rfl) (fun _ _ _ _ => rfl) _ h1
  rw [at2_eq (show (i 0).val < 16896 from (i 0).isLt) hk]
  exact stacked_apply x0 x1 _ rfl _

end Cert.Reference5Ideal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.K.Frame
public import proofs.«01_k».proof.Proof.KI.Launch
public import proofs.«01_k».proof.Proof.KI.Result
public import proofs.«01_k».proof.Proof.RI.Value
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.K2I.Launch
public import proofs.«01_k».proof.Proof.R2I.Value
public import proofs.«01_k».proof.Proof.Finite
public import proofs.«01_k».proof.Proof.K3.Frame
public import proofs.«01_k».proof.Proof.K3I.Result
public import proofs.«01_k».proof.Proof.R3I.Finite
public import Idealize.ShloMosaic.Adequacy
public import Idealize.ShloMosaic.Init
public import proofs.«01_k».proof.Proof.K4I.Launch
public import proofs.«01_k».proof.Proof.R4I.Value
public import proofs.«01_k».proof.Proof.K5I.Launch
public import proofs.«01_k».proof.Proof.R5I.Value

@[expose] public section

noncomputable section

namespace Cert.Proof

open Idealize.ShloMosaic Idealize.SL.Sem Cert.Kernel

/-- The reference's frame, from its run. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m g)

/-- The two programs' results agree at every index, when the entries they read are real numbers. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : Cert.Pre_KernelIdeal_finite m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_main_v70 m' c = Cert.KernelIdeal.Hand.result m c := by
  obtain ⟨hX, hY⟩ := Cert.Agree.reads_of_finite _ _ _ _ (hm c)
  rw [Cert.ReferenceIdeal.Read.val_main_v70_eq, h0, h2, h3]
  funext i
  exact (Cert.ReferenceIdeal.Hand.read_v70 hX hY _ i).trans (Cert.KernelIdeal.Hand.result_apply m c hX hY i).symm

/-- The kernel and the reference end with equal results. -/
theorem algebraic : Cert.algebraic_KernelIdeal_ReferenceIdeal_pre_finite := fun m g m' g' hm ha =>
  ⟨fun c => Cert.KernelIdeal.Hand.result m c, Cert.KernelIdeal.Hand.run m g,
    (θ_run (Cert.ReferenceIdeal.defs (F := Ideal)) _ _).mono
      (fun r h c => ⟨(h c).1.trans (results_agree m m' c hm (ha c).1 (ha c).2.2.1 (ha c).2.2.2), (h c).2⟩)
      (Cert.ReferenceIdeal.Value.run (F := Ideal) m' g')⟩

/-- The second reference's frame, from its run. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0) :=
  (θ_run (Cert.Reference2Ideal.defs (F := Ideal)) _ _).mono
    (fun r h => And.intro (fun c => (h c).2) (Idealize.ShloMosaic.sem_eq_zero_of_no_sems (by decide) r.2))
    (Cert.Reference2Ideal.Value.run (F := Ideal) m g)

/-- The output projection and feed-forward part: the kernel and the reference end with equal results. -/
theorem algebraic2 : Cert.algebraic_Kernel2Ideal_Reference2Ideal := fun m g m' g' _ ha =>
  ⟨fun c => Cert.Kernel2Ideal.Hand.out m c, Cert.Kernel2Ideal.Hand.run m g,
    (θ_run (Cert.Reference2Ideal.defs (F := Ideal)) _ _).mono
      (fun r h c => ⟨(h c).1.trans (by
        obtain ⟨h0, h1, h2, h3, h4, h5, h6, h7⟩ := ha c
        rw [Cert.Reference2Ideal.Read.val_main_v53_eq, h0, h1, h2, h3, h4, h5, h6, h7]
        funext z
        exact Cert.Reference2Ideal.Hand.read_v53 _ _ _ _ _ _ _ _ z), (h c).2⟩)
      (Cert.Reference2Ideal.Value.run (F := Ideal) m' g')⟩

/-- The third reference's frame, from its run. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run (Cert.Reference3Ideal.defs (F := Ideal)) _ _).mono
    (fun r h => And.intro (fun c => (h c).2) (Idealize.ShloMosaic.sem_eq_zero_of_no_sems (by decide) r.2))
    (Cert.Reference3Ideal.Value.run (F := Ideal) m g)

/-- The latent attention: the kernel and the reference end with equal results, when the queries and keys are real numbers. -/
theorem algebraic3 : Cert.algebraic_Kernel3Ideal_Reference3Ideal_pre_finite3 := fun m g m' g' hm ha =>
  ⟨fun c => Cert.Kernel3Ideal.Hand.result m c, Cert.Kernel3Ideal.Hand.run m g,
    (θ_run (Cert.Reference3Ideal.defs (F := Ideal)) _ _).mono
      (fun r h c => ⟨(h c).1.trans (by
        have hE := Cert.Reference3Ideal.Hand.reads_allEntries (m ((c.tc : Thread Cert.Kernel3Ideal.nD Cert.Kernel3Ideal.τ).loc Cert.Kernel3Ideal.main_arg0))
        have hX := Cert.Reference3Ideal.Hand.real_of_finite _ _ (hm c)
        rw [Cert.Reference3Ideal.Read.val_main_v31_eq, (ha c).1]
        funext i
        exact (Cert.Reference3Ideal.Hand.value hE hX i).trans (Cert.Kernel3Ideal.Hand.result_apply m c hE hX i).symm), (h c).2⟩)
      (Cert.Reference3Ideal.Value.run (F := Ideal) m' g')⟩

/-- The fourth reference's frame, from its run. -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0) :=
  (θ_run (Cert.Reference4Ideal.defs (F := Ideal)) _ _).mono
    (fun r h => And.intro (fun c => (h c).2) (Idealize.ShloMosaic.sem_eq_zero_of_no_sems (by decide) r.2))
    (Cert.Reference4Ideal.Value.run (F := Ideal) m g)

/-- The same part between the first and the last layer: the kernel and the reference end with equal results. -/
theorem algebraic4 : Cert.algebraic_Kernel4Ideal_Reference4Ideal := fun m g m' g' _ ha =>
  ⟨fun c => Cert.Kernel4Ideal.Hand.out m c, Cert.Kernel4Ideal.Hand.run m g,
    (θ_run (Cert.Reference4Ideal.defs (F := Ideal)) _ _).mono
      (fun r h c => ⟨(h c).1.trans (by
        obtain ⟨h0, h1, h2, h3, h4, h5, h6, h7, h8, h9⟩ := ha c
        rw [Cert.Reference4Ideal.Read.val_main_v54_eq, h0, h1, h2, h3, h4, h5, h6, h7, h8, h9]
        funext z
        exact Cert.Reference4Ideal.Hand.read_v54 _ _ _ _ _ _ _ _ _ _ z), (h c).2⟩)
      (Cert.Reference4Ideal.Value.run (F := Ideal) m' g')⟩

/-- The fifth reference's frame, from its run. -/
theorem reference5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0) :=
  (θ_run (Cert.Reference5Ideal.defs (F := Ideal)) _ _).mono
    (fun r h => And.intro (fun c => (h c).2) (Idealize.ShloMosaic.sem_eq_zero_of_no_sems (by decide) r.2))
    (Cert.Reference5Ideal.Value.run (F := Ideal) m g)

/-- The same part of the first layer: the kernel and the reference end with equal results. -/
theorem algebraic5 : Cert.algebraic_Kernel5Ideal_Reference5Ideal := fun m g m' g' _ ha =>
  ⟨fun c => Cert.Kernel5Ideal.Hand.out m c, Cert.Kernel5Ideal.Hand.run m g,
    (θ_run (Cert.Reference5Ideal.defs (F := Ideal)) _ _).mono
      (fun r h c => ⟨(h c).1.trans (by
        obtain ⟨h0, h1, h2, h3, h4, h5, h6, h7, h8, h9, h10⟩ := ha c
        rw [Cert.Reference5Ideal.Read.val_main_v55_eq, h0, h1, h2, h3, h4, h5, h6, h7, h8, h9, h10]
        funext z
        exact Cert.Reference5Ideal.Hand.read_v55 _ _ _ _ _ _ _ _ _ _ _ z), (h c).2⟩)
      (Cert.Reference5Ideal.Value.run (F := Ideal) m' g')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_finite3.Gen.facts,
  Cert.Kernel.Hand.frame,
  fun m g _ => Cert.KernelIdeal.Hand.frame m g,
  fun m g _ => Cert.KernelIdeal.Hand.frame m g,
  fun m g _ => reference_frame m g,
  fun m g _ => reference_frame m g,
  fun m g _ => Cert.Kernel2.Gen.frame m g,
  fun m g _ => Cert.Kernel2Ideal.Gen.frame m g,
  fun m g _ => reference2_frame m g,
  Cert.Kernel3.Hand.frame,
  fun m g _ => Cert.Kernel3Ideal.Hand.frame m g,
  fun m g _ => Cert.Kernel3Ideal.Hand.frame m g,
  fun m g _ => reference3_frame m g,
  fun m g _ => reference3_frame m g,
  fun m g _ => Cert.Kernel4.Gen.frame m g,
  fun m g _ => Cert.Kernel4Ideal.Gen.frame m g,
  fun m g _ => reference4_frame m g,
  fun m g _ => Cert.Kernel5.Gen.frame m g,
  fun m g _ => Cert.Kernel5Ideal.Gen.frame m g,
  fun m g _ => reference5_frame m g,
  trivial,
  algebraic,
  trivial,
  algebraic2,
  trivial,
  algebraic3,
  trivial,
  algebraic4,
  trivial,
  algebraic5⟩

end Cert.Proof

end
